-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![4096, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![4096, 4096]⟩ (Layout.meshBlock [2, 4, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.blockN ⟨2, ![256, 4096]⟩ ⟨2, ![1024, 4096]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S_ : Shape := ⟨0, ![]⟩
abbrev S1024x512 : Shape := ⟨2, ![1024, 512]⟩
abbrev S4x256x1024 : Shape := ⟨3, ![4, 256, 1024]⟩
abbrev S256x4096 : Shape := ⟨2, ![256, 4096]⟩
abbrev S4x4x256x128 : Shape := ⟨4, ![4, 4, 256, 128]⟩
abbrev S4x8x256x128 : Shape := ⟨4, ![4, 8, 256, 128]⟩
abbrev S4x256x128 : Shape := ⟨3, ![4, 256, 128]⟩
abbrev S4x3 : Shape := ⟨2, ![4, 3]⟩
abbrev S4x4 : Shape := ⟨2, ![4, 4]⟩
abbrev S1x256x1024 : Shape := ⟨3, ![1, 256, 1024]⟩
abbrev S256x1024 : Shape := ⟨2, ![256, 1024]⟩
abbrev S1024x128 : Shape := ⟨2, ![1024, 128]⟩
abbrev S256x128 : Shape := ⟨2, ![256, 128]⟩
abbrev S1x1x256x128 : Shape := ⟨4, ![1, 1, 256, 128]⟩
abbrev S1x1 : Shape := ⟨2, ![1, 1]⟩
abbrev S1x256x128 : Shape := ⟨3, ![1, 256, 128]⟩

abbrev nBuf : Space → Nat
  | .hbm => 31
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1024x512, .f32⟩
  | .hbm, ⟨28, _⟩ => ⟨S1024x1024, .f32⟩
  | .hbm, ⟨29, _⟩ => ⟨S4x256x1024, .f32⟩
  | .hbm, ⟨30, _⟩ => ⟨S256x4096, .f32⟩
  | .local _ .vmem, ⟨0, _⟩ => ⟨S4x256x1024, .f32⟩
  | .local _ .vmem, ⟨1, _⟩ => ⟨S1024x512, .f32⟩
  | .local _ .vmem, ⟨2, _⟩ => ⟨S256x4096, .f32⟩
  | .local _ .vmem, ⟨3, _⟩ => ⟨S4x4x256x128, .f32⟩
  | .local _ .vmem, ⟨4, _⟩ => ⟨S4x8x256x128, .f32⟩
  | .local _ .vmem, ⟨5, _⟩ => ⟨S4x256x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  (ofTc nBuf bufTy 1 91 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_c_7 : Ref sig .tc := ⟨.hbm, 23, rfl⟩
abbrev main_v14 : Ref sig .tc := ⟨.hbm, 24, rfl⟩
abbrev main_v15 : Ref sig .tc := ⟨.hbm, 25, rfl⟩
abbrev main_c_8 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_43 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_42 : BitVec 32 := 16#32
  let v69 : BitVec 32 := Scalar.muli v2 c16_i32_42
  let v70 : BitVec 32 := Scalar.addi c0_i32_43 v69
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_44 : BitVec 32 := 4#32
  let v71 : BitVec 32 := Scalar.muli v5 c4_i32_44
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v12 : BitVec 32 := Scalar.addi v8 c4_i32_2
  let c1_i32_3 : BitVec 32 := 1#32
  let v13 : BitVec 32 := Scalar.subi v12 c1_i32_3
  let c4_i32_4 : BitVec 32 := 4#32
  let c0_i32_5 : BitVec 32 := 0#32
  let v14 : BitVec 1 := Scalar.cmpi .eq c4_i32_4 c0_i32_5
  let c1_i32_6 : BitVec 32 := 1#32
  let v15 : BitVec 32 := Scalar.select v14 c1_i32_6 c4_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c1_i32_45 : BitVec 32 := 1#32
  let v73 : BitVec 32 := Scalar.muli v23 c1_i32_45
  let v74 : BitVec 32 := Scalar.addi v72 v73
  v74.toNat
def k0_dev2 (d0 : Dev nD) : Nat :=
  let c0_i32_48 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v75 : BitVec 32 := Scalar.muli v2 c16_i32_47
  let v76 : BitVec 32 := Scalar.addi c0_i32_48 v75
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_49 : BitVec 32 := 4#32
  let v77 : BitVec 32 := Scalar.muli v5 c4_i32_49
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_50 : BitVec 32 := 1#32
  let v79 : BitVec 32 := Scalar.muli v34 c1_i32_50
  let v80 : BitVec 32 := Scalar.addi v78 v79
  v80.toNat
def k0_dev3 (d0 : Dev nD) : Nat :=
  let c0_i32_53 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_52 : BitVec 32 := 16#32
  let v81 : BitVec 32 := Scalar.muli v48 c16_i32_52
  let v82 : BitVec 32 := Scalar.addi c0_i32_53 v81
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_54 : BitVec 32 := 4#32
  let v83 : BitVec 32 := Scalar.muli v51 c4_i32_54
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v85 : BitVec 32 := Scalar.muli v8 c1_i32_55
  let v86 : BitVec 32 := Scalar.addi v84 v85
  v86.toNat
def k0_dev4 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_57 : BitVec 32 := 16#32
  let v87 : BitVec 32 := Scalar.muli v64 c16_i32_57
  let v88 : BitVec 32 := Scalar.addi c0_i32_58 v87
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_59 : BitVec 32 := 4#32
  let v89 : BitVec 32 := Scalar.muli v67 c4_i32_59
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v91 : BitVec 32 := Scalar.muli v8 c1_i32_60
  let v92 : BitVec 32 := Scalar.addi v90 v91
  v92.toNat
def k0_off1 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_62 : BitVec 32 := 4#32
  let v93 : BitVec 32 := Scalar.addi v8 c4_i32_62
  let c1_i32_63 : BitVec 32 := 1#32
  let v94 : BitVec 32 := Scalar.subi v93 c1_i32_63
  let c4_i32_64 : BitVec 32 := 4#32
  let c0_i32_65 : BitVec 32 := 0#32
  let v95 : BitVec 1 := Scalar.cmpi .eq c4_i32_64 c0_i32_65
  let c1_i32_66 : BitVec 32 := 1#32
  let v96 : BitVec 32 := Scalar.select v95 c1_i32_66 c4_i32_64
  let v97 : BitVec 32 := Scalar.remsi v94 v96
  let c0_i32_68 : BitVec 32 := 0#32
  let v99 : BitVec 1 := Scalar.cmpi .slt v97 c0_i32_68
  let c0_i32_69 : BitVec 32 := 0#32
  let v100 : BitVec 1 := Scalar.cmpi .slt v96 c0_i32_69
  let v101 : BitVec 1 := Scalar.xori v99 v100
  let c0_i32_67 : BitVec 32 := 0#32
  let v98 : BitVec 1 := Scalar.cmpi .ne v97 c0_i32_67
  let v102 : BitVec 1 := Scalar.andi v101 v98
  let v103 : BitVec 32 := Scalar.addi v97 v96
  let v104 : BitVec 32 := Scalar.select v102 v103 v97
  let v105 : Index := Scalar.indexCast v104
  let c0 : Index := 0#32
  let c0_70 : Index := 0#32
  ![v105.toNat, 0, 0]
def k0_dev5 (d0 : Dev nD) : Nat :=
  let c0_i32_86 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_85 : BitVec 32 := 16#32
  let v114 : BitVec 32 := Scalar.muli v2 c16_i32_85
  let v115 : BitVec 32 := Scalar.addi c0_i32_86 v114
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_87 : BitVec 32 := 4#32
  let v116 : BitVec 32 := Scalar.muli v5 c4_i32_87
  let v117 : BitVec 32 := Scalar.addi v115 v116
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_88 : BitVec 32 := 1#32
  let v118 : BitVec 32 := Scalar.muli v34 c1_i32_88
  let v119 : BitVec 32 := Scalar.addi v117 v118
  v119.toNat
def k0_dev6 (d0 : Dev nD) : Nat :=
  let c0_i32_109 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_108 : BitVec 32 := 16#32
  let v137 : BitVec 32 := Scalar.muli v2 c16_i32_108
  let v138 : BitVec 32 := Scalar.addi c0_i32_109 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_110 : BitVec 32 := 4#32
  let v139 : BitVec 32 := Scalar.muli v5 c4_i32_110
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_111 : BitVec 32 := 1#32
  let v141 : BitVec 32 := Scalar.muli v34 c1_i32_111
  let v142 : BitVec 32 := Scalar.addi v140 v141
  v142.toNat
def k0_dev7 (d0 : Dev nD) : Nat :=
  let c0_i32_132 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_131 : BitVec 32 := 16#32
  let v160 : BitVec 32 := Scalar.muli v2 c16_i32_131
  let v161 : BitVec 32 := Scalar.addi c0_i32_132 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_133 : BitVec 32 := 4#32
  let v162 : BitVec 32 := Scalar.muli v5 c4_i32_133
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_134 : BitVec 32 := 1#32
  let v164 : BitVec 32 := Scalar.muli v34 c1_i32_134
  let v165 : BitVec 32 := Scalar.addi v163 v164
  v165.toNat
def k0_dev8 (d0 : Dev nD) : Nat :=
  let c0_i32_154 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_153 : BitVec 32 := 16#32
  let v183 : BitVec 32 := Scalar.muli v2 c16_i32_153
  let v184 : BitVec 32 := Scalar.addi c0_i32_154 v183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v185 : BitVec 32 := Scalar.muli v5 c4_i32_155
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_156 : BitVec 32 := 1#32
  let v187 : BitVec 32 := Scalar.muli v34 c1_i32_156
  let v188 : BitVec 32 := Scalar.addi v186 v187
  v188.toNat
def k0_off2 (d0 : Dev nD) (c0_i32_163 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8_i32_161 : BitVec 32 := 8#32
  let v197 : BitVec 32 := Scalar.addi v8 c8_i32_161
  let c2_i32_162 : BitVec 32 := 2#32
  let v198 : BitVec 32 := Scalar.subi v197 c2_i32_162
  let v199 : BitVec 32 := Scalar.subi v198 c0_i32_163
  let c4_i32_164 : BitVec 32 := 4#32
  let c0_i32_165 : BitVec 32 := 0#32
  let v200 : BitVec 1 := Scalar.cmpi .eq c4_i32_164 c0_i32_165
  let c1_i32_166 : BitVec 32 := 1#32
  let v201 : BitVec 32 := Scalar.select v200 c1_i32_166 c4_i32_164
  let v202 : BitVec 32 := Scalar.remsi v199 v201
  let c0_i32_168 : BitVec 32 := 0#32
  let v204 : BitVec 1 := Scalar.cmpi .slt v202 c0_i32_168
  let c0_i32_169 : BitVec 32 := 0#32
  let v205 : BitVec 1 := Scalar.cmpi .slt v201 c0_i32_169
  let v206 : BitVec 1 := Scalar.xori v204 v205
  let c0_i32_167 : BitVec 32 := 0#32
  let v203 : BitVec 1 := Scalar.cmpi .ne v202 c0_i32_167
  let v207 : BitVec 1 := Scalar.andi v206 v203
  let v208 : BitVec 32 := Scalar.addi v202 v201
  let v209 : BitVec 32 := Scalar.select v207 v208 v202
  let v210 : Index := Scalar.indexCast v209
  let c0_170 : Index := 0#32
  let c0_171 : Index := 0#32
  ![v210.toNat, 0, 0]
def k0_dev9 (d0 : Dev nD) : Nat :=
  let c0_i32_251 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_250 : BitVec 32 := 16#32
  let v272 : BitVec 32 := Scalar.muli v2 c16_i32_250
  let v273 : BitVec 32 := Scalar.addi c0_i32_251 v272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_252 : BitVec 32 := 4#32
  let v274 : BitVec 32 := Scalar.muli v5 c4_i32_252
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_253 : BitVec 32 := 1#32
  let v276 : BitVec 32 := Scalar.muli v34 c1_i32_253
  let v277 : BitVec 32 := Scalar.addi v275 v276
  v277.toNat
def k0_dev10 (d0 : Dev nD) : Nat :=
  let c0_i32_307 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_306 : BitVec 32 := 16#32
  let v312 : BitVec 32 := Scalar.muli v2 c16_i32_306
  let v313 : BitVec 32 := Scalar.addi c0_i32_307 v312
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_308 : BitVec 32 := 4#32
  let v314 : BitVec 32 := Scalar.muli v5 c4_i32_308
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_309 : BitVec 32 := 1#32
  let v316 : BitVec 32 := Scalar.muli v34 c1_i32_309
  let v317 : BitVec 32 := Scalar.addi v315 v316
  v317.toNat
def k0_dev11 (d0 : Dev nD) : Nat :=
  let c0_i32_363 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_362 : BitVec 32 := 16#32
  let v352 : BitVec 32 := Scalar.muli v2 c16_i32_362
  let v353 : BitVec 32 := Scalar.addi c0_i32_363 v352
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_364 : BitVec 32 := 4#32
  let v354 : BitVec 32 := Scalar.muli v5 c4_i32_364
  let v355 : BitVec 32 := Scalar.addi v353 v354
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_365 : BitVec 32 := 1#32
  let v356 : BitVec 32 := Scalar.muli v34 c1_i32_365
  let v357 : BitVec 32 := Scalar.addi v355 v356
  v357.toNat
def k0_dev12 (d0 : Dev nD) : Nat :=
  let c0_i32_419 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_418 : BitVec 32 := 16#32
  let v392 : BitVec 32 := Scalar.muli v2 c16_i32_418
  let v393 : BitVec 32 := Scalar.addi c0_i32_419 v392
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_420 : BitVec 32 := 4#32
  let v394 : BitVec 32 := Scalar.muli v5 c4_i32_420
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_421 : BitVec 32 := 1#32
  let v396 : BitVec 32 := Scalar.muli v34 c1_i32_421
  let v397 : BitVec 32 := Scalar.addi v395 v396
  v397.toNat
def k0_dev13 (d0 : Dev nD) : Nat :=
  let c0_i32_516 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_515 : BitVec 32 := 16#32
  let v481 : BitVec 32 := Scalar.muli v2 c16_i32_515
  let v482 : BitVec 32 := Scalar.addi c0_i32_516 v481
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_517 : BitVec 32 := 4#32
  let v483 : BitVec 32 := Scalar.muli v5 c4_i32_517
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_518 : BitVec 32 := 1#32
  let v485 : BitVec 32 := Scalar.muli v34 c1_i32_518
  let v486 : BitVec 32 := Scalar.addi v484 v485
  v486.toNat
def k0_dev14 (d0 : Dev nD) : Nat :=
  let c0_i32_572 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_571 : BitVec 32 := 16#32
  let v521 : BitVec 32 := Scalar.muli v2 c16_i32_571
  let v522 : BitVec 32 := Scalar.addi c0_i32_572 v521
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_573 : BitVec 32 := 4#32
  let v523 : BitVec 32 := Scalar.muli v5 c4_i32_573
  let v524 : BitVec 32 := Scalar.addi v522 v523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_574 : BitVec 32 := 1#32
  let v525 : BitVec 32 := Scalar.muli v34 c1_i32_574
  let v526 : BitVec 32 := Scalar.addi v524 v525
  v526.toNat
def k0_dev15 (d0 : Dev nD) : Nat :=
  let c0_i32_628 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_627 : BitVec 32 := 16#32
  let v561 : BitVec 32 := Scalar.muli v2 c16_i32_627
  let v562 : BitVec 32 := Scalar.addi c0_i32_628 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_629 : BitVec 32 := 4#32
  let v563 : BitVec 32 := Scalar.muli v5 c4_i32_629
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_630 : BitVec 32 := 1#32
  let v565 : BitVec 32 := Scalar.muli v34 c1_i32_630
  let v566 : BitVec 32 := Scalar.addi v564 v565
  v566.toNat
def k0_dev16 (d0 : Dev nD) : Nat :=
  let c0_i32_684 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_683 : BitVec 32 := 16#32
  let v601 : BitVec 32 := Scalar.muli v2 c16_i32_683
  let v602 : BitVec 32 := Scalar.addi c0_i32_684 v601
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_685 : BitVec 32 := 4#32
  let v603 : BitVec 32 := Scalar.muli v5 c4_i32_685
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v24 : BitVec 32 := Scalar.addi v8 c1_i32_10
  let c4_i32_11 : BitVec 32 := 4#32
  let c0_i32_12 : BitVec 32 := 0#32
  let v25 : BitVec 1 := Scalar.cmpi .eq c4_i32_11 c0_i32_12
  let c1_i32_13 : BitVec 32 := 1#32
  let v26 : BitVec 32 := Scalar.select v25 c1_i32_13 c4_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_686 : BitVec 32 := 1#32
  let v605 : BitVec 32 := Scalar.muli v34 c1_i32_686
  let v606 : BitVec 32 := Scalar.addi v604 v605
  v606.toNat
def k0_off3 (d0 : Dev nD) : Fin 4 → Nat :=
  let c0_768 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v688 : Index := Scalar.indexCast v11
  let c0_769 : Index := 0#32
  let c0_770 : Index := 0#32
  ![0, v688.toNat, 0, 0]
def k0_off4 (d0 : Dev nD) (c0_i32_772 : BitVec 32) : Fin 4 → Nat :=
  let c0_i32_780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32_771 : BitVec 32 := 8#32
  let v692 : BitVec 32 := Scalar.addi v11 c8_i32_771
  let v693 : BitVec 32 := Scalar.subi v692 c0_i32_772
  let c8_i32_773 : BitVec 32 := 8#32
  let c0_i32_774 : BitVec 32 := 0#32
  let v694 : BitVec 1 := Scalar.cmpi .eq c8_i32_773 c0_i32_774
  let c1_i32_775 : BitVec 32 := 1#32
  let v695 : BitVec 32 := Scalar.select v694 c1_i32_775 c8_i32_773
  let v696 : BitVec 32 := Scalar.remsi v693 v695
  let c0_i32_777 : BitVec 32 := 0#32
  let v698 : BitVec 1 := Scalar.cmpi .slt v696 c0_i32_777
  let c0_i32_778 : BitVec 32 := 0#32
  let v699 : BitVec 1 := Scalar.cmpi .slt v695 c0_i32_778
  let v700 : BitVec 1 := Scalar.xori v698 v699
  let c0_i32_776 : BitVec 32 := 0#32
  let v697 : BitVec 1 := Scalar.cmpi .ne v696 c0_i32_776
  let v701 : BitVec 1 := Scalar.andi v700 v697
  let v702 : BitVec 32 := Scalar.addi v696 v695
  let v703 : BitVec 32 := Scalar.select v701 v702 v696
  let c0_i32_789 : BitVec 32 := 0#32
  let c0_i32_790 : BitVec 32 := 0#32
  ![0, v703.toNat, 0, 0]
def k0_dev17 (d0 : Dev nD) : Nat :=
  let c0_i32_786 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_785 : BitVec 32 := 16#32
  let v704 : BitVec 32 := Scalar.muli v64 c16_i32_785
  let v705 : BitVec 32 := Scalar.addi c0_i32_786 v704
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_787 : BitVec 32 := 4#32
  let v706 : BitVec 32 := Scalar.muli v67 c4_i32_787
  let v707 : BitVec 32 := Scalar.addi v705 v706
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_788 : BitVec 32 := 1#32
  let v708 : BitVec 32 := Scalar.muli v8 c1_i32_788
  let v709 : BitVec 32 := Scalar.addi v707 v708
  v709.toNat
def k0_off5 (d0 : Dev nD) (c0_i32_793 : BitVec 32) : Fin 4 → Nat :=
  let c0_i32_801 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v718 : BitVec 32 := Scalar.addi v11 c0_i32_793
  let c8_i32_794 : BitVec 32 := 8#32
  let c0_i32_795 : BitVec 32 := 0#32
  let v719 : BitVec 1 := Scalar.cmpi .eq c8_i32_794 c0_i32_795
  let c1_i32_796 : BitVec 32 := 1#32
  let v720 : BitVec 32 := Scalar.select v719 c1_i32_796 c8_i32_794
  let v721 : BitVec 32 := Scalar.remsi v718 v720
  let c0_i32_798 : BitVec 32 := 0#32
  let v723 : BitVec 1 := Scalar.cmpi .slt v721 c0_i32_798
  let c0_i32_799 : BitVec 32 := 0#32
  let v724 : BitVec 1 := Scalar.cmpi .slt v720 c0_i32_799
  let v725 : BitVec 1 := Scalar.xori v723 v724
  let c0_i32_797 : BitVec 32 := 0#32
  let v722 : BitVec 1 := Scalar.cmpi .ne v721 c0_i32_797
  let v726 : BitVec 1 := Scalar.andi v725 v722
  let v727 : BitVec 32 := Scalar.addi v721 v720
  let v728 : BitVec 32 := Scalar.select v726 v727 v721
  let c0_i32_810 : BitVec 32 := 0#32
  let c0_i32_811 : BitVec 32 := 0#32
  ![0, v728.toNat, 0, 0]
def k0_dev18 (d0 : Dev nD) : Nat :=
  let c0_i32_807 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_806 : BitVec 32 := 16#32
  let v729 : BitVec 32 := Scalar.muli v48 c16_i32_806
  let v730 : BitVec 32 := Scalar.addi c0_i32_807 v729
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_808 : BitVec 32 := 4#32
  let v731 : BitVec 32 := Scalar.muli v51 c4_i32_808
  let v732 : BitVec 32 := Scalar.addi v730 v731
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_809 : BitVec 32 := 1#32
  let v733 : BitVec 32 := Scalar.muli v8 c1_i32_809
  let v734 : BitVec 32 := Scalar.addi v732 v733
  v734.toNat
def k0_off6 (d0 : Dev nD) : Fin 4 → Nat :=
  let c1_850 : Index := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v767 : Index := Scalar.indexCast v11
  let c0_851 : Index := 0#32
  let c0_852 : Index := 0#32
  ![1, v767.toNat, 0, 0]
def k0_off7 (d0 : Dev nD) (c0_i32_854 : BitVec 32) : Fin 4 → Nat :=
  let c1_i32_862 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32_853 : BitVec 32 := 8#32
  let v771 : BitVec 32 := Scalar.addi v11 c8_i32_853
  let v772 : BitVec 32 := Scalar.subi v771 c0_i32_854
  let c8_i32_855 : BitVec 32 := 8#32
  let c0_i32_856 : BitVec 32 := 0#32
  let v773 : BitVec 1 := Scalar.cmpi .eq c8_i32_855 c0_i32_856
  let c1_i32_857 : BitVec 32 := 1#32
  let v774 : BitVec 32 := Scalar.select v773 c1_i32_857 c8_i32_855
  let v775 : BitVec 32 := Scalar.remsi v772 v774
  let c0_i32_859 : BitVec 32 := 0#32
  let v777 : BitVec 1 := Scalar.cmpi .slt v775 c0_i32_859
  let c0_i32_860 : BitVec 32 := 0#32
  let v778 : BitVec 1 := Scalar.cmpi .slt v774 c0_i32_860
  let v779 : BitVec 1 := Scalar.xori v777 v778
  let c0_i32_858 : BitVec 32 := 0#32
  let v776 : BitVec 1 := Scalar.cmpi .ne v775 c0_i32_858
  let v780 : BitVec 1 := Scalar.andi v779 v776
  let v781 : BitVec 32 := Scalar.addi v775 v774
  let v782 : BitVec 32 := Scalar.select v780 v781 v775
  let c0_i32_871 : BitVec 32 := 0#32
  let c0_i32_872 : BitVec 32 := 0#32
  ![1, v782.toNat, 0, 0]
def k0_dev19 (d0 : Dev nD) : Nat :=
  let c0_i32_868 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_867 : BitVec 32 := 16#32
  let v783 : BitVec 32 := Scalar.muli v64 c16_i32_867
  let v784 : BitVec 32 := Scalar.addi c0_i32_868 v783
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_869 : BitVec 32 := 4#32
  let v785 : BitVec 32 := Scalar.muli v67 c4_i32_869
  let v786 : BitVec 32 := Scalar.addi v784 v785
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_870 : BitVec 32 := 1#32
  let v787 : BitVec 32 := Scalar.muli v8 c1_i32_870
  let v788 : BitVec 32 := Scalar.addi v786 v787
  v788.toNat
def k0_off8 (d0 : Dev nD) (c0_i32_875 : BitVec 32) : Fin 4 → Nat :=
  let c1_i32_883 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v797 : BitVec 32 := Scalar.addi v11 c0_i32_875
  let c8_i32_876 : BitVec 32 := 8#32
  let c0_i32_877 : BitVec 32 := 0#32
  let v798 : BitVec 1 := Scalar.cmpi .eq c8_i32_876 c0_i32_877
  let c1_i32_878 : BitVec 32 := 1#32
  let v799 : BitVec 32 := Scalar.select v798 c1_i32_878 c8_i32_876
  let v800 : BitVec 32 := Scalar.remsi v797 v799
  let c0_i32_880 : BitVec 32 := 0#32
  let v802 : BitVec 1 := Scalar.cmpi .slt v800 c0_i32_880
  let c0_i32_881 : BitVec 32 := 0#32
  let v803 : BitVec 1 := Scalar.cmpi .slt v799 c0_i32_881
  let v804 : BitVec 1 := Scalar.xori v802 v803
  let c0_i32_879 : BitVec 32 := 0#32
  let v801 : BitVec 1 := Scalar.cmpi .ne v800 c0_i32_879
  let v805 : BitVec 1 := Scalar.andi v804 v801
  let v806 : BitVec 32 := Scalar.addi v800 v799
  let v807 : BitVec 32 := Scalar.select v805 v806 v800
  let c0_i32_892 : BitVec 32 := 0#32
  let c0_i32_893 : BitVec 32 := 0#32
  ![1, v807.toNat, 0, 0]
def k0_dev20 (d0 : Dev nD) : Nat :=
  let c0_i32_889 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_888 : BitVec 32 := 16#32
  let v808 : BitVec 32 := Scalar.muli v48 c16_i32_888
  let v809 : BitVec 32 := Scalar.addi c0_i32_889 v808
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_890 : BitVec 32 := 4#32
  let v810 : BitVec 32 := Scalar.muli v51 c4_i32_890
  let v811 : BitVec 32 := Scalar.addi v809 v810
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_891 : BitVec 32 := 1#32
  let v812 : BitVec 32 := Scalar.muli v8 c1_i32_891
  let v813 : BitVec 32 := Scalar.addi v811 v812
  v813.toNat
def k0_off9 (d0 : Dev nD) : Fin 4 → Nat :=
  let c2_932 : Index := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v846 : Index := Scalar.indexCast v11
  let c0_933 : Index := 0#32
  let c0_934 : Index := 0#32
  ![2, v846.toNat, 0, 0]
def k0_off10 (d0 : Dev nD) (c0_i32_936 : BitVec 32) : Fin 4 → Nat :=
  let c2_i32_944 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32_935 : BitVec 32 := 8#32
  let v850 : BitVec 32 := Scalar.addi v11 c8_i32_935
  let v851 : BitVec 32 := Scalar.subi v850 c0_i32_936
  let c8_i32_937 : BitVec 32 := 8#32
  let c0_i32_938 : BitVec 32 := 0#32
  let v852 : BitVec 1 := Scalar.cmpi .eq c8_i32_937 c0_i32_938
  let c1_i32_939 : BitVec 32 := 1#32
  let v853 : BitVec 32 := Scalar.select v852 c1_i32_939 c8_i32_937
  let v854 : BitVec 32 := Scalar.remsi v851 v853
  let c0_i32_941 : BitVec 32 := 0#32
  let v856 : BitVec 1 := Scalar.cmpi .slt v854 c0_i32_941
  let c0_i32_942 : BitVec 32 := 0#32
  let v857 : BitVec 1 := Scalar.cmpi .slt v853 c0_i32_942
  let v858 : BitVec 1 := Scalar.xori v856 v857
  let c0_i32_940 : BitVec 32 := 0#32
  let v855 : BitVec 1 := Scalar.cmpi .ne v854 c0_i32_940
  let v859 : BitVec 1 := Scalar.andi v858 v855
  let v860 : BitVec 32 := Scalar.addi v854 v853
  let v861 : BitVec 32 := Scalar.select v859 v860 v854
  let c0_i32_953 : BitVec 32 := 0#32
  let c0_i32_954 : BitVec 32 := 0#32
  ![2, v861.toNat, 0, 0]
def k0_dev21 (d0 : Dev nD) : Nat :=
  let c0_i32_950 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_949 : BitVec 32 := 16#32
  let v862 : BitVec 32 := Scalar.muli v64 c16_i32_949
  let v863 : BitVec 32 := Scalar.addi c0_i32_950 v862
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_951 : BitVec 32 := 4#32
  let v864 : BitVec 32 := Scalar.muli v67 c4_i32_951
  let v865 : BitVec 32 := Scalar.addi v863 v864
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_952 : BitVec 32 := 1#32
  let v866 : BitVec 32 := Scalar.muli v8 c1_i32_952
  let v867 : BitVec 32 := Scalar.addi v865 v866
  v867.toNat
def k0_off11 (d0 : Dev nD) (c0_i32_957 : BitVec 32) : Fin 4 → Nat :=
  let c2_i32_965 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v876 : BitVec 32 := Scalar.addi v11 c0_i32_957
  let c8_i32_958 : BitVec 32 := 8#32
  let c0_i32_959 : BitVec 32 := 0#32
  let v877 : BitVec 1 := Scalar.cmpi .eq c8_i32_958 c0_i32_959
  let c1_i32_960 : BitVec 32 := 1#32
  let v878 : BitVec 32 := Scalar.select v877 c1_i32_960 c8_i32_958
  let v879 : BitVec 32 := Scalar.remsi v876 v878
  let c0_i32_962 : BitVec 32 := 0#32
  let v881 : BitVec 1 := Scalar.cmpi .slt v879 c0_i32_962
  let c0_i32_963 : BitVec 32 := 0#32
  let v882 : BitVec 1 := Scalar.cmpi .slt v878 c0_i32_963
  let v883 : BitVec 1 := Scalar.xori v881 v882
  let c0_i32_961 : BitVec 32 := 0#32
  let v880 : BitVec 1 := Scalar.cmpi .ne v879 c0_i32_961
  let v884 : BitVec 1 := Scalar.andi v883 v880
  let v885 : BitVec 32 := Scalar.addi v879 v878
  let v886 : BitVec 32 := Scalar.select v884 v885 v879
  let c0_i32_974 : BitVec 32 := 0#32
  let c0_i32_975 : BitVec 32 := 0#32
  ![2, v886.toNat, 0, 0]
def k0_dev22 (d0 : Dev nD) : Nat :=
  let c0_i32_971 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_970 : BitVec 32 := 16#32
  let v887 : BitVec 32 := Scalar.muli v48 c16_i32_970
  let v888 : BitVec 32 := Scalar.addi c0_i32_971 v887
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_972 : BitVec 32 := 4#32
  let v889 : BitVec 32 := Scalar.muli v51 c4_i32_972
  let v890 : BitVec 32 := Scalar.addi v888 v889
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_973 : BitVec 32 := 1#32
  let v891 : BitVec 32 := Scalar.muli v8 c1_i32_973
  let v892 : BitVec 32 := Scalar.addi v890 v891
  v892.toNat
def k0_off12 (d0 : Dev nD) : Fin 4 → Nat :=
  let c3_1014 : Index := 3#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v925 : Index := Scalar.indexCast v11
  let c0_1015 : Index := 0#32
  let c0_1016 : Index := 0#32
  ![3, v925.toNat, 0, 0]
def k0_off13 (d0 : Dev nD) (c0_i32_1018 : BitVec 32) : Fin 4 → Nat :=
  let c3_i32_1026 : BitVec 32 := 3#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32_1017 : BitVec 32 := 8#32
  let v929 : BitVec 32 := Scalar.addi v11 c8_i32_1017
  let v930 : BitVec 32 := Scalar.subi v929 c0_i32_1018
  let c8_i32_1019 : BitVec 32 := 8#32
  let c0_i32_1020 : BitVec 32 := 0#32
  let v931 : BitVec 1 := Scalar.cmpi .eq c8_i32_1019 c0_i32_1020
  let c1_i32_1021 : BitVec 32 := 1#32
  let v932 : BitVec 32 := Scalar.select v931 c1_i32_1021 c8_i32_1019
  let v933 : BitVec 32 := Scalar.remsi v930 v932
  let c0_i32_1023 : BitVec 32 := 0#32
  let v935 : BitVec 1 := Scalar.cmpi .slt v933 c0_i32_1023
  let c0_i32_1024 : BitVec 32 := 0#32
  let v936 : BitVec 1 := Scalar.cmpi .slt v932 c0_i32_1024
  let v937 : BitVec 1 := Scalar.xori v935 v936
  let c0_i32_1022 : BitVec 32 := 0#32
  let v934 : BitVec 1 := Scalar.cmpi .ne v933 c0_i32_1022
  let v938 : BitVec 1 := Scalar.andi v937 v934
  let v939 : BitVec 32 := Scalar.addi v933 v932
  let v940 : BitVec 32 := Scalar.select v938 v939 v933
  let c0_i32_1035 : BitVec 32 := 0#32
  let c0_i32_1036 : BitVec 32 := 0#32
  ![3, v940.toNat, 0, 0]
def k0_dev23 (d0 : Dev nD) : Nat :=
  let c0_i32_1032 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_1031 : BitVec 32 := 16#32
  let v941 : BitVec 32 := Scalar.muli v64 c16_i32_1031
  let v942 : BitVec 32 := Scalar.addi c0_i32_1032 v941
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_1033 : BitVec 32 := 4#32
  let v943 : BitVec 32 := Scalar.muli v67 c4_i32_1033
  let v944 : BitVec 32 := Scalar.addi v942 v943
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1034 : BitVec 32 := 1#32
  let v945 : BitVec 32 := Scalar.muli v8 c1_i32_1034
  let v946 : BitVec 32 := Scalar.addi v944 v945
  v946.toNat
def k0_off14 (d0 : Dev nD) (c0_i32_1039 : BitVec 32) : Fin 4 → Nat :=
  let c3_i32_1047 : BitVec 32 := 3#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v955 : BitVec 32 := Scalar.addi v11 c0_i32_1039
  let c8_i32_1040 : BitVec 32 := 8#32
  let c0_i32_1041 : BitVec 32 := 0#32
  let v956 : BitVec 1 := Scalar.cmpi .eq c8_i32_1040 c0_i32_1041
  let c1_i32_1042 : BitVec 32 := 1#32
  let v957 : BitVec 32 := Scalar.select v956 c1_i32_1042 c8_i32_1040
  let v958 : BitVec 32 := Scalar.remsi v955 v957
  let c0_i32_1044 : BitVec 32 := 0#32
  let v960 : BitVec 1 := Scalar.cmpi .slt v958 c0_i32_1044
  let c0_i32_1045 : BitVec 32 := 0#32
  let v961 : BitVec 1 := Scalar.cmpi .slt v957 c0_i32_1045
  let v962 : BitVec 1 := Scalar.xori v960 v961
  let c0_i32_1043 : BitVec 32 := 0#32
  let v959 : BitVec 1 := Scalar.cmpi .ne v958 c0_i32_1043
  let v963 : BitVec 1 := Scalar.andi v962 v959
  let v964 : BitVec 32 := Scalar.addi v958 v957
  let v965 : BitVec 32 := Scalar.select v963 v964 v958
  let c0_i32_1056 : BitVec 32 := 0#32
  let c0_i32_1057 : BitVec 32 := 0#32
  ![3, v965.toNat, 0, 0]
def k0_dev24 (d0 : Dev nD) : Nat :=
  let c0_i32_1053 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_1052 : BitVec 32 := 16#32
  let v966 : BitVec 32 := Scalar.muli v48 c16_i32_1052
  let v967 : BitVec 32 := Scalar.addi c0_i32_1053 v966
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_1054 : BitVec 32 := 4#32
  let v968 : BitVec 32 := Scalar.muli v51 c4_i32_1054
  let v969 : BitVec 32 := Scalar.addi v967 v968
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1055 : BitVec 32 := 1#32
  let v970 : BitVec 32 := Scalar.muli v8 c1_i32_1055
  let v971 : BitVec 32 := Scalar.addi v969 v970
  v971.toNat
def k0_dev25 (d0 : Dev nD) : Nat :=
  let c0_i32_1125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_1124 : BitVec 32 := 16#32
  let v1028 : BitVec 32 := Scalar.muli v64 c16_i32_1124
  let v1029 : BitVec 32 := Scalar.addi c0_i32_1125 v1028
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_1126 : BitVec 32 := 4#32
  let v1030 : BitVec 32 := Scalar.muli v67 c4_i32_1126
  let v1031 : BitVec 32 := Scalar.addi v1029 v1030
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1127 : BitVec 32 := 1#32
  let v1032 : BitVec 32 := Scalar.muli v8 c1_i32_1127
  let v1033 : BitVec 32 := Scalar.addi v1031 v1032
  v1033.toNat
def k0_dev26 (d0 : Dev nD) : Nat :=
  let c0_i32_1146 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_1145 : BitVec 32 := 16#32
  let v1053 : BitVec 32 := Scalar.muli v48 c16_i32_1145
  let v1054 : BitVec 32 := Scalar.addi c0_i32_1146 v1053
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_1147 : BitVec 32 := 4#32
  let v1055 : BitVec 32 := Scalar.muli v51 c4_i32_1147
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1148 : BitVec 32 := 1#32
  let v1057 : BitVec 32 := Scalar.muli v8 c1_i32_1148
  let v1058 : BitVec 32 := Scalar.addi v1056 v1057
  v1058.toNat
def k0_dev27 (d0 : Dev nD) : Nat :=
  let c0_i32_1218 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_1217 : BitVec 32 := 16#32
  let v1115 : BitVec 32 := Scalar.muli v64 c16_i32_1217
  let v1116 : BitVec 32 := Scalar.addi c0_i32_1218 v1115
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_1219 : BitVec 32 := 4#32
  let v1117 : BitVec 32 := Scalar.muli v67 c4_i32_1219
  let v1118 : BitVec 32 := Scalar.addi v1116 v1117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1119 : BitVec 32 := Scalar.muli v8 c1_i32_1220
  let v1120 : BitVec 32 := Scalar.addi v1118 v1119
  v1120.toNat
def k0_dev28 (d0 : Dev nD) : Nat :=
  let c0_i32_1239 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_1238 : BitVec 32 := 16#32
  let v1140 : BitVec 32 := Scalar.muli v48 c16_i32_1238
  let v1141 : BitVec 32 := Scalar.addi c0_i32_1239 v1140
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_1240 : BitVec 32 := 4#32
  let v1142 : BitVec 32 := Scalar.muli v51 c4_i32_1240
  let v1143 : BitVec 32 := Scalar.addi v1141 v1142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1241 : BitVec 32 := 1#32
  let v1144 : BitVec 32 := Scalar.muli v8 c1_i32_1241
  let v1145 : BitVec 32 := Scalar.addi v1143 v1144
  v1145.toNat
def k0_dev29 (d0 : Dev nD) : Nat :=
  let c0_i32_1311 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_1310 : BitVec 32 := 16#32
  let v1202 : BitVec 32 := Scalar.muli v64 c16_i32_1310
  let v1203 : BitVec 32 := Scalar.addi c0_i32_1311 v1202
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_1312 : BitVec 32 := 4#32
  let v1204 : BitVec 32 := Scalar.muli v67 c4_i32_1312
  let v1205 : BitVec 32 := Scalar.addi v1203 v1204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1313 : BitVec 32 := 1#32
  let v1206 : BitVec 32 := Scalar.muli v8 c1_i32_1313
  let v1207 : BitVec 32 := Scalar.addi v1205 v1206
  v1207.toNat
def k0_dev30 (d0 : Dev nD) : Nat :=
  let c0_i32_1332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_1331 : BitVec 32 := 16#32
  let v1227 : BitVec 32 := Scalar.muli v48 c16_i32_1331
  let v1228 : BitVec 32 := Scalar.addi c0_i32_1332 v1227
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_1333 : BitVec 32 := 4#32
  let v1229 : BitVec 32 := Scalar.muli v51 c4_i32_1333
  let v1230 : BitVec 32 := Scalar.addi v1228 v1229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1334 : BitVec 32 := 1#32
  let v1231 : BitVec 32 := Scalar.muli v8 c1_i32_1334
  let v1232 : BitVec 32 := Scalar.addi v1230 v1231
  v1232.toNat
def k0_dev31 (d0 : Dev nD) : Nat :=
  let c0_i32_1404 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_1403 : BitVec 32 := 16#32
  let v1289 : BitVec 32 := Scalar.muli v64 c16_i32_1403
  let v1290 : BitVec 32 := Scalar.addi c0_i32_1404 v1289
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_1405 : BitVec 32 := 4#32
  let v1291 : BitVec 32 := Scalar.muli v67 c4_i32_1405
  let v1292 : BitVec 32 := Scalar.addi v1290 v1291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1406 : BitVec 32 := 1#32
  let v1293 : BitVec 32 := Scalar.muli v8 c1_i32_1406
  let v1294 : BitVec 32 := Scalar.addi v1292 v1293
  v1294.toNat
def k0_dev32 (d0 : Dev nD) : Nat :=
  let c0_i32_1425 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_1424 : BitVec 32 := 16#32
  let v1314 : BitVec 32 := Scalar.muli v48 c16_i32_1424
  let v1315 : BitVec 32 := Scalar.addi c0_i32_1425 v1314
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_1426 : BitVec 32 := 4#32
  let v1316 : BitVec 32 := Scalar.muli v51 c4_i32_1426
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1427 : BitVec 32 := 1#32
  let v1318 : BitVec 32 := Scalar.muli v8 c1_i32_1427
  let v1319 : BitVec 32 := Scalar.addi v1317 v1318
  v1319.toNat
def k0_dev33 (d0 : Dev nD) : Nat :=
  let c0_i32_1497 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_1496 : BitVec 32 := 16#32
  let v1376 : BitVec 32 := Scalar.muli v64 c16_i32_1496
  let v1377 : BitVec 32 := Scalar.addi c0_i32_1497 v1376
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_1498 : BitVec 32 := 4#32
  let v1378 : BitVec 32 := Scalar.muli v67 c4_i32_1498
  let v1379 : BitVec 32 := Scalar.addi v1377 v1378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1499 : BitVec 32 := 1#32
  let v1380 : BitVec 32 := Scalar.muli v8 c1_i32_1499
  let v1381 : BitVec 32 := Scalar.addi v1379 v1380
  v1381.toNat
def k0_dev34 (d0 : Dev nD) : Nat :=
  let c0_i32_1518 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_1517 : BitVec 32 := 16#32
  let v1401 : BitVec 32 := Scalar.muli v48 c16_i32_1517
  let v1402 : BitVec 32 := Scalar.addi c0_i32_1518 v1401
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_1519 : BitVec 32 := 4#32
  let v1403 : BitVec 32 := Scalar.muli v51 c4_i32_1519
  let v1404 : BitVec 32 := Scalar.addi v1402 v1403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1520 : BitVec 32 := 1#32
  let v1405 : BitVec 32 := Scalar.muli v8 c1_i32_1520
  let v1406 : BitVec 32 := Scalar.addi v1404 v1405
  v1406.toNat
def k0_dev35 (d0 : Dev nD) : Nat :=
  let c0_i32_1590 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_1589 : BitVec 32 := 16#32
  let v1463 : BitVec 32 := Scalar.muli v64 c16_i32_1589
  let v1464 : BitVec 32 := Scalar.addi c0_i32_1590 v1463
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_1591 : BitVec 32 := 4#32
  let v1465 : BitVec 32 := Scalar.muli v67 c4_i32_1591
  let v1466 : BitVec 32 := Scalar.addi v1464 v1465
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1592 : BitVec 32 := 1#32
  let v1467 : BitVec 32 := Scalar.muli v8 c1_i32_1592
  let v1468 : BitVec 32 := Scalar.addi v1466 v1467
  v1468.toNat
def k0_dev36 (d0 : Dev nD) : Nat :=
  let c0_i32_1611 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_1610 : BitVec 32 := 16#32
  let v1488 : BitVec 32 := Scalar.muli v48 c16_i32_1610
  let v1489 : BitVec 32 := Scalar.addi c0_i32_1611 v1488
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_1612 : BitVec 32 := 4#32
  let v1490 : BitVec 32 := Scalar.muli v51 c4_i32_1612
  let v1491 : BitVec 32 := Scalar.addi v1489 v1490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1613 : BitVec 32 := 1#32
  let v1492 : BitVec 32 := Scalar.muli v8 c1_i32_1613
  let v1493 : BitVec 32 := Scalar.addi v1491 v1492
  v1493.toNat
def k0_dev37 (d0 : Dev nD) : Nat :=
  let c0_i32_1683 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_1682 : BitVec 32 := 16#32
  let v1550 : BitVec 32 := Scalar.muli v64 c16_i32_1682
  let v1551 : BitVec 32 := Scalar.addi c0_i32_1683 v1550
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_1684 : BitVec 32 := 4#32
  let v1552 : BitVec 32 := Scalar.muli v67 c4_i32_1684
  let v1553 : BitVec 32 := Scalar.addi v1551 v1552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1685 : BitVec 32 := 1#32
  let v1554 : BitVec 32 := Scalar.muli v8 c1_i32_1685
  let v1555 : BitVec 32 := Scalar.addi v1553 v1554
  v1555.toNat
def k0_dev38 (d0 : Dev nD) : Nat :=
  let c0_i32_1704 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_1703 : BitVec 32 := 16#32
  let v1575 : BitVec 32 := Scalar.muli v48 c16_i32_1703
  let v1576 : BitVec 32 := Scalar.addi c0_i32_1704 v1575
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_1705 : BitVec 32 := 4#32
  let v1577 : BitVec 32 := Scalar.muli v51 c4_i32_1705
  let v1578 : BitVec 32 := Scalar.addi v1576 v1577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1706 : BitVec 32 := 1#32
  let v1579 : BitVec 32 := Scalar.muli v8 c1_i32_1706
  let v1580 : BitVec 32 := Scalar.addi v1578 v1579
  v1580.toNat
def k0_dev39 (d0 : Dev nD) : Nat :=
  let c0_i32_1776 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_1775 : BitVec 32 := 16#32
  let v1637 : BitVec 32 := Scalar.muli v64 c16_i32_1775
  let v1638 : BitVec 32 := Scalar.addi c0_i32_1776 v1637
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_1777 : BitVec 32 := 4#32
  let v1639 : BitVec 32 := Scalar.muli v67 c4_i32_1777
  let v1640 : BitVec 32 := Scalar.addi v1638 v1639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1778 : BitVec 32 := 1#32
  let v1641 : BitVec 32 := Scalar.muli v8 c1_i32_1778
  let v1642 : BitVec 32 := Scalar.addi v1640 v1641
  v1642.toNat
def k0_dev40 (d0 : Dev nD) : Nat :=
  let c0_i32_1797 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_1796 : BitVec 32 := 16#32
  let v1662 : BitVec 32 := Scalar.muli v48 c16_i32_1796
  let v1663 : BitVec 32 := Scalar.addi c0_i32_1797 v1662
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_1798 : BitVec 32 := 4#32
  let v1664 : BitVec 32 := Scalar.muli v51 c4_i32_1798
  let v1665 : BitVec 32 := Scalar.addi v1663 v1664
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1799 : BitVec 32 := 1#32
  let v1666 : BitVec 32 := Scalar.muli v8 c1_i32_1799
  let v1667 : BitVec 32 := Scalar.addi v1665 v1666
  v1667.toNat
def k0_dev41 (d0 : Dev nD) : Nat :=
  let c0_i32_1869 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_1868 : BitVec 32 := 16#32
  let v1724 : BitVec 32 := Scalar.muli v64 c16_i32_1868
  let v1725 : BitVec 32 := Scalar.addi c0_i32_1869 v1724
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_1870 : BitVec 32 := 4#32
  let v1726 : BitVec 32 := Scalar.muli v67 c4_i32_1870
  let v1727 : BitVec 32 := Scalar.addi v1725 v1726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1871 : BitVec 32 := 1#32
  let v1728 : BitVec 32 := Scalar.muli v8 c1_i32_1871
  let v1729 : BitVec 32 := Scalar.addi v1727 v1728
  v1729.toNat
def k0_dev42 (d0 : Dev nD) : Nat :=
  let c0_i32_1940 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_1939 : BitVec 32 := 16#32
  let v1785 : BitVec 32 := Scalar.muli v48 c16_i32_1939
  let v1786 : BitVec 32 := Scalar.addi c0_i32_1940 v1785
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_1941 : BitVec 32 := 4#32
  let v1787 : BitVec 32 := Scalar.muli v51 c4_i32_1941
  let v1788 : BitVec 32 := Scalar.addi v1786 v1787
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1942 : BitVec 32 := 1#32
  let v1789 : BitVec 32 := Scalar.muli v8 c1_i32_1942
  let v1790 : BitVec 32 := Scalar.addi v1788 v1789
  v1790.toNat
def k0_dev43 (d0 : Dev nD) : Nat :=
  let c0_i32_2012 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_29 : BitVec 32 := 1#32
  let v52 : BitVec 32 := Scalar.addi v11 c1_i32_29
  let c8_i32_30 : BitVec 32 := 8#32
  let c0_i32_31 : BitVec 32 := 0#32
  let v53 : BitVec 1 := Scalar.cmpi .eq c8_i32_30 c0_i32_31
  let c1_i32_32 : BitVec 32 := 1#32
  let v54 : BitVec 32 := Scalar.select v53 c1_i32_32 c8_i32_30
  let v55 : BitVec 32 := Scalar.remsi v52 v54
  let c0_i32_34 : BitVec 32 := 0#32
  let v57 : BitVec 1 := Scalar.cmpi .slt v55 c0_i32_34
  let c0_i32_35 : BitVec 32 := 0#32
  let v58 : BitVec 1 := Scalar.cmpi .slt v54 c0_i32_35
  let v59 : BitVec 1 := Scalar.xori v57 v58
  let c0_i32_33 : BitVec 32 := 0#32
  let v56 : BitVec 1 := Scalar.cmpi .ne v55 c0_i32_33
  let v60 : BitVec 1 := Scalar.andi v59 v56
  let v61 : BitVec 32 := Scalar.addi v55 v54
  let v62 : BitVec 32 := Scalar.select v60 v61 v55
  let c4_i32_36 : BitVec 32 := 4#32
  let v63 : BitVec 1 := Scalar.cmpi .slt v62 c4_i32_36
  let c0_i32_37 : BitVec 32 := 0#32
  let c1_i32_38 : BitVec 32 := 1#32
  let v64 : BitVec 32 := Scalar.select v63 c0_i32_37 c1_i32_38
  let c16_i32_2011 : BitVec 32 := 16#32
  let v1847 : BitVec 32 := Scalar.muli v64 c16_i32_2011
  let v1848 : BitVec 32 := Scalar.addi c0_i32_2012 v1847
  let c4_i32_39 : BitVec 32 := 4#32
  let v65 : BitVec 1 := Scalar.cmpi .slt v62 c4_i32_39
  let c7_i32_40 : BitVec 32 := 7#32
  let v66 : BitVec 32 := Scalar.subi c7_i32_40 v62
  let v67 : BitVec 32 := Scalar.select v65 v62 v66
  let c4_i32_2013 : BitVec 32 := 4#32
  let v1849 : BitVec 32 := Scalar.muli v67 c4_i32_2013
  let v1850 : BitVec 32 := Scalar.addi v1848 v1849
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2014 : BitVec 32 := 1#32
  let v1851 : BitVec 32 := Scalar.muli v8 c1_i32_2014
  let v1852 : BitVec 32 := Scalar.addi v1850 v1851
  v1852.toNat
def k0_dev44 (d0 : Dev nD) : Nat :=
  let c0_i32_2083 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c8_i32 : BitVec 32 := 8#32
  let v35 : BitVec 32 := Scalar.addi v11 c8_i32
  let c1_i32_17 : BitVec 32 := 1#32
  let v36 : BitVec 32 := Scalar.subi v35 c1_i32_17
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_24 : BitVec 32 := 4#32
  let v47 : BitVec 1 := Scalar.cmpi .slt v46 c4_i32_24
  let c0_i32_25 : BitVec 32 := 0#32
  let c1_i32_26 : BitVec 32 := 1#32
  let v48 : BitVec 32 := Scalar.select v47 c0_i32_25 c1_i32_26
  let c16_i32_2082 : BitVec 32 := 16#32
  let v1908 : BitVec 32 := Scalar.muli v48 c16_i32_2082
  let v1909 : BitVec 32 := Scalar.addi c0_i32_2083 v1908
  let c4_i32_27 : BitVec 32 := 4#32
  let v49 : BitVec 1 := Scalar.cmpi .slt v46 c4_i32_27
  let c7_i32_28 : BitVec 32 := 7#32
  let v50 : BitVec 32 := Scalar.subi c7_i32_28 v46
  let v51 : BitVec 32 := Scalar.select v49 v46 v50
  let c4_i32_2084 : BitVec 32 := 4#32
  let v1910 : BitVec 32 := Scalar.muli v51 c4_i32_2084
  let v1911 : BitVec 32 := Scalar.addi v1909 v1910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2085 : BitVec 32 := 1#32
  let v1912 : BitVec 32 := Scalar.muli v8 c1_i32_2085
  let v1913 : BitVec 32 := Scalar.addi v1911 v1912
  v1913.toNat
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ring.Mesh.lean ====
/- The mesh of the kernel: which device sends to which, and at which slot.

   A device's number is `x * 16 + y * 4 + z`. The reduce-scatter runs round the four devices of one
   `(x, y)`; the all-gather runs round the eight devices of one `z`, in the order that walks `y` upwards
   in the first half of the mesh and downwards in the second. -/
module

public import proofs.«01_k».proof.Proof.Gen.KernelIdeal

@[expose] public section

noncomputable section

namespace Cert.Proof.Ring

open Idealize.ShloMosaic Idealize.ShloMosaic.TcCoe
open Cert.KernelIdeal Cert.KernelIdeal.Gen

/-! ## The two rings -/

/-- The place of a device in its reduce-scatter ring. -/
def zIx (c : Dev nD) : Fin 4 := ⟨c.val % 4, Nat.mod_lt _ (by decide)⟩
/-- The place of a device in its all-gather ring. -/
def rIx (c : Dev nD) : Fin 8 :=
  ⟨if c.val < 16 then c.val / 4 % 4 else 7 - c.val / 4 % 4, by split <;> omega⟩
/-- The device of `c`'s reduce-scatter ring at place `z`. -/
def atZ (c : Dev nD) (z : Fin 4) : Dev nD := ⟨c.val / 4 * 4 + z.val, by
  have h : c.val < 32 := c.isLt
  have : (nD : ℕ) = 32 := rfl
  omega⟩
/-- The device of `c`'s all-gather ring at place `o`. -/
def atR (c : Dev nD) (o : Fin 8) : Dev nD :=
  ⟨(if o.val < 4 then o.val * 4 else 16 + (7 - o.val) * 4) + c.val % 4, by
    have : (nD : ℕ) = 32 := rfl
    split <;> omega⟩

def zl (c : Dev nD) : Dev nD := atZ c (zIx c - 1)
def zr (c : Dev nD) : Dev nD := atZ c (zIx c + 1)
def rl (c : Dev nD) : Dev nD := atR c (rIx c - 1)
def rr (c : Dev nD) : Dev nD := atR c (rIx c + 1)

theorem zl_zr (c : Dev nD) : zl (zr c) = c := by revert c; decide +kernel
theorem zr_zl (c : Dev nD) : zr (zl c) = c := by revert c; decide +kernel
theorem rl_rr (c : Dev nD) : rl (rr c) = c := by revert c; decide +kernel
theorem rr_rl (c : Dev nD) : rr (rl c) = c := by revert c; decide +kernel
theorem rIx_rl (c : Dev nD) : rIx (rl c) = rIx c - 1 := by revert c; decide +kernel
theorem rIx_rr (c : Dev nD) : rIx (rr c) = rIx c + 1 := by revert c; decide +kernel
theorem atR_rl (c : Dev nD) (o : Fin 8) : atR (rl c) o = atR c o := by revert c o; decide +kernel
theorem atR_rr (c : Dev nD) (o : Fin 8) : atR (rr c) o = atR c o := by revert c o; decide +kernel
theorem atR_self (c : Dev nD) : atR c (rIx c) = c := by revert c; decide +kernel

/-! ## What the program computes: the devices it names and the slots -/

theorem dev_zl (c : Dev nD) : (⟨k0_dev1 c, k0_dev1_lt c⟩ : Dev nD) = zl c := Fin.ext (by revert c; decide +kernel)
theorem dev_zr (c : Dev nD) : (⟨k0_dev2 c, k0_dev2_lt c⟩ : Dev nD) = zr c := Fin.ext (by revert c; decide +kernel)
theorem dev_rl (c : Dev nD) : (⟨k0_dev3 c, k0_dev3_lt c⟩ : Dev nD) = rl c := Fin.ext (by revert c; decide +kernel)
theorem dev_rr (c : Dev nD) : (⟨k0_dev4 c, k0_dev4_lt c⟩ : Dev nD) = rr c := Fin.ext (by revert c; decide +kernel)

theorem dev5 (c : Dev nD) : (⟨k0_dev5 c, k0_dev5_lt c⟩ : Dev nD) = zr c := Fin.ext (by revert c; decide +kernel)
theorem dev6 (c : Dev nD) : (⟨k0_dev6 c, k0_dev6_lt c⟩ : Dev nD) = zr c := Fin.ext (by revert c; decide +kernel)
theorem dev7 (c : Dev nD) : (⟨k0_dev7 c, k0_dev7_lt c⟩ : Dev nD) = zr c := Fin.ext (by revert c; decide +kernel)
theorem dev8 (c : Dev nD) : (⟨k0_dev8 c, k0_dev8_lt c⟩ : Dev nD) = zr c := Fin.ext (by revert c; decide +kernel)
theorem dev9 (c : Dev nD) : (⟨k0_dev9 c, k0_dev9_lt c⟩ : Dev nD) = zr c := Fin.ext (by revert c; decide +kernel)
theorem dev10 (c : Dev nD) : (⟨k0_dev10 c, k0_dev10_lt c⟩ : Dev nD) = zr c := Fin.ext (by revert c; decide +kernel)
theorem dev11 (c : Dev nD) : (⟨k0_dev11 c, k0_dev11_lt c⟩ : Dev nD) = zr c := Fin.ext (by revert c; decide +kernel)
theorem dev12 (c : Dev nD) : (⟨k0_dev12 c, k0_dev12_lt c⟩ : Dev nD) = zr c := Fin.ext (by revert c; decide +kernel)
theorem dev13 (c : Dev nD) : (⟨k0_dev13 c, k0_dev13_lt c⟩ : Dev nD) = zr c := Fin.ext (by revert c; decide +kernel)
theorem dev14 (c : Dev nD) : (⟨k0_dev14 c, k0_dev14_lt c⟩ : Dev nD) = zr c := Fin.ext (by revert c; decide +kernel)
theorem dev15 (c : Dev nD) : (⟨k0_dev15 c, k0_dev15_lt c⟩ : Dev nD) = zr c := Fin.ext (by revert c; decide +kernel)
theorem dev16 (c : Dev nD) : (⟨k0_dev16 c, k0_dev16_lt c⟩ : Dev nD) = zr c := Fin.ext (by revert c; decide +kernel)
theorem dev17 (c : Dev nD) : (⟨k0_dev17 c, k0_dev17_lt c⟩ : Dev nD) = rr c := Fin.ext (by revert c; decide +kernel)
theorem dev18 (c : Dev nD) : (⟨k0_dev18 c, k0_dev18_lt c⟩ : Dev nD) = rl c := Fin.ext (by revert c; decide +kernel)
theorem dev19 (c : Dev nD) : (⟨k0_dev19 c, k0_dev19_lt c⟩ : Dev nD) = rr c := Fin.ext (by revert c; decide +kernel)
theorem dev20 (c : Dev nD) : (⟨k0_dev20 c, k0_dev20_lt c⟩ : Dev nD) = rl c := Fin.ext (by revert c; decide +kernel)
theorem dev21 (c : Dev nD) : (⟨k0_dev21 c, k0_dev21_lt c⟩ : Dev nD) = rr c := Fin.ext (by revert c; decide +kernel)
theorem dev22 (c : Dev nD) : (⟨k0_dev22 c, k0_dev22_lt c⟩ : Dev nD) = rl c := Fin.ext (by revert c; decide +kernel)
theorem dev23 (c : Dev nD) : (⟨k0_dev23 c, k0_dev23_lt c⟩ : Dev nD) = rr c := Fin.ext (by revert c; decide +kernel)
theorem dev24 (c : Dev nD) : (⟨k0_dev24 c, k0_dev24_lt c⟩ : Dev nD) = rl c := Fin.ext (by revert c; decide +kernel)
theorem dev25 (c : Dev nD) : (⟨k0_dev25 c, k0_dev25_lt c⟩ : Dev nD) = rr c := Fin.ext (by revert c; decide +kernel)
theorem dev26 (c : Dev nD) : (⟨k0_dev26 c, k0_dev26_lt c⟩ : Dev nD) = rl c := Fin.ext (by revert c; decide +kernel)
theorem dev27 (c : Dev nD) : (⟨k0_dev27 c, k0_dev27_lt c⟩ : Dev nD) = rr c := Fin.ext (by revert c; decide +kernel)
theorem dev28 (c : Dev nD) : (⟨k0_dev28 c, k0_dev28_lt c⟩ : Dev nD) = rl c := Fin.ext (by revert c; decide +kernel)
theorem dev29 (c : Dev nD) : (⟨k0_dev29 c, k0_dev29_lt c⟩ : Dev nD) = rr c := Fin.ext (by revert c; decide +kernel)
theorem dev30 (c : Dev nD) : (⟨k0_dev30 c, k0_dev30_lt c⟩ : Dev nD) = rl c := Fin.ext (by revert c; decide +kernel)
theorem dev31 (c : Dev nD) : (⟨k0_dev31 c, k0_dev31_lt c⟩ : Dev nD) = rr c := Fin.ext (by revert c; decide +kernel)
theorem dev32 (c : Dev nD) : (⟨k0_dev32 c, k0_dev32_lt c⟩ : Dev nD) = rl c := Fin.ext (by revert c; decide +kernel)
theorem dev33 (c : Dev nD) : (⟨k0_dev33 c, k0_dev33_lt c⟩ : Dev nD) = rr c := Fin.ext (by revert c; decide +kernel)
theorem dev34 (c : Dev nD) : (⟨k0_dev34 c, k0_dev34_lt c⟩ : Dev nD) = rl c := Fin.ext (by revert c; decide +kernel)
theorem dev35 (c : Dev nD) : (⟨k0_dev35 c, k0_dev35_lt c⟩ : Dev nD) = rr c := Fin.ext (by revert c; decide +kernel)
theorem dev36 (c : Dev nD) : (⟨k0_dev36 c, k0_dev36_lt c⟩ : Dev nD) = rl c := Fin.ext (by revert c; decide +kernel)
theorem dev37 (c : Dev nD) : (⟨k0_dev37 c, k0_dev37_lt c⟩ : Dev nD) = rr c := Fin.ext (by revert c; decide +kernel)
theorem dev38 (c : Dev nD) : (⟨k0_dev38 c, k0_dev38_lt c⟩ : Dev nD) = rl c := Fin.ext (by revert c; decide +kernel)
theorem dev39 (c : Dev nD) : (⟨k0_dev39 c, k0_dev39_lt c⟩ : Dev nD) = rr c := Fin.ext (by revert c; decide +kernel)
theorem dev40 (c : Dev nD) : (⟨k0_dev40 c, k0_dev40_lt c⟩ : Dev nD) = rl c := Fin.ext (by revert c; decide +kernel)
theorem dev41 (c : Dev nD) : (⟨k0_dev41 c, k0_dev41_lt c⟩ : Dev nD) = rr c := Fin.ext (by revert c; decide +kernel)
theorem dev42 (c : Dev nD) : (⟨k0_dev42 c, k0_dev42_lt c⟩ : Dev nD) = rl c := Fin.ext (by revert c; decide +kernel)
theorem dev43 (c : Dev nD) : (⟨k0_dev43 c, k0_dev43_lt c⟩ : Dev nD) = rr c := Fin.ext (by revert c; decide +kernel)
theorem dev44 (c : Dev nD) : (⟨k0_dev44 c, k0_dev44_lt c⟩ : Dev nD) = rl c := Fin.ext (by revert c; decide +kernel)

/-- The offset of slot `o` of column `k` in the landing buffers. -/
abbrev off4 (k : ℕ) (o : Fin 8) : Fin 4 → ℕ := ![k, o.val, 0, 0]

theorem off_own0 (c : Dev nD) : k0_off3 c = off4 0 (rIx c) := by revert c; decide +kernel
theorem off_own1 (c : Dev nD) : k0_off6 c = off4 1 (rIx c) := by revert c; decide +kernel
theorem off_own2 (c : Dev nD) : k0_off9 c = off4 2 (rIx c) := by revert c; decide +kernel
theorem off_own3 (c : Dev nD) : k0_off12 c = off4 3 (rIx c) := by revert c; decide +kernel
theorem off_cw0 (c : Dev nD) (h : Fin 4) : k0_off4 c (BitVec.ofNat 32 h.val) = off4 0 (rIx c - ⟨h.val, by omega⟩) := by revert c h; decide +kernel
theorem off_cw1 (c : Dev nD) (h : Fin 3) : k0_off7 c (BitVec.ofNat 32 h.val) = off4 1 (rIx c - ⟨h.val, by omega⟩) := by revert c h; decide +kernel
theorem off_cw2 (c : Dev nD) (h : Fin 4) : k0_off10 c (BitVec.ofNat 32 h.val) = off4 2 (rIx c - ⟨h.val, by omega⟩) := by revert c h; decide +kernel
theorem off_cw3 (c : Dev nD) (h : Fin 3) : k0_off13 c (BitVec.ofNat 32 h.val) = off4 3 (rIx c - ⟨h.val, by omega⟩) := by revert c h; decide +kernel
theorem off_cc0 (c : Dev nD) (h : Fin 3) : k0_off5 c (BitVec.ofNat 32 h.val) = off4 0 (rIx c + ⟨h.val, by omega⟩) := by revert c h; decide +kernel
theorem off_cc1 (c : Dev nD) (h : Fin 4) : k0_off8 c (BitVec.ofNat 32 h.val) = off4 1 (rIx c + ⟨h.val, by omega⟩) := by revert c h; decide +kernel
theorem off_cc2 (c : Dev nD) (h : Fin 3) : k0_off11 c (BitVec.ofNat 32 h.val) = off4 2 (rIx c + ⟨h.val, by omega⟩) := by revert c h; decide +kernel
theorem off_cc3 (c : Dev nD) (h : Fin 4) : k0_off14 c (BitVec.ofNat 32 h.val) = off4 3 (rIx c + ⟨h.val, by omega⟩) := by revert c h; decide +kernel

theorem off_first (c : Dev nD) : k0_off1 c = ![(zIx c - 1).val, 0, 0] := by revert c; decide +kernel
theorem off_step (c : Dev nD) (s : Fin 3) : k0_off2 c (BitVec.ofNat 32 s.val) = ![(zIx c + 2 - ⟨s.val, by omega⟩).val, 0, 0] := by
  revert c s; decide +kernel

end Cert.Proof.Ring
-- ==== Proof.Ring.Links.lean ====
/- The transfers of the kernel, as a table: for each remote copy its slots, its semaphores, the device it
   goes to, what it carries and when it happens; and the schedule of payments on the semaphores.

   A transfer is one of three lanes, for one of the four column strips `k`: a reduce-scatter step, a
   clockwise hop of the all-gather, a counter-clockwise hop. Every device runs the same sequence, so the
   events of the sequence are numbered once for all devices. -/
module

public import proofs.«01_k».proof.Proof.Ring.Mesh
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.MemrefSat
public import Idealize.ShloMosaic.Lib.Tactic
public import Idealize.ShloMosaic.PureOps
public import Idealize.ShloMosaic.Harness.Basic

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The transfers -/

inductive Lk : Type where
  | rs (k : Fin 4) (s : Fin 3)
  | cw (k : Fin 4) (h : Fin 4)
  | cc (k : Fin 4) (h : Fin 4)
  deriving DecidableEq

namespace Lk

def code : Lk → (Fin 4 × Fin 3) ⊕ (Fin 4 × Fin 4) ⊕ (Fin 4 × Fin 4)
  | rs k s => .inl (k, s)
  | cw k h => .inr (.inl (k, h))
  | cc k h => .inr (.inr (k, h))
def uncode : (Fin 4 × Fin 3) ⊕ (Fin 4 × Fin 4) ⊕ (Fin 4 × Fin 4) → Lk
  | .inl (k, s) => rs k s
  | .inr (.inl (k, h)) => cw k h
  | .inr (.inr (k, h)) => cc k h

def equivCode : Lk ≃ (Fin 4 × Fin 3) ⊕ (Fin 4 × Fin 4) ⊕ (Fin 4 × Fin 4) :=
  ⟨code, uncode, fun l => by cases l <;> rfl, fun x => by rcases x with ⟨_, _⟩ | ⟨_, _⟩ | ⟨_, _⟩ <;> rfl⟩

instance : Fintype Lk := Fintype.ofEquiv _ equivCode.symm

/-- Of the fourth hops of the all-gather a strip uses one: clockwise for the even strips. -/
def used : Lk → Bool
  | rs _ _ => true
  | cw k h => h.val ≠ 3 || k.val % 2 = 0
  | cc k h => h.val ≠ 3 || k.val % 2 = 1

/-- The number of the event at which the transfer is issued. -/
def tS : Lk → ℕ
  | rs k s => match s with
    | 0 => k.val
    | 1 => 4 + 3 * k.val + 2
    | 2 => 16 + 3 * k.val + 2
  | cw k h => match h with
    | 0 => 28 + 4 * k.val + 2
    | 1 => 44 + 6 * k.val + 4
    | 2 => 68 + 6 * k.val + 4
    | 3 => 92 + 5 * k.val + 4
  | cc k h => match h with
    | 0 => 28 + 4 * k.val + 3
    | 1 => 44 + 6 * k.val + 5
    | 2 => 68 + 6 * k.val + 5
    | 3 => 92 + 5 * k.val + 4
/-- The number of the event at which its issuer waits for the source; the wait for what arrives from the
    transfer's peer comes next. -/
def tW : Lk → ℕ
  | rs k s => match s with
    | 0 => 4 + 3 * k.val
    | 1 => 16 + 3 * k.val
    | 2 => 28 + 4 * k.val
  | cw k h => match h with
    | 0 => 44 + 6 * k.val
    | 1 => 68 + 6 * k.val
    | 2 => 92 + 5 * k.val
    | 3 => 112 + 3 * k.val
  | cc k h => match h with
    | 0 => 44 + 6 * k.val + 2
    | 1 => 68 + 6 * k.val + 2
    | 2 => 92 + 5 * k.val + 2
    | 3 => 112 + 3 * k.val

/-- Its strip. -/
def col : Lk → Fin 4
  | rs k _ => k
  | cw k _ => k
  | cc k _ => k
/-- The number of the event after which its strip's slots are read for the result. -/
def tT (l : Lk) : ℕ := 114 + 3 * l.col.val

/-- The numbers of its two semaphores. -/
def sndN : Lk → ℕ
  | rs k s => 3 + 3 * k.val + s.val
  | cw k h => 27 + 4 * k.val + h.val
  | cc k h => 59 + 4 * k.val + h.val
def rcvN : Lk → ℕ
  | rs k s => 15 + 3 * k.val + s.val
  | cw k h => 43 + 4 * k.val + h.val
  | cc k h => 75 + 4 * k.val + h.val

/-- Which payment on the barrier hands over the transfer's destination slot. -/
def lane : Lk → Fin 4
  | rs _ _ => 0
  | cw _ _ => 2
  | cc _ _ => 3

end Lk

theorem snd_lt (l : Lk) : l.sndN < 91 := by
  rcases l with ⟨k, s⟩ | ⟨k, s⟩ | ⟨k, s⟩ <;> simp only [Lk.sndN] <;> omega
theorem rcv_lt (l : Lk) : l.rcvN < 91 := by
  rcases l with ⟨k, s⟩ | ⟨k, s⟩ | ⟨k, s⟩ <;> simp only [Lk.rcvN] <;> omega

abbrev sndS (l : Lk) : DmaSem sig := ⟨l.sndN, snd_lt l⟩
abbrev rcvS (l : Lk) : DmaSem sig := ⟨l.rcvN, rcv_lt l⟩
abbrev barS : Sem sig := barrier0

/-- The transfers the program makes. -/
abbrev links : Finset Lk := Finset.univ.filter fun l => l.used = true
/-- The transfers of one lane. -/
abbrev laneLinks (d : Fin 4) : Finset Lk := links.filter fun l => l.lane = d

/-- The device a transfer of `c` goes to, and the one whose transfer comes to `c`. -/
def dstD : Lk → Dev nD → Dev nD
  | .rs _ _, c => zr c
  | .cw _ _, c => rr c
  | .cc _ _, c => rl c
def srcD : Lk → Dev nD → Dev nD
  | .rs _ _, c => zl c
  | .cw _ _, c => rl c
  | .cc _ _, c => rr c

theorem srcD_dstD (l : Lk) (c : Dev nD) : srcD l (dstD l c) = c := by
  cases l
  exacts [zl_zr c, rl_rr c, rr_rl c]
theorem dstD_srcD (l : Lk) (c : Dev nD) : dstD l (srcD l c) = c := by
  cases l
  exacts [zr_zl c, rr_rl c, rl_rr c]

/-- The devices permuted along a transfer. -/
def along (l : Lk) : Dev nD ≃ Dev nD := ⟨dstD l, srcD l, srcD_dstD l, dstD_srcD l⟩

/-! ## Reading a semaphore's number back -/

def decodeN (n : ℕ) : Option (Bool × Lk) :=
  if n < 3 then none
  else if n < 15 then some (false, .rs ⟨(n - 3) / 3 % 4, by omega⟩ ⟨(n - 3) % 3, by omega⟩)
  else if n < 27 then some (true, .rs ⟨(n - 15) / 3 % 4, by omega⟩ ⟨(n - 15) % 3, by omega⟩)
  else if n < 43 then some (false, .cw ⟨(n - 27) / 4 % 4, by omega⟩ ⟨(n - 27) % 4, by omega⟩)
  else if n < 59 then some (true, .cw ⟨(n - 43) / 4 % 4, by omega⟩ ⟨(n - 43) % 4, by omega⟩)
  else if n < 75 then some (false, .cc ⟨(n - 59) / 4 % 4, by omega⟩ ⟨(n - 59) % 4, by omega⟩)
  else some (true, .cc ⟨(n - 75) / 4 % 4, by omega⟩ ⟨(n - 75) % 4, by omega⟩)

theorem decode_snd (l : Lk) : decodeN l.sndN = some (false, l) := by revert l; decide +kernel
theorem decode_rcv (l : Lk) : decodeN l.rcvN = some (true, l) := by revert l; decide +kernel

/-! ## The cells -/

abbrev barCell (c : Dev nD) : GSem nD τ sig := ((c : Thread nD τ), .reg barS)
abbrev sndCell (l : Lk) (c : Dev nD) : GSem nD τ sig := ((c : Thread nD τ), .dma (sndS l))
abbrev rcvCell (l : Lk) (c : Dev nD) : GSem nD τ sig := ((c : Thread nD τ), .dma (rcvS l))

/-! ## The slots -/

abbrev comm : Memref sig .tc .vmem S4x4x256x128 .f32 := Memref.whole cc0_scratch0
abbrev gath : Memref sig .tc .vmem S4x8x256x128 .f32 := Memref.whole cc0_scratch1
abbrev parts : Memref sig .tc .vmem S4x256x128 .f32 := Memref.whole cc0_scratch2

abbrev InbC (o : Fin 4 → ℕ) : Prop := ∀ a, o a + S1x1x256x128.size a ≤ S4x4x256x128.size a
abbrev InbA (o : Fin 4 → ℕ) : Prop := ∀ a, o a + S1x1x256x128.size a ≤ S4x8x256x128.size a

/-- One slot of the reduce-scatter's buffer, of the all-gather's, of the partial products'. -/
abbrev slotC (o : Fin 4 → ℕ) (h : InbC o) : Memref sig .tc .vmem S1x1x256x128 .f32 :=
  comm.slice (Rect.unit (s := S4x4x256x128) o S1x1x256x128.size h) (fun _ => rfl)
abbrev slotA (o : Fin 4 → ℕ) (h : InbA o) : Memref sig .tc .vmem S1x1x256x128 .f32 :=
  gath.slice (Rect.unit (s := S4x8x256x128) o S1x1x256x128.size h) (fun _ => rfl)
abbrev slotP (o : Fin 3 → ℕ) (h : ∀ a, o a + S1x256x128.size a ≤ S4x256x128.size a) : Memref sig .tc .vmem S1x256x128 .f32 :=
  parts.slice (Rect.unit (s := S4x256x128) o S1x256x128.size h) (fun _ => rfl)

theorem inbC (k : Fin 4) (s : Fin 4) : InbC ![k.val, s.val, 0, 0] := by revert k s; decide +kernel
theorem inbA (k : Fin 4) (o : Fin 8) : InbA (off4 k.val o) := by revert k o; decide +kernel

abbrev cM (k : Fin 4) (s : Fin 4) : Memref sig .tc .vmem S1x1x256x128 .f32 := slotC ![k.val, s.val, 0, 0] (inbC k s)
abbrev aM (k : Fin 4) (o : Fin 8) : Memref sig .tc .vmem S1x1x256x128 .f32 := slotA (off4 k.val o) (inbA k o)

/-- The slot a transfer of `c` reads, and the slot of `c` the incoming transfer writes. -/
def srcM : Lk → Dev nD → Memref sig .tc .vmem S1x1x256x128 .f32
  | .rs k s, _ => cM k ⟨s.val, by omega⟩
  | .cw k h, c => aM k (rIx c - ⟨h.val, by omega⟩)
  | .cc k h, c => aM k (rIx c + ⟨h.val, by omega⟩)
def inM : Lk → Dev nD → Memref sig .tc .vmem S1x1x256x128 .f32
  | .rs k s, _ => cM k ⟨s.val + 1, by omega⟩
  | .cw k h, c => aM k (rIx c - ⟨h.val + 1, by omega⟩)
  | .cc k h, c => aM k (rIx c + ⟨h.val + 1, by omega⟩)

/-- The slot of its destination, as the issuer names it. -/
def outM : Lk → Dev nD → Memref sig .tc .vmem S1x1x256x128 .f32
  | .rs k s, _ => cM k ⟨s.val + 1, by omega⟩
  | .cw k h, c => aM k (rIx c - ⟨h.val, by omega⟩)
  | .cc k h, c => aM k (rIx c + ⟨h.val, by omega⟩)

theorem in_dst (l : Lk) (c : Dev nD) : inM l (dstD l c) = outM l c := by
  rcases l with ⟨k, s⟩ | ⟨k, h⟩ | ⟨k, h⟩
  · rfl
  · show aM k (rIx (rr c) - _) = aM k _
    rw [rIx_rr]; congr 1
    generalize rIx c = r; revert r h; decide +kernel
  · show aM k (rIx (rl c) + _) = aM k _
    rw [rIx_rl]; congr 1
    generalize rIx c = r; revert r h; decide +kernel

/-- The source is lent whole, but for the first hops of the all-gather, which read one slot in both
    directions at once. -/
def share : Lk → PosShare TreeShare
  | .rs _ _ => fullShare
  | .cw _ h => if h.val = 0 then fullShare.left else fullShare
  | .cc _ h => if h.val = 0 then fullShare.right else fullShare

abbrev sq (m : Memref sig .tc .vmem S1x1x256x128 .f32) : Memref sig .tc .vmem S256x128 .f32 :=
  m.squeeze S256x128 squeezes_S1x1x256x128_S256x128

theorem slotA_congr {o o' : Fin 4 → ℕ} (e : o = o') (h : InbA o) (h' : InbA o') : slotA o h = slotA o' h' := by subst e; rfl

/-- What a slot's transfer raises its semaphores by. -/
abbrev N : ℕ := (sq (cM 0 0)).view.dmaCredit
theorem N_pos : 0 < N := View.dmaCredit_pos _ (by decide)

theorem credit_src (l : Lk) (c : Dev nD) : (sq (srcM l c)).view.dmaCredit = N := by cases l <;> rfl
theorem credit_in (l : Lk) (c : Dev nD) : (sq (inM l c)).view.dmaCredit = N := by cases l <;> rfl

/-! ## The values -/

section Values

variable (X : Dev nD → Vec F S4x256x1024 .f32) (Y : Dev nD → Vec F S1024x512 .f32)

abbrev up (a : FVec F S256x128 .f32) : FVec F S1x1x256x128 .f32 := shapeCast S1x1x256x128 a shapeCasts_S256x128_S1x1x256x128
abbrev dn (a : Vec F S1x1x256x128 .f32) : FVec F S256x128 .f32 := shapeCast S256x128 a shapeCasts_S1x1x256x128_S256x128
abbrev up3 (a : FVec F S256x128 .f32) : FVec F S1x256x128 .f32 := shapeCast S1x256x128 a shapeCasts_S256x128_S1x256x128
abbrev dn3 (a : Vec F S1x256x128 .f32) : FVec F S256x128 .f32 := shapeCast S256x128 a shapeCasts_S1x256x128_S256x128
abbrev up34 (a : FVec F S1x256x128 .f32) : FVec F S1x1x256x128 .f32 := shapeCast S1x1x256x128 a shapeCasts_S1x256x128_S1x1x256x128

/-- One product of a block of the left operand with one strip of the right one. -/
def mm (a : Vec F S1x256x1024 .f32) (b : Vec F S1024x128 .f32) : FVec F S256x128 .f32 :=
  matmul dot_S256x1024_S1024x128_S256x128_1_0_0_1_n_n none
    (shapeCast S256x1024 a shapeCasts_S1x256x1024_S256x1024) (shapeCast S1024x128 b shapeCasts_S1024x128_S1024x128)
    (constant S256x128 .f32 0x00000000#32)

def xRd (o : Fin 3 → ℕ) (h : ∀ a, o a + S1x256x1024.size a ≤ S4x256x1024.size a) (x : Vec F S4x256x1024 .f32) : Vec F S1x256x1024 .f32 :=
  fun j => x ((Rect.unit (s := S4x256x1024) o S1x256x1024.size h).emb j)
def yRd (o : Fin 2 → ℕ) (h : ∀ a, o a + S1024x128.size a ≤ S1024x512.size a) (y : Vec F S1024x512 .f32) : Vec F S1024x128 .f32 :=
  fun j => y ((Rect.unit (s := S1024x512) o S1024x128.size h).emb j)

def yOff : Fin 4 → Fin 2 → ℕ
  | 0 => ![0, 0]
  | 1 => ![0, 128]
  | 2 => ![0, 256]
  | 3 => ![0, 384]
theorem yOff_inb (k : Fin 4) : ∀ a, yOff k a + S1024x128.size a ≤ S1024x512.size a := by revert k; decide

/-- The partial product a device starts with, and the one it adds at step `s`. -/
def ctr0 (c : Dev nD) (k : Fin 4) : FVec F S256x128 .f32 := mm (xRd (k0_off1 c) (k0_off1_inb c) (X c)) (yRd (yOff k) (yOff_inb k) (Y c))
def ctr (c : Dev nD) (s : Fin 3) (k : Fin 4) : FVec F S256x128 .f32 :=
  mm (xRd (k0_off2 c (BitVec.ofNat 32 s.val)) (k0_off2_inb c s) (X c)) (yRd (yOff k) (yOff_inb k) (Y c))

/-- The running sum of the reduce-scatter at a device after `s` steps. -/
def acc (k : Fin 4) : ℕ → Dev nD → FVec F S1x1x256x128 .f32
  | 0, c => up (ctr0 X Y c k)
  | s + 1, c => up (addf (dn (acc k s (zl c))) (dn3 (up3 (ctr X Y c ⟨s % 3, Nat.mod_lt _ (by decide)⟩ k))))

/-- What a device's strip `k` is once summed. -/
def tot (k : Fin 4) (c : Dev nD) : FVec F S1x1x256x128 .f32 :=
  up34 (up3 (addf (dn (acc X Y k 2 (zl c))) (dn3 (up3 (ctr X Y c 2 k)))))

def vcw (k : Fin 4) : ℕ → Dev nD → FVec F S1x1x256x128 .f32
  | 0, c => tot X Y k c
  | h + 1, c => vcw k h (rl c)
def vcc (k : Fin 4) : ℕ → Dev nD → FVec F S1x1x256x128 .f32
  | 0, c => tot X Y k c
  | h + 1, c => vcc k h (rr c)

/-- What a transfer of `c` carries. -/
def val : Lk → Dev nD → FVec F S1x1x256x128 .f32
  | .rs k s, c => acc X Y k s.val c
  | .cw k h, c => vcw X Y k h.val c
  | .cc k h, c => vcc X Y k h.val c
/-- What arrives at `c`. -/
abbrev inVal (l : Lk) (c : Dev nD) : FVec F S1x1x256x128 .f32 := val X Y l (srcD l c)

end Values

/-! ## The schedule -/

abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

variable (X : Dev nD → Vec F S4x256x1024 .f32) (Y : Dev nD → Vec F S1024x512 .f32)

/-- A slot of device `c` held at a value; at any value. -/
abbrev own (c : Dev nD) (m : Memref sig .tc .vmem S1x1x256x128 .f32) (q : PosShare TreeShare) (v : Vec F S1x1x256x128 .f32) : sProp 𝕄 :=
  owns (Ix := Unit) (Name := ℕ) (U := UU) (Lvl := ℕ) (c : Thread nD τ) m q v
abbrev ownAny (c : Dev nD) (m : Memref sig .tc .vmem S1x1x256x128 .f32) : sProp 𝕄 := iprop(∃ v, own (F := F) c m fullShare v)

def sndPay (l : Lk) (c : Dev nD) : sProp 𝕄 := own c (srcM l c) (share l) (val X Y l c)
def rcvPay (l : Lk) (c : Dev nD) : sProp 𝕄 := own c (inM l c) fullShare (inVal X Y l c)
/-- A device's own landing slot, and that its arrival semaphore is ready. -/
def inAny (l : Lk) (c : Dev nD) : sProp 𝕄 := iprop(ownAny (F := F) c (inM l c) ∗ reached ER (rcvCell l c) 0)
/-- What device `c` is paid on its barrier by its neighbours: their landing slots for `c`'s transfers. -/
def barPay (c : Dev nD) (d : Fin 4) : sProp 𝕄 := bigSep (laneLinks d) fun l => inAny (F := F) l (dstD l c)

def payD (o : Option (Bool × Lk)) (c : Dev nD) : sProp 𝕄 := match o with
  | some (false, l) => sndPay X Y l c
  | some (true, l) => rcvPay X Y l c
  | none => iprop(emp)
def dutD (o : Option (Bool × Lk)) : Finset (Fin 4) := match o with
  | some (_, l) => if l.used then {0} else ∅
  | none => ∅

def sched : Rounds.Schedule (GSem nD τ sig) (Fin 4) 𝕄 where
  duties g r := if r = 0 ∧ g.1.2 = .tc then (match g.2 with
    | .reg s => if s = barS then Finset.univ else ∅
    | .dma s => dutD (decodeN s.val)) else ∅
  unitless _ := False
  amount g _ _ := match g.2 with | .reg _ => 1 | .dma _ => N
  payload g _ d := match g.2 with | .reg _ => barPay g.1.1 d | .dma s => payD X Y (decodeN s.val) g.1.1
  amount_pos g _ _ _ := by
    rcases g with ⟨_, s | s⟩
    · exact Nat.one_pos
    · exact N_pos

instance payD_storable (o : Option (Bool × Lk)) (c : Dev nD) : BI.Storable (upEmb : UEmb _ 𝕄) (payD X Y o c) := by
  rcases o with _ | ⟨_ | _, l⟩
  · exact inferInstanceAs (BI.Storable upEmb iprop(emp))
  · show BI.Storable upEmb (sndPay X Y l c); unfold sndPay; infer_instance
  · show BI.Storable upEmb (rcvPay X Y l c); unfold rcvPay; infer_instance
instance barPay_storable (c : Dev nD) (d : Fin 4) : BI.Storable (upEmb : UEmb _ 𝕄) (barPay (F := F) c d) := by
  unfold barPay inAny; infer_instance
instance sched_storable (g : GSem nD τ sig) (r : ℕ) (d : Fin 4) : BI.Storable (upEmb : UEmb _ 𝕄) ((sched X Y).payload g r d) := by
  rcases g with ⟨t, s | s⟩
  · exact barPay_storable t.1 d
  · exact payD_storable X Y _ t.1

section Sched

variable (l : Lk) (hl : l.used = true) (c : Dev nD)

theorem duties_bar : (sched X Y).duties (barCell c) 0 = Finset.univ := by dsimp only [sched]; rw [if_pos ⟨rfl, rfl⟩, if_pos rfl]
include hl in
theorem duties_snd : (sched X Y).duties (sndCell l c) 0 = {0} := by
  dsimp only [sched]; rw [if_pos ⟨rfl, rfl⟩, decode_snd]; dsimp only [dutD]; rw [if_pos hl]
include hl in
theorem duties_rcv : (sched X Y).duties (rcvCell l c) 0 = {0} := by
  dsimp only [sched]; rw [if_pos ⟨rfl, rfl⟩, decode_rcv]; dsimp only [dutD]; rw [if_pos hl]
theorem duties_later (g : GSem nD τ sig) : ∀ r, 1 ≤ r → (sched X Y).duties g r = ∅ :=
  fun r hr => by dsimp only [sched]; rw [if_neg (fun h => by omega)]

theorem payload_bar (d : Fin 4) : (sched X Y).payload (barCell c) 0 d = barPay c d := rfl
theorem payload_snd (d : Fin 4) : (sched X Y).payload (sndCell l c) 0 d = sndPay X Y l c := by
  show payD X Y (decodeN l.sndN) c = _; rw [decode_snd]; rfl
theorem payload_rcv (d : Fin 4) : (sched X Y).payload (rcvCell l c) 0 d = rcvPay X Y l c := by
  show payD X Y (decodeN l.rcvN) c = _; rw [decode_rcv]; rfl

theorem expect_bar : (sched X Y).expect (barCell c) 0 = 4 := by
  unfold Schedule.expect Schedule.amountOf; rw [duties_bar]; rfl
include hl in
theorem expect_snd : (sched X Y).expect (sndCell l c) 0 = N := by
  unfold Schedule.expect Schedule.amountOf; rw [duties_snd X Y l hl, Finset.sum_singleton]; rfl
include hl in
theorem expect_rcv : (sched X Y).expect (rcvCell l c) 0 = N := by
  unfold Schedule.expect Schedule.amountOf; rw [duties_rcv X Y l hl, Finset.sum_singleton]; rfl

theorem rest_bar : bigSep ((sched X Y).duties (barCell c) 0 \ ∅) (fun d => (sched X Y).payload (barCell c) 0 d)
    = bigSep Finset.univ (fun d => barPay (F := F) c d) := by
  rw [Finset.sdiff_empty, duties_bar]; rfl
include hl in
theorem rest_snd : bigSep ((sched X Y).duties (sndCell l c) 0 \ ∅) (fun d => (sched X Y).payload (sndCell l c) 0 d) = sndPay X Y l c := by
  rw [Finset.sdiff_empty, duties_snd X Y l hl, bigSep_singleton, payload_snd]
include hl in
theorem rest_rcv : bigSep ((sched X Y).duties (rcvCell l c) 0 \ ∅) (fun d => (sched X Y).payload (rcvCell l c) 0 d) = rcvPay X Y l c := by
  rw [Finset.sdiff_empty, duties_rcv X Y l hl, bigSep_singleton, payload_rcv]

end Sched

/-! ## What is owed, and the levels -/

/-- What the transfers of `c` not yet issued before event `n` will pay. -/
def owed (c : Dev nD) (n : ℕ) : CellTallies nD τ sig Unit :=
  ∑ l ∈ links.filter (fun l => n ≤ l.tS), tallyAt (rcvCell l (dstD l c)) () N

def L (g : GSem nD τ sig) : Finset Unit := if g.1.2 = .tc then {()} else ∅
/-- A barrier is below every arrival; an arrival is at the number of its issue. -/
def lv (g : GSem nD τ sig) (_ : Unit) : ℕ := match g.2 with
  | .reg _ => 1
  | .dma s => match decodeN s.val with
    | some (true, l) => 2 + l.tS
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_rcv (l : Lk) (c : Dev nD) (u : Unit) : lv (rcvCell l c) u = 2 + l.tS := by
  show (match decodeN l.rcvN with | some (true, l) => 2 + l.tS | _ => 0) = _; rw [decode_rcv]
theorem lv_snd (l : Lk) (c : Dev nD) (u : Unit) : lv (sndCell l c) u = 0 := by
  show (match decodeN l.sndN with | some (true, l) => 2 + l.tS | _ => 0) = _; rw [decode_snd]

theorem owed_pos {c : Dev nD} {n : ℕ} {g : GSem nD τ sig} {u : Unit} (h : 0 < owed c n g u) :
    ∃ l, n ≤ l.tS ∧ g = rcvCell l (dstD l c) := by
  by_contra hne
  have h0 : owed c n g u = 0 := by
    unfold owed
    rw [Finset.sum_apply, Finsupp.finsetSum_apply]
    refine Finset.sum_eq_zero fun l hl => ?_
    rw [tallyAt_apply, if_neg]
    rintro ⟨rfl, -⟩
    exact hne ⟨l, (Finset.mem_filter.mp hl).2, rfl⟩
  omega

/-- A wait below every arrival still owed is allowed. -/
theorem mayWait_of (c : Dev nD) (n : ℕ) (sm : SemLoc sig) (b : ℕ) (hb : lv ((c : Thread nD τ), sm) () ≤ b)
    (hn : b < 2 + n) : (levAts L lv : sProp 𝕄) ⊢ MayWait (c : Thread nD τ) sm () (owed c n) :=
  MayOwe.of_cut (L := L) (lev := lv) b (fun p hp => by rw [Finset.mem_singleton.mp hp, L_tc]; exact Finset.mem_singleton_self _)
    (fun g u hg => by
      obtain ⟨l, -, rfl⟩ := owed_pos hg
      rw [L_tc]; exact Finset.mem_singleton_self _)
    (fun p hp => by rw [Finset.mem_singleton.mp hp]; exact hb)
    (fun g u hg => by
      obtain ⟨l, hl, rfl⟩ := owed_pos hg
      rw [lv_rcv]; omega)

end Cert.Proof.Ring
-- ==== Proof.Ring.Steps.lean ====
/- One rule per kind of step of the kernel, each proved once: issuing a transfer, waiting for its source,
   waiting for an arrival, reading or writing a slot. The state of all transfers of a device is indexed by
   the number of the next event. -/
module

public import proofs.«01_k».proof.Proof.Ring.Links

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .f32) (Y : Dev nD → Vec F S1024x512 .f32)

abbrev 𝒱₀ : Variants := Variants.none

/-! ## The cells -/

abbrev semOf : Bool × Lk → DmaSem sig
  | (false, l) => sndS l
  | (true, l) => rcvS l
abbrev osem : Bool × Lk → SemLoc sig := fun k => .dma (semOf k)

theorem decode_semOf (k : Bool × Lk) : decodeN (semOf k).val = some k := by
  rcases k with ⟨_ | _, l⟩
  · exact decode_snd l
  · exact decode_rcv l
theorem osem_inj : Function.Injective osem := fun a b h => by
  have h' : semOf a = semOf b := SemLoc.dma.inj h
  have := congrArg (fun s : DmaSem sig => decodeN s.val) h'
  rw [decode_semOf, decode_semOf] at this
  exact Option.some.inj this
theorem osem_ne_bar (k : Bool × Lk) : osem k ≠ .reg barS := fun h => by cases h

def barEmb : Dev nD ↪ GSem nD τ sig := ⟨fun c => barCell c, fun _ _ h => congrArg (fun g : GSem nD τ sig => g.1.1) h⟩
def scEmb : Dev nD × (Bool × Lk) ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem sc_mem (k : Bool × Lk) (c : Dev nD) : ((c : Thread nD τ), osem k) ∈ (barCells ∪ scCells : Finset (GSem nD τ sig)) :=
  Finset.mem_union_right _ (Finset.mem_map_of_mem scEmb (Finset.mem_univ (c, k)))

/-- What every device may consult: the invariants of all cells, that the barriers are ready, the levels. -/
def records (κ : GSem nD τ sig → ℕ) : sProp 𝕄 :=
  iprop((bigSep (barCells ∪ scCells) fun g => cellInv ER (sched X Y) (κ g) g) ∗ (bigSep barCells fun g => reached ER g 0) ∗ levAts L lv)

instance records_persistent (κ : GSem nD τ sig → ℕ) : BI.Persistent (records X Y κ) := by unfold records; infer_instance

theorem inv_at (κ : GSem nD τ sig → ℕ) {g : GSem nD τ sig} (hg : g ∈ (barCells ∪ scCells : Finset (GSem nD τ sig))) :
    records X Y κ ⊢ cellInv ER (sched X Y) (κ g) g := by
  unfold records
  iintro ⟨H, -, -⟩
  ihave H := (show (bigSep (barCells ∪ scCells) fun g => cellInv ER (sched X Y) (κ g) g : sProp 𝕄) ⊢ cellInv ER (sched X Y) (κ g) g from bigSep_elim hg) $$ H
  iexact H
theorem inv_snd (κ : GSem nD τ sig → ℕ) (l : Lk) (c : Dev nD) : records X Y κ ⊢ cellInv ER (sched X Y) (κ (sndCell l c)) (sndCell l c) :=
  inv_at X Y κ (sc_mem (false, l) c)
theorem inv_rcv (κ : GSem nD τ sig → ℕ) (l : Lk) (c : Dev nD) : records X Y κ ⊢ cellInv ER (sched X Y) (κ (rcvCell l c)) (rcvCell l c) :=
  inv_at X Y κ (sc_mem (true, l) c)
theorem reached_bar (κ : GSem nD τ sig → ℕ) (c : Dev nD) : records X Y κ ⊢ reached ER (barCell c) 0 := by
  unfold records
  iintro ⟨-, H, -⟩
  ihave H := (show (bigSep barCells fun g => reached ER g 0 : sProp 𝕄) ⊢ reached ER (barCell c) 0
    from bigSep_elim (Finset.mem_map_of_mem barEmb (Finset.mem_univ c))) $$ H
  iexact H
theorem mayWait_at (κ : GSem nD τ sig → ℕ) (c : Dev nD) (n : ℕ) (sm : SemLoc sig) (b : ℕ) (hb : lv ((c : Thread nD τ), sm) () ≤ b) (hn : b < 2 + n) :
    records X Y κ ⊢ MayWait (c : Thread nD τ) sm () (owed c n) := by
  unfold records
  iintro ⟨-, -, H⟩
  iapply (mayWait_of c n sm b hb hn); iexact H

/-! ## The state of the transfers -/

def Lk.status (l : Lk) (n : ℕ) : ℕ :=
  if n ≤ l.tS then 0 else if n ≤ l.tW then 1 else if n ≤ l.tW + 1 then 2 else if n ≤ l.tT then 3 else 4

/-- What device `c` holds of its transfer `l`: not yet issued; issued; its source back; what arrives in its
    place taken too; the source's slot taken for the result. -/
def linkAt (c : Dev nD) (l : Lk) : ℕ → sProp 𝕄
  | 0 => iprop((dutyTok ER (sndCell l c) 0 0 ∗ dutyTok ER (rcvCell l (dstD l c)) 0 0 ∗ reached ER (sndCell l c) 0 ∗ inAny (F := F) l (dstD l c))
      ∗ atPos ER (sndCell l c) 0 ∅ 0 ∗ atPos ER (rcvCell l c) 0 ∅ 0 ∗ cred (tallyAt (rcvCell l c) () N))
  | 1 => iprop(cred (tallyAt (sndCell l c) () N)
      ∗ atPos ER (sndCell l c) 0 ∅ 0 ∗ atPos ER (rcvCell l c) 0 ∅ 0 ∗ cred (tallyAt (rcvCell l c) () N))
  | 2 => iprop(sndPay X Y l c ∗ atPos ER (sndCell l c) 1 ∅ 0 ∗ atPos ER (rcvCell l c) 0 ∅ 0 ∗ cred (tallyAt (rcvCell l c) () N))
  | 3 => iprop(sndPay X Y l c ∗ atPos ER (sndCell l c) 1 ∅ 0 ∗ atPos ER (rcvCell l c) 1 ∅ 0)
  | _ => iprop(atPos ER (sndCell l c) 1 ∅ 0 ∗ atPos ER (rcvCell l c) 1 ∅ 0)

theorem linkAt_0 (c : Dev nD) (l : Lk) : linkAt X Y c l 0
    = iprop((dutyTok ER (sndCell l c) 0 0 ∗ dutyTok ER (rcvCell l (dstD l c)) 0 0 ∗ reached ER (sndCell l c) 0 ∗ inAny (F := F) l (dstD l c))
      ∗ atPos ER (sndCell l c) 0 ∅ 0 ∗ atPos ER (rcvCell l c) 0 ∅ 0 ∗ cred (tallyAt (rcvCell l c) () N)) := rfl
theorem linkAt_1 (c : Dev nD) (l : Lk) : linkAt X Y c l 1
    = iprop(cred (tallyAt (sndCell l c) () N) ∗ atPos ER (sndCell l c) 0 ∅ 0 ∗ atPos ER (rcvCell l c) 0 ∅ 0 ∗ cred (tallyAt (rcvCell l c) () N)) := rfl
theorem linkAt_2 (c : Dev nD) (l : Lk) : linkAt X Y c l 2
    = iprop(sndPay X Y l c ∗ atPos ER (sndCell l c) 1 ∅ 0 ∗ atPos ER (rcvCell l c) 0 ∅ 0 ∗ cred (tallyAt (rcvCell l c) () N)) := rfl
theorem linkAt_3 (c : Dev nD) (l : Lk) : linkAt X Y c l 3
    = iprop(sndPay X Y l c ∗ atPos ER (sndCell l c) 1 ∅ 0 ∗ atPos ER (rcvCell l c) 1 ∅ 0) := rfl
theorem linkAt_4 (c : Dev nD) (l : Lk) : linkAt X Y c l 4 = iprop(atPos ER (sndCell l c) 1 ∅ 0 ∗ atPos ER (rcvCell l c) 1 ∅ 0) := rfl

/-- What device `c` holds of all its transfers before event `n`. -/
def St (c : Dev nD) (n : ℕ) : sProp 𝕄 :=
  iprop((∃ W, owes (c : Thread nD τ) (owed c n) W) ∗ bigSep links fun l => linkAt X Y c l (l.status n))

theorem times (l l' : Lk) (hl : l.used = true) (hl' : l'.used = true) (hne : l ≠ l') :
    (l.tS ≠ l'.tS ∧ l.tS ≠ l'.tW ∧ l.tS ≠ l'.tW + 1 ∧ l.tS ≠ l'.tT)
      ∧ (l.tW ≠ l'.tS ∧ l.tW ≠ l'.tW ∧ l.tW ≠ l'.tW + 1 ∧ l.tW ≠ l'.tT)
      ∧ (l.tW + 1 ≠ l'.tS ∧ l.tW + 1 ≠ l'.tW ∧ l.tW + 1 ≠ l'.tW + 1 ∧ l.tW + 1 ≠ l'.tT)
      ∧ (l.tT ≠ l'.tS ∧ l.tT ≠ l'.tW ∧ l.tT ≠ l'.tW + 1) := by
  revert l l'; decide +kernel
theorem order (l : Lk) (hl : l.used = true) : l.tS < l.tW ∧ l.tW + 1 < l.tT := by revert l; decide +kernel

theorem status_same (l : Lk) (n : ℕ) (h1 : n ≠ l.tS) (h2 : n ≠ l.tW) (h3 : n ≠ l.tW + 1) (h4 : n ≠ l.tT) : l.status (n + 1) = l.status n := by
  unfold Lk.status
  have e (a : ℕ) (h : n ≠ a) : (n + 1 ≤ a) = (n ≤ a) := propext (by omega)
  simp only [e _ h1, e _ h2, e _ h3, e _ h4]

/-- One transfer's part of the state, and the rest. -/
theorem links_split (c : Dev nD) (l : Lk) (hl : l.used = true) (n : ℕ)
    (hn : ∀ l' : Lk, l'.used = true → l' ≠ l → n ≠ l'.tS ∧ n ≠ l'.tW ∧ n ≠ l'.tW + 1 ∧ n ≠ l'.tT) (a b : ℕ) (ha : l.status n = a) (hb : l.status (n + 1) = b)
    {A B : sProp 𝕄} (hA : linkAt X Y c l a = A) (hB : linkAt X Y c l b = B) :
    (bigSep links fun l => linkAt X Y c l (l.status n) : sProp 𝕄)
      ⊢ iprop(A ∗ (B -∗ bigSep links fun l => linkAt X Y c l (l.status (n + 1)))) := by
  subst hA hB ha hb
  have hm : l ∈ links := Finset.mem_filter.mpr ⟨Finset.mem_univ _, hl⟩
  have e (k : ℕ) : (bigSep links fun l => linkAt X Y c l (l.status k) : sProp 𝕄)
      = iprop(linkAt X Y c l (l.status k) ∗ bigSep (links.erase l) fun l => linkAt X Y c l (l.status k)) := by
    conv_lhs => rw [← Finset.insert_erase hm]
    exact bigSep_insert (Finset.notMem_erase _ _)
  rw [e n, e (n + 1)]
  have hr : (bigSep (links.erase l) fun l => linkAt X Y c l (l.status n) : sProp 𝕄)
      = bigSep (links.erase l) fun l => linkAt X Y c l (l.status (n + 1)) :=
    bigSep_congr fun l' hl' => by
      obtain ⟨h1, h2, h3, h4⟩ := hn l' (Finset.mem_filter.mp (Finset.mem_of_mem_erase hl')).2 (Finset.ne_of_mem_erase hl')
      rw [status_same l' n h1 h2 h3 h4]
  rw [hr]
  iintro ⟨H, Hr⟩
  isplitl [H]; · iexact H
  iintro H
  isplitl [H]; · iexact H
  iexact Hr

theorem owed_same (c : Dev nD) (n : ℕ) (h : ∀ l : Lk, l.used = true → n ≠ l.tS) : owed c n = owed c (n + 1) := by
  unfold owed
  congr 1
  refine Finset.filter_congr fun l hl => ?_
  have := h l (Finset.mem_filter.mp hl).2
  omega

theorem owed_step (c : Dev nD) (l : Lk) (hl : l.used = true) :
    owed c l.tS = owed c (l.tS + 1) + tallyAt (rcvCell l (dstD l c)) () N := by
  unfold owed
  have : links.filter (fun l' => l.tS ≤ l'.tS) = insert l (links.filter fun l' => l.tS + 1 ≤ l'.tS) := by
    ext l'
    simp only [Finset.mem_filter, Finset.mem_insert, Finset.mem_univ, true_and]
    constructor
    · rintro ⟨h1, h2⟩
      by_cases h : l = l'
      · exact .inl h.symm
      · have := (times l l' hl h1 h).1.1
        exact .inr ⟨h1, by omega⟩
    · rintro (rfl | ⟨h1, h2⟩)
      · exact ⟨hl, le_rfl⟩
      · exact ⟨h1, by omega⟩
  rw [this, Finset.sum_insert (by simp), add_comm]

/-! ## Slots under a squeeze -/

/-- Every view of a slot's shape raises its semaphore by the same. -/
theorem credit_any (m : Memref sig .tc .vmem S256x128 .f32) : m.view.dmaCredit = N := rfl

theorem sq_set (m : Memref sig .tc .vmem S1x1x256x128 .f32) : (sq m).view.set = m.view.set := View.set_reshape _ _

theorem read_of_sq (m m' : Memref sig .tc .vmem S1x1x256x128 .f32) (f : m.view.ty.Contents (Elt F)) (f' : m'.view.ty.Contents (Elt F))
    (h : (sq m).view.read (Elt F) f = (sq m').view.read (Elt F) f') : m.view.read (Elt F) f = m'.view.read (Elt F) f' := by
  funext j
  obtain ⟨i, rfl⟩ := (Shape.reshapeEquiv (squeezes_S1x1x256x128_S256x128).numel_eq).surjective j
  exact congrFun h i

/-! ## The three steps of a transfer -/

section Link

variable {α : Type} (κ : GSem nD τ sig → ℕ) (c : Dev nD) (n : ℕ) (l : Lk) (hl : l.used = true)
include hl

/-- Issuing a transfer. -/
theorem send_step (ht : l.tS = n) {src dst : Memref sig .tc .vmem S256x128 .f32} {c' : Dev nD} {sS rS : DmaSem sig}
    (hsrc : src = sq (srcM l c)) (hc : c' = dstD l c) (hdst : dst = sq (outM l c)) (hsS : sS = sndS l) (hrS : rS = rcvS l)
    {hsc : dst.view.ref.isScScratch = false} {h1 : src.view.WordExact} {h2 : dst.view.WordExact}
    {h3 : DmaTarget.Typed .vmem (.dma rS) (.remote (Dev.tc c' : Thread nD τ) dst (.dma sS) hsc)}
    {kk : PUnit → Prog (TpuEff nD τ sig (Elt F) Λ₀ .tc) α} {Q : α → sProp 𝕄} :
    iprop(records X Y κ ∗ St X Y c n ∗ sndPay X Y l c)
      ⊢ iprop((St X Y c (n + 1) -∗ wp frame (wpE (defs₀ (F := F)) 𝒱₀ (c : Thread nD τ) none) Set.univ (kk ⟨⟩) Q) -∗ wp frame (wpE (defs₀ (F := F)) 𝒱₀ (c : Thread nD τ) none) Set.univ
          (.op (.enqueueDma src (.remote (Dev.tc c' : Thread nD τ) dst (.dma sS) hsc) (.dma rS) h1 h2 h3) kk) Q) := by
  subst ht hc hsS hrS hsrc
  have hdst' : dst = sq (inM l (dstD l c)) := by rw [in_dst]; exact hdst
  clear hdst
  subst hdst'
  obtain ⟨o1, o2⟩ := order l hl
  iintro ⟨#HR, HSt, Hsrc⟩ Hk
  ihave H := (show St X Y c l.tS ⊢ iprop((∃ W, owes (c : Thread nD τ) (owed c l.tS) W) ∗ bigSep links fun l' => linkAt X Y c l' (l'.status l.tS)) from .rfl) $$ HSt
  icases H with ⟨⟨%W, HO⟩, HL⟩
  ihave H := (links_split X Y c l hl l.tS (fun l' h' hne => (times l l' hl h' (Ne.symm hne)).1) 0 1
    (by unfold Lk.status; rw [if_pos le_rfl])
    (by unfold Lk.status; rw [if_neg (by omega), if_pos (by omega)]) (linkAt_0 X Y c l) (linkAt_1 X Y c l)) $$ HL
  icases H with ⟨Hl, HB⟩
  icases Hl with ⟨⟨Ht1, Ht2, #Hr1, Hin⟩, Ha1, Ha2, Hc2⟩
  unfold inAny sndPay ownAny own owns
  icases Hin with ⟨⟨%v, %fd, -, Hd⟩, #Hr2⟩
  icases Hsrc with ⟨%fs, %hfs, Hs⟩
  ihave #I1 := (inv_snd X Y κ l c) $$ HR
  ihave #I2 := (inv_rcv X Y κ l (dstD l c)) $$ HR
  iapply (Rounds.wp_send_pointsTo 𝒱₀ ER (sched X Y) (c : Thread nD τ) none (c' := (dstD l c : Thread nD τ)) (src := sq (srcM l c)) (dst := sq (inM l (dstD l c)))
      (sS := .dma (sndS l)) (sem := .dma (rcvS l)) (q := share l) (fs := fs) (κ₁ := κ (sndCell l c)) (κ₂ := κ (rcvCell l (dstD l c)))
      (r₁ := 0) (r₂ := 0) (d₁ := 0) (d₂ := 0) (fd := fd)
      (by rw [duties_snd X Y l hl]; exact Finset.mem_singleton_self _) (by rw [duties_rcv X Y l hl]; exact Finset.mem_singleton_self _)
      () () N (credit_in l (dstD l c)) rfl rfl (owed c (l.tS + 1)) (owed_step c l hl) (W := W)
      (by
        rw [payload_snd, sq_set]; unfold sndPay own owns
        iintro H; iexists fs; isplitr; · ipureintro; exact hfs
        iexact H)
      (by
        rw [payload_rcv, sq_set]; unfold rcvPay own owns inVal
        iintro H
        iexists ((sq (inM l (dstD l c))).view.write (Elt F) fd ((sq (srcM l c)).view.read (Elt F) fs) Finset.univ)
        isplitr
        · ipureintro
          rw [srcD_dstD, ← hfs]
          refine read_of_sq _ _ _ _ ?_
          exact View.read_write_univ _ _
        iexact H)) $$ [Hs Hd HO Ht1 Ht2]
  · isplitr; · iexact I1
    isplitr; · iexact I2
    isplitl [Hs]; · rw [sq_set]; iexact Hs
    isplitl [Hd]; · rw [sq_set]; iexact Hd
    isplitl [HO]; · iexact HO
    isplitl [Ht1]; · iexact Ht1
    isplitr; · iexact Hr1
    isplitl [Ht2]; · iexact Ht2
    iexact Hr2
  iintro ⟨Hc1, HO⟩
  iapply Hk
  unfold St
  isplitl [HO]; · iexists W; iexact HO
  iapply HB
  isplitl [Hc1]; · iexact Hc1
  isplitl [Ha1]; · iexact Ha1
  isplitl [Ha2]; · iexact Ha2
  iexact Hc2

/-- Waiting for a transfer's source. -/
theorem wait_snd (ht : l.tW = n) {src dst : Memref sig .tc .vmem S256x128 .f32} {sS : DmaSem sig} (hsS : sS = sndS l)
    {h1 : src.view.WordExact} {h2 : dst.view.WordExact}
    {kk : PUnit → Prog (TpuEff nD τ sig (Elt F) Λ₀ .tc) α} {Q : α → sProp 𝕄} :
    iprop(records X Y κ ∗ St X Y c n)
      ⊢ iprop((St X Y c (n + 1) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 sS src dst h1 h2) kk) Q) := by
  subst ht hsS
  obtain ⟨o1, o2⟩ := order l hl
  iintro ⟨#HR, HSt⟩ Hk
  ihave H := (show St X Y c l.tW ⊢ iprop((∃ W, owes (c : Thread nD τ) (owed c l.tW) W) ∗ bigSep links fun l' => linkAt X Y c l' (l'.status l.tW)) from .rfl) $$ HSt
  icases H with ⟨⟨%W, HO⟩, HL⟩
  ihave H := (links_split X Y c l hl l.tW (fun l' h' hne => (times l l' hl h' (Ne.symm hne)).2.1) 1 2
    (by unfold Lk.status; rw [if_neg (by omega), if_pos (by omega)])
    (by unfold Lk.status; rw [if_neg (by omega), if_neg (by omega), if_pos (by omega)]) (linkAt_1 X Y c l) (linkAt_2 X Y c l)) $$ HL
  icases H with ⟨Hl, HB⟩
  icases Hl with ⟨Hc1, Ha1, Ha2, Hc2⟩
  ihave #I1 := (inv_snd X Y κ l c) $$ HR
  iapply (Rounds.wp_wait_rest_token 𝒱₀ ER (sched X Y) (c : Thread nD τ) none (κ := κ (sndCell l c))
      (wpE_waitDma2_eq 𝒱₀ (c : Thread nD τ) none Set.univ) (Set.mem_univ _) () (O := owed c l.tW) (W := W) (R := 0) (m := 0) (T := ∅)
      (by rw [credit_any, Nat.zero_add]; exact (expect_snd X Y l hl c).symm)) $$ [Hc1 HO Ha1]
  · isplitr; · iexact I1
    isplitl [Hc1]; · rw [credit_any]; iexact Hc1
    isplitl [HO]; · iexact HO
    isplitr
    · iapply (mayWait_at X Y κ c l.tW (.dma (sndS l)) 0 (by rw [lv_snd]) (by omega)); iexact HR
    iexact Ha1
  iintro ⟨HO, Ha1, -, Hpay⟩
  ihave Hs := (Entails.of_eq (rest_snd X Y l hl c)) $$ Hpay
  iapply Hk
  unfold St
  isplitl [HO]
  · iexists _
    rw [← owed_same c l.tW (fun l' h' => by
      by_cases h : l = l'
      · subst h; omega
      · exact (times l l' hl h' h).2.1.1)]
    iexact HO
  iapply HB
  isplitl [Hs]; · iexact Hs
  isplitl [Ha1]; · iexact Ha1
  isplitl [Ha2]; · iexact Ha2
  iexact Hc2

/-- Waiting for what arrives in a transfer's place. -/
theorem wait_rcv (ht : l.tW + 1 = n) {src dst : Memref sig .tc .vmem S256x128 .f32} {rS : DmaSem sig} (hrS : rS = rcvS l)
    {h1 : src.view.WordExact} {h2 : dst.view.WordExact}
    {kk : PUnit → Prog (TpuEff nD τ sig (Elt F) Λ₀ .tc) α} {Q : α → sProp 𝕄} :
    iprop(records X Y κ ∗ St X Y c n)
      ⊢ iprop((iprop(St X Y c (n + 1) ∗ rcvPay X Y l c) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 rS src dst h1 h2) kk) Q) := by
  subst ht hrS
  obtain ⟨o1, o2⟩ := order l hl
  iintro ⟨#HR, HSt⟩ Hk
  ihave H := (show St X Y c (l.tW + 1) ⊢ iprop((∃ W, owes (c : Thread nD τ) (owed c (l.tW + 1)) W) ∗ bigSep links fun l' => linkAt X Y c l' (l'.status (l.tW + 1))) from .rfl) $$ HSt
  icases H with ⟨⟨%W, HO⟩, HL⟩
  ihave H := (links_split X Y c l hl (l.tW + 1) (fun l' h' hne => (times l l' hl h' (Ne.symm hne)).2.2.1) 2 3
    (by unfold Lk.status; rw [if_neg (by omega), if_neg (by omega), if_pos (by omega)])
    (by unfold Lk.status; rw [if_neg (by omega), if_neg (by omega), if_neg (by omega), if_pos (by omega)]) (linkAt_2 X Y c l) (linkAt_3 X Y c l)) $$ HL
  icases H with ⟨Hl, HB⟩
  icases Hl with ⟨Hs, Ha1, Ha2, Hc2⟩
  ihave #I1 := (inv_rcv X Y κ l c) $$ HR
  iapply (Rounds.wp_wait_rest_token 𝒱₀ ER (sched X Y) (c : Thread nD τ) none (κ := κ (rcvCell l c))
      (wpE_waitDma2_eq 𝒱₀ (c : Thread nD τ) none Set.univ) (Set.mem_univ _) () (O := owed c (l.tW + 1)) (W := W) (R := 0) (m := 0) (T := ∅)
      (by rw [credit_any, Nat.zero_add]; exact (expect_rcv X Y l hl c).symm)) $$ [Hc2 HO Ha2]
  · isplitr; · iexact I1
    isplitl [Hc2]; · rw [credit_any]; iexact Hc2
    isplitl [HO]; · iexact HO
    isplitr
    · iapply (mayWait_at X Y κ c (l.tW + 1) (.dma (rcvS l)) (2 + l.tS) (by rw [lv_rcv]) (by omega)); iexact HR
    iexact Ha2
  iintro ⟨HO, Ha2, -, Hpay⟩
  ihave Hr := (Entails.of_eq (rest_rcv X Y l hl c)) $$ Hpay
  iapply Hk
  isplitr [Hr]
  · unfold St
    isplitl [HO]
    · iexists _
      rw [← owed_same c (l.tW + 1) (fun l' h' => by
        by_cases h : l = l'
        · subst h; omega
        · exact (times l l' hl h' h).2.2.1.1)]
      iexact HO
    iapply HB
    isplitl [Hs]; · iexact Hs
    isplitl [Ha1]; · iexact Ha1
    iexact Ha2
  iexact Hr

end Link

/-! ## Taking a strip's slots for the result -/

abbrev colLinks (k : Fin 4) : Finset Lk := links.filter fun l => l.col = k

theorem take_col (c : Dev nD) (k : Fin 4) (n : ℕ) (hn : n = 114 + 3 * k.val) :
    St X Y c n ⊢ iprop(St X Y c (n + 1) ∗ bigSep (colLinks k) fun l => sndPay X Y l c) := by
  have h3 : ∀ l ∈ colLinks k, l.used = true ∧ l.tT = n := fun l h => by
    obtain ⟨h1, h2⟩ := Finset.mem_filter.mp h
    exact ⟨(Finset.mem_filter.mp h1).2, by rw [hn, ← h2]; rfl⟩
  have e (i : ℕ) : (bigSep links fun l => linkAt X Y c l (l.status i) : sProp 𝕄)
      = iprop((bigSep (colLinks k) fun l => linkAt X Y c l (l.status i)) ∗ bigSep (links.filter fun l => ¬ l.col = k) fun l => linkAt X Y c l (l.status i)) := by
    have := bigSep_union (Φ := fun l => (linkAt X Y c l (l.status i) : sProp 𝕄)) (Finset.disjoint_filter_filter_not links links (fun l => l.col = k))
    rw [Finset.filter_union_filter_not_eq] at this
    exact this
  have ht : ∃ l₀ : Lk, l₀.used = true ∧ l₀.tT = n := ⟨.rs k 0, rfl, by rw [hn]; rfl⟩
  obtain ⟨l₀, hu₀, hT₀⟩ := ht
  have hne (l : Lk) (hu : l.used = true) : n ≠ l.tS ∧ n ≠ l.tW ∧ n ≠ l.tW + 1 := by
    by_cases h : l₀ = l
    · subst h; obtain ⟨o1, o2⟩ := order _ hu; omega
    · rw [← hT₀]; exact (times l₀ l hu₀ hu h).2.2.2
  unfold St
  rw [e n, e (n + 1), ← owed_same c n (fun l hu => (hne l hu).1)]
  have h1 : (bigSep (colLinks k) fun l => linkAt X Y c l (l.status n) : sProp 𝕄)
      ⊢ iprop((bigSep (colLinks k) fun l => linkAt X Y c l (l.status (n + 1))) ∗ bigSep (colLinks k) fun l => sndPay X Y l c) := by
    rw [← bigSep_sep']
    refine bigSep_mono fun l h => ?_
    obtain ⟨hu, hT⟩ := h3 l h
    obtain ⟨o1, o2⟩ := order l hu
    rw [show l.status n = 3 from by unfold Lk.status; rw [if_neg (by omega), if_neg (by omega), if_neg (by omega), if_pos (by omega)],
      show l.status (n + 1) = 4 from by unfold Lk.status; rw [if_neg (by omega), if_neg (by omega), if_neg (by omega), if_neg (by omega)]]
    rw [linkAt_3, linkAt_4]
    show (iprop(sndPay X Y l c ∗ atPos ER (sndCell l c) 1 ∅ 0 ∗ atPos ER (rcvCell l c) 1 ∅ 0) : sProp 𝕄)
      ⊢ iprop((atPos ER (sndCell l c) 1 ∅ 0 ∗ atPos ER (rcvCell l c) 1 ∅ 0) ∗ sndPay X Y l c)
    iintro ⟨H, Ha⟩
    isplitl [Ha] <;> iassumption
  have h2 : (bigSep (links.filter fun l => ¬ l.col = k) fun l => linkAt X Y c l (l.status n) : sProp 𝕄)
      = bigSep (links.filter fun l => ¬ l.col = k) fun l => linkAt X Y c l (l.status (n + 1)) :=
    bigSep_congr fun l h => by
      obtain ⟨g1, g2⟩ := Finset.mem_filter.mp h
      obtain ⟨a, b, d⟩ := hne l (Finset.mem_filter.mp g1).2
      rw [status_same l n a b d (fun e => g2 (Fin.ext (by unfold Lk.tT at e; omega)))]
  rw [h2]
  iintro ⟨HO, Hc, Hr⟩
  ihave H := h1 $$ Hc
  icases H with ⟨Hc, Hs⟩
  isplitr [Hs]
  · isplitl [HO]; · iexact HO
    isplitl [Hc] <;> iassumption
  iexact Hs

/-! ## Reading and writing a slot -/

section Slots

variable {α : Type} (c : Dev nD) {sh : Shape} (m : Memref sig .tc .vmem sh .f32) (r : Rect sh)

theorem own_of (t : Thread nD τ) {sp : Space} {sh : Shape} {e : EltTy} (m : Memref sig t.2.kind sp sh e) (q : PosShare TreeShare)
    (f : m.view.ty.Contents (Elt F)) {v : sh.Idx → Elt F e} (h : m.view.read (Elt F) f = v) :
    (m.view.loc t ↦[m.view.set]{q} f : sProp 𝕄) ⊢ owns t m q v := by
  subst h; exact owns_intro t m q f

/-- A load of one slot. -/
theorem load_own (hr : ∀ a, r.stride a = 1) {m' : Memref sig .tc .vmem r.shape .f32} (hm : m.slice r hr = m') (q : PosShare TreeShare) (v : Vec F r.shape .f32)
    {hl : m.view.LoadsAt r.toLoadRect} {kk : Vec F r.shape .f32 → Prog (TpuEff nD τ sig (Elt F) Λ₀ .tc) α} {Q : α → sProp 𝕄} :
    owns (Ix := Unit) (Name := ℕ) (U := UU) (Lvl := ℕ) (c : Thread nD τ) m' q v
      ⊢ iprop((owns (Ix := Unit) (Name := ℕ) (U := UU) (Lvl := ℕ) (c : Thread nD τ) m' q v
          -∗ wp frame (wpE (defs₀ (F := F)) 𝒱₀ (c : Thread nD τ) none) Set.univ (kk v) Q)
        -∗ wp frame (wpE (defs₀ (F := F)) 𝒱₀ (c : Thread nD τ) none) Set.univ (.op (.load m r.toLoadRect hl) kk) Q) := by
  subst hm
  iintro H Hk
  ihave H := (show owns (Ix := Unit) (Name := ℕ) (U := UU) (Lvl := ℕ) (c : Thread nD τ) (m.slice r hr) q v
    ⊢ iprop(∃ f, ⌜(m.slice r hr).view.read (Elt F) f = v⌝ ∗ (m.access r).loc (c : Thread nD τ) ↦[(m.access r).set]{q} f) from .rfl) $$ H
  icases H with ⟨%f, %hf, H⟩
  iapply (wp_load_rect 𝒱₀ (c : Thread nD τ) none Set.univ (m := m) (r := r) (S := (m.access r).set) (q := q) (f := f) (hS := Finset.Subset.refl _)) $$ H
  iintro H
  have e : (m.access r).read (Elt F) f = v := hf
  rw [e]
  iapply Hk
  iapply (own_of (c : Thread nD τ) (m.slice r hr) q f hf); iexact H

/-- A store over one slot. -/
theorem store_own (hr : ∀ a, r.stride a = 1) {m' : Memref sig .tc .vmem r.shape .f32} (hm : m.slice r hr = m') (v w : Vec F r.shape .f32)
    {hs : (m.access r).Stores Finset.univ} {hx : (Finset.univ : Finset r.shape.Idx) = Finset.univ ∨ ∀ a, r.stride a = 1}
    {kk : PUnit → Prog (TpuEff nD τ sig (Elt F) Λ₀ .tc) α} {Q : α → sProp 𝕄} :
    owns (Ix := Unit) (Name := ℕ) (U := UU) (Lvl := ℕ) (c : Thread nD τ) m' fullShare v
      ⊢ iprop((owns (Ix := Unit) (Name := ℕ) (U := UU) (Lvl := ℕ) (c : Thread nD τ) m' fullShare w
          -∗ wp frame (wpE (defs₀ (F := F)) 𝒱₀ (c : Thread nD τ) none) Set.univ (kk ⟨⟩) Q)
        -∗ wp frame (wpE (defs₀ (F := F)) 𝒱₀ (c : Thread nD τ) none) Set.univ (.op (.store m r w Finset.univ hs hx) kk) Q) := by
  subst hm
  iintro H Hk
  ihave H := (show owns (Ix := Unit) (Name := ℕ) (U := UU) (Lvl := ℕ) (c : Thread nD τ) (m.slice r hr) fullShare v
    ⊢ iprop(∃ f, ⌜(m.slice r hr).view.read (Elt F) f = v⌝ ∗ (m.access r).loc (c : Thread nD τ) ↦[(m.access r).set]{fullShare} f) from .rfl) $$ H
  icases H with ⟨%f, -, H⟩
  iapply (wp_store 𝒱₀ (c : Thread nD τ) none Set.univ (m := m) (r := r) (S := (m.access r).set) (f := f) (View.setOn_subset_set _ _)) $$ H
  iintro H
  iapply Hk
  iapply (own_of (c : Thread nD τ) (m.slice r hr) fullShare ((m.access r).write (Elt F) f w Finset.univ) (View.read_write_univ f w)); iexact H

/-- A load of a part of an operand. -/
theorem load_part (hr : ∀ a, r.stride a = 1) (q : PosShare TreeShare) (X : Vec F sh .f32)
    {hl : m.view.LoadsAt r.toLoadRect} {kk : Vec F r.shape .f32 → Prog (TpuEff nD τ sig (Elt F) Λ₀ .tc) α} {Q : α → sProp 𝕄} :
    owns (Ix := Unit) (Name := ℕ) (U := UU) (Lvl := ℕ) (c : Thread nD τ) m q X
      ⊢ iprop((owns (Ix := Unit) (Name := ℕ) (U := UU) (Lvl := ℕ) (c : Thread nD τ) m q X
          -∗ wp frame (wpE (defs₀ (F := F)) 𝒱₀ (c : Thread nD τ) none) Set.univ (kk fun j => X (r.emb j)) Q)
        -∗ wp frame (wpE (defs₀ (F := F)) 𝒱₀ (c : Thread nD τ) none) Set.univ (.op (.load m r.toLoadRect hl) kk) Q) := by
  iintro H Hk
  ihave H := (show owns (Ix := Unit) (Name := ℕ) (U := UU) (Lvl := ℕ) (c : Thread nD τ) m q X
    ⊢ iprop(∃ f, ⌜m.view.read (Elt F) f = X⌝ ∗ (m.access r).loc (c : Thread nD τ) ↦[m.view.set]{q} f) from .rfl) $$ H
  icases H with ⟨%f, %hf, H⟩
  iapply (wp_load_rect 𝒱₀ (c : Thread nD τ) none Set.univ (m := m) (r := r) (S := m.view.set) (q := q) (f := f) (hS := m.view.set_slice_subset r)) $$ H
  iintro H
  have e : (m.access r).read (Elt F) f = fun j => X (r.emb j) := by rw [← hf]; rfl
  rw [e]
  iapply Hk
  iapply (own_of (c : Thread nD τ) m q f hf); iexact H

end Slots

/-- An operand owned whole. -/
abbrev hasX (a0 : Memref sig .tc .vmem S4x256x1024 .f32) (c : Dev nD) : sProp 𝕄 :=
  owns (Ix := Unit) (Name := ℕ) (U := UU) (Lvl := ℕ) (c : Thread nD τ) a0 fullShare (X c)
abbrev hasY (a1 : Memref sig .tc .vmem S1024x512 .f32) (c : Dev nD) : sProp 𝕄 :=
  owns (Ix := Unit) (Name := ℕ) (U := UU) (Lvl := ℕ) (c : Thread nD τ) a1 fullShare (Y c)

theorem load_x {α : Type} (a0 : Memref sig .tc .vmem S4x256x1024 .f32) (c : Dev nD) (o : Fin 3 → ℕ) (h : ∀ a, o a + S1x256x1024.size a ≤ S4x256x1024.size a)
    {hl : a0.view.LoadsAt (Rect.unit (s := S4x256x1024) o S1x256x1024.size h).toLoadRect}
    {kk : Vec F S1x256x1024 .f32 → Prog (TpuEff nD τ sig (Elt F) Λ₀ .tc) α} {Q : α → sProp 𝕄} :
    hasX X a0 c
      ⊢ iprop((hasX X a0 c -∗ wp frame (wpE (defs₀ (F := F)) 𝒱₀ (c : Thread nD τ) none) Set.univ (kk (xRd o h (X c))) Q)
        -∗ wp frame (wpE (defs₀ (F := F)) 𝒱₀ (c : Thread nD τ) none) Set.univ
          (.op (.load a0 (Rect.unit (s := S4x256x1024) o S1x256x1024.size h).toLoadRect hl) kk) Q) :=
  load_part c a0 (Rect.unit (s := S4x256x1024) o S1x256x1024.size h) (fun _ => rfl) fullShare (X c)

theorem load_y {α : Type} (a1 : Memref sig .tc .vmem S1024x512 .f32) (c : Dev nD) (k : Fin 4) {o : Fin 2 → ℕ} (ho : o = yOff k)
    {h : ∀ a, o a + S1024x128.size a ≤ S1024x512.size a}
    {hl : a1.view.LoadsAt (Rect.unit (s := S1024x512) o S1024x128.size h).toLoadRect}
    {kk : Vec F S1024x128 .f32 → Prog (TpuEff nD τ sig (Elt F) Λ₀ .tc) α} {Q : α → sProp 𝕄} :
    hasY Y a1 c
      ⊢ iprop((hasY Y a1 c -∗ wp frame (wpE (defs₀ (F := F)) 𝒱₀ (c : Thread nD τ) none) Set.univ (kk (yRd (yOff k) (yOff_inb k) (Y c))) Q)
        -∗ wp frame (wpE (defs₀ (F := F)) 𝒱₀ (c : Thread nD τ) none) Set.univ
          (.op (.load a1 (Rect.unit (s := S1024x512) o S1024x128.size h).toLoadRect hl) kk) Q) := by
  subst ho
  exact load_part c a1 (Rect.unit (s := S1024x512) (yOff k) S1024x128.size h) (fun _ => rfl) fullShare (Y c)

/-! ## A device's own slots -/

abbrev pOff (k : Fin 4) : Fin 3 → ℕ := ![k.val, 0, 0]
theorem inbP (k : Fin 4) : ∀ a, pOff k a + S1x256x128.size a ≤ S4x256x128.size a := by revert k; decide +kernel
abbrev pM (k : Fin 4) : Memref sig .tc .vmem S1x256x128 .f32 := slotP (pOff k) (inbP k)
/-- A slot of the partial products at a value. -/
abbrev ownP (c : Dev nD) (k : Fin 4) (v : Vec F S1x256x128 .f32) : sProp 𝕄 :=
  owns (Ix := Unit) (Name := ℕ) (U := UU) (Lvl := ℕ) (c : Thread nD τ) (pM k) fullShare v

/-- The slot for its own total, lent to both directions. -/
theorem lend (c : Dev nD) (k : Fin 4) : own c (aM k (rIx c)) fullShare (tot X Y k c) ⊢ iprop(sndPay X Y (.cw k 0) c ∗ sndPay X Y (.cc k 0) c) := by
  have e1 : srcM (.cw k 0) c = aM k (rIx c) := by
    show aM k (rIx c - 0) = _; rw [sub_zero]
  have e2 : srcM (.cc k 0) c = aM k (rIx c) := by
    show aM k (rIx c + 0) = _; rw [add_zero]
  unfold sndPay
  rw [e1, e2]
  exact (owns_halves _ _ _ _).1

end Cert.Proof.Ring
-- ==== Proof.Ring.Column.lean ====
/- A strip once it has gone round: the eight slots of the all-gather's buffer, read for the result. -/
module

public import proofs.«01_k».proof.Proof.Ring.Steps

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .f32) (Y : Dev nD → Vec F S1024x512 .f32)

/-! ## The result's blocks -/

/-- Where strip `k` of the device at place `j` of the ring goes in the result. -/
abbrev oOff (k : Fin 4) (j : Fin 8) : Fin 2 → ℕ := ![0, 512 * j.val + 128 * k.val]
theorem inbO (k : Fin 4) (j : Fin 8) : ∀ a, oOff k j a + S256x128.size a ≤ S256x4096.size a := by revert k j; decide +kernel
abbrev oM (a2 : Memref sig .tc .vmem S256x4096 .f32) (k : Fin 4) (j : Fin 8) : Memref sig .tc .vmem S256x128 .f32 :=
  a2.slice (Rect.unit (s := S256x4096) (oOff k j) S256x128.size (inbO k j)) (fun _ => rfl)

abbrev ownO (a2 : Memref sig .tc .vmem S256x4096 .f32) (c : Dev nD) (k : Fin 4) (j : Fin 8) (v : Vec F S256x128 .f32) : sProp 𝕄 :=
  owns (Ix := Unit) (Name := ℕ) (U := UU) (Lvl := ℕ) (c : Thread nD τ) (oM a2 k j) fullShare v
def anyO (a2 : Memref sig .tc .vmem S256x4096 .f32) (c : Dev nD) (k : Fin 4) (j : Fin 8) : sProp 𝕄 := iprop(∃ v, ownO (F := F) a2 c k j v)
def anyP (c : Dev nD) (k : Fin 4) : sProp 𝕄 := iprop(∃ v, ownP (F := F) c k v)

/-! ## A device's own slot of the all-gather -/

theorem load_slot {α : Type} (c : Dev nD) (k : Fin 4) {o : Fin 4 → ℕ} (ho : o = off4 k.val (rIx c)) (h : InbA o) (v : Vec F S1x1x256x128 .f32)
    {hl : gath.view.LoadsAt (Rect.unit (s := S4x8x256x128) o S1x1x256x128.size h).toLoadRect}
    {kk : Vec F S1x1x256x128 .f32 → Prog (TpuEff nD τ sig (Elt F) Λ₀ .tc) α} {Q : α → sProp 𝕄} :
    own c (aM k (rIx c)) fullShare v
      ⊢ iprop((own c (aM k (rIx c)) fullShare v -∗ wp frame (wpE (defs₀ (F := F)) 𝒱₀ (c : Thread nD τ) none) Set.univ (kk v) Q)
        -∗ wp frame (wpE (defs₀ (F := F)) 𝒱₀ (c : Thread nD τ) none) Set.univ
          (.op (.load gath (Rect.unit (s := S4x8x256x128) o S1x1x256x128.size h).toLoadRect hl) kk) Q) := by
  subst ho
  exact load_own c gath (Rect.unit (s := S4x8x256x128) _ S1x1x256x128.size h) (fun _ => rfl) rfl fullShare v

theorem store_slot {α : Type} (c : Dev nD) (k : Fin 4) {o : Fin 4 → ℕ} (ho : o = off4 k.val (rIx c)) (h : InbA o) (v w : Vec F S1x1x256x128 .f32)
    {hs : (gath.access (Rect.unit (s := S4x8x256x128) o S1x1x256x128.size h)).Stores Finset.univ}
    {hx : (Finset.univ : Finset S1x1x256x128.Idx) = Finset.univ ∨ ∀ a, (Rect.unit (s := S4x8x256x128) o S1x1x256x128.size h).stride a = 1}
    {kk : PUnit → Prog (TpuEff nD τ sig (Elt F) Λ₀ .tc) α} {Q : α → sProp 𝕄} :
    own c (aM k (rIx c)) fullShare v
      ⊢ iprop((own c (aM k (rIx c)) fullShare w -∗ wp frame (wpE (defs₀ (F := F)) 𝒱₀ (c : Thread nD τ) none) Set.univ (kk ⟨⟩) Q)
        -∗ wp frame (wpE (defs₀ (F := F)) 𝒱₀ (c : Thread nD τ) none) Set.univ
          (.op (.store gath (Rect.unit (s := S4x8x256x128) o S1x1x256x128.size h) w Finset.univ hs hx) kk) Q) := by
  subst ho
  exact store_own c gath (Rect.unit (s := S4x8x256x128) _ S1x1x256x128.size h) (fun _ => rfl) rfl v w

/-! ## A strip gathered -/

/-- Slot `j` of strip `k`, holding what the device at place `j` summed. -/
abbrev gat (c : Dev nD) (k : Fin 4) (j : Fin 8) : sProp 𝕄 := own c (aM k j) fullShare (tot X Y k (atR c j))
/-- The strip's slots of the reduce-scatter's buffer, done with. -/
def commDone (c : Dev nD) (k : Fin 4) : sProp 𝕄 :=
  iprop(ownAny (F := F) c (cM k 0) ∗ ownAny (F := F) c (cM k 1) ∗ ownAny (F := F) c (cM k 2) ∗ ownAny (F := F) c (cM k 3))

theorem vcw_eq (k : Fin 4) (h : ℕ) (c : Dev nD) : vcw X Y k h c = tot X Y k (atR c (rIx c - Fin.ofNat 8 h)) := by
  induction h generalizing c with
  | zero => show tot X Y k c = _; rw [show (Fin.ofNat 8 0 : Fin 8) = 0 from rfl, sub_zero, atR_self]
  | succ n ih =>
    show vcw X Y k n (rl c) = _
    rw [ih, atR_rl, rIx_rl, sub_sub, show (1 + Fin.ofNat 8 n : Fin 8) = Fin.ofNat 8 (n + 1) from by
      apply Fin.ext; simp [Fin.val_add]; omega]

theorem vcc_eq (k : Fin 4) (h : ℕ) (c : Dev nD) : vcc X Y k h c = tot X Y k (atR c (rIx c + Fin.ofNat 8 h)) := by
  induction h generalizing c with
  | zero => show tot X Y k c = _; rw [show (Fin.ofNat 8 0 : Fin 8) = 0 from rfl, add_zero, atR_self]
  | succ n ih =>
    show vcc X Y k n (rr c) = _
    rw [ih, atR_rr, rIx_rr, add_assoc, show (1 + Fin.ofNat 8 n : Fin 8) = Fin.ofNat 8 (n + 1) from by
      apply Fin.ext; simp [Fin.val_add]; omega]

theorem ofNat_eq (n : ℕ) (h : n < 8) : (Fin.ofNat 8 n : Fin 8) = ⟨n, h⟩ := Fin.ext (Nat.mod_eq_of_lt h)

theorem turn (r a b : Fin 8) (h : a.val + b.val = 8) : r - a = r + b := by
  revert r a b; decide +kernel

/-- What a later hop sends, and what arrives, is a slot gathered. -/
theorem cw_gat (c : Dev nD) (k : Fin 4) (h : Fin 4) (b : Fin 8) (hh : h.val ≠ 0) (hb : h.val + b.val = 8) : sndPay X Y (.cw k h) c = gat X Y c k (rIx c + b) := by
  show own c (aM k (rIx c - ⟨h.val, by omega⟩)) (if h.val = 0 then fullShare.left else fullShare) (vcw X Y k h.val c) = _
  rw [if_neg hh, vcw_eq, ofNat_eq _ (by omega), turn _ _ b hb]
theorem cc_gat (c : Dev nD) (k : Fin 4) (h : Fin 4) (hh : h.val ≠ 0) : sndPay X Y (.cc k h) c = gat X Y c k (rIx c + ⟨h.val, by omega⟩) := by
  show own c (aM k (rIx c + ⟨h.val, by omega⟩)) (if h.val = 0 then fullShare.right else fullShare) (vcc X Y k h.val c) = _
  rw [if_neg hh, vcc_eq, ofNat_eq]
theorem cw_in_gat (c : Dev nD) (k : Fin 4) (h : Fin 4) (b : Fin 8) (hb : h.val + 1 + b.val = 8) : rcvPay X Y (.cw k h) c = gat X Y c k (rIx c + b) := by
  show own c (aM k (rIx c - ⟨h.val + 1, by omega⟩)) fullShare (vcw X Y k (h.val + 1) c) = _
  rw [vcw_eq, ofNat_eq _ (by omega), turn _ _ b hb]
theorem cc_in_gat (c : Dev nD) (k : Fin 4) (h : Fin 4) : rcvPay X Y (.cc k h) c = gat X Y c k (rIx c + ⟨h.val + 1, by omega⟩) := by
  show own c (aM k (rIx c + ⟨h.val + 1, by omega⟩)) fullShare (vcc X Y k (h.val + 1) c) = _
  rw [vcc_eq, ofNat_eq]

theorem rs_own (c : Dev nD) (k : Fin 4) (s : Fin 3) : sndPay X Y (.rs k s) c = own c (cM k ⟨s.val, by omega⟩) fullShare (acc X Y k s.val c) := rfl

/-- The two halves lent for the first hops, joined again. -/
theorem unlend (c : Dev nD) (k : Fin 4) : iprop(sndPay X Y (.cw k 0) c ∗ sndPay X Y (.cc k 0) c) ⊢ gat X Y c k (rIx c) := by
  have e1 : srcM (.cw k 0) c = aM k (rIx c) := by
    show aM k (rIx c - 0) = _; rw [sub_zero]
  have e2 : srcM (.cc k 0) c = aM k (rIx c) := by
    show aM k (rIx c + 0) = _; rw [add_zero]
  unfold sndPay
  rw [e1, e2]
  show _ ⊢ own c (aM k (rIx c)) fullShare (tot X Y k (atR c (rIx c)))
  rw [atR_self]
  exact (owns_halves _ _ _ _).2

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The slots named from one place round the ring are all the slots. -/
theorem around (c : Dev nD) (k : Fin 4) (r : Fin 8) :
    iprop(gat X Y c k r ∗ gat X Y c k (r + 1) ∗ gat X Y c k (r + 2) ∗ gat X Y c k (r + 3) ∗ gat X Y c k (r + 4) ∗ gat X Y c k (r + 5)
        ∗ gat X Y c k (r + 6) ∗ gat X Y c k (r + 7))
      = (iprop(gat X Y c k 0 ∗ gat X Y c k 1 ∗ gat X Y c k 2 ∗ gat X Y c k 3 ∗ gat X Y c k 4 ∗ gat X Y c k 5 ∗ gat X Y c k 6
        ∗ gat X Y c k 7) : sProp 𝕄) := by
  have h := bigSep_univ_equiv (Equiv.addLeft r) (fun j => gat X Y c k j)
  rw [bigSep_fin8, bigSep_fin8] at h
  rw [h]
  show _ = (iprop(gat X Y c k (r + 0) ∗ _) : sProp 𝕄)
  rw [add_zero]; rfl

theorem cM_any (c : Dev nD) (k s : Fin 4) (v : Vec F S1x1x256x128 .f32) : own c (cM k s) fullShare v ⊢ ownAny (F := F) c (cM k s) :=
  exists_intro (Φ := fun v => own (F := F) c (cM k s) fullShare v) v

theorem col_even (c : Dev nD) (k : Fin 4) (hk : k.val % 2 = 0) :
    (bigSep (colLinks k) fun l => sndPay X Y l c) = (iprop(sndPay X Y (.rs k 0) c ∗ sndPay X Y (.rs k 1) c ∗ sndPay X Y (.rs k 2) c ∗ sndPay X Y (.cw k 0) c ∗ sndPay X Y (.cc k 0) c ∗ sndPay X Y (.cw k 1) c ∗ sndPay X Y (.cw k 2) c ∗ sndPay X Y (.cw k 3) c ∗ sndPay X Y (.cc k 1) c ∗ sndPay X Y (.cc k 2) c) : sProp 𝕄) := by
  rw [bigSep_eq_bigSepL_of_eq (S := colLinks k) [.rs k 0, .rs k 1, .rs k 2, .cw k 0, .cc k 0, .cw k 1, .cw k 2, .cw k 3, .cc k 1, .cc k 2] (by revert k; decide +kernel) (by revert k; decide +kernel)]
  simp only [bigSepL_cons_cons, bigSepL_singleton]
  rfl
theorem col_odd (c : Dev nD) (k : Fin 4) (hk : k.val % 2 = 1) :
    (bigSep (colLinks k) fun l => sndPay X Y l c) = (iprop(sndPay X Y (.rs k 0) c ∗ sndPay X Y (.rs k 1) c ∗ sndPay X Y (.rs k 2) c ∗ sndPay X Y (.cw k 0) c ∗ sndPay X Y (.cc k 0) c ∗ sndPay X Y (.cw k 1) c ∗ sndPay X Y (.cw k 2) c ∗ sndPay X Y (.cc k 1) c ∗ sndPay X Y (.cc k 2) c ∗ sndPay X Y (.cc k 3) c) : sProp 𝕄) := by
  rw [bigSep_eq_bigSepL_of_eq (S := colLinks k) [.rs k 0, .rs k 1, .rs k 2, .cw k 0, .cc k 0, .cw k 1, .cw k 2, .cc k 1, .cc k 2, .cc k 3] (by revert k; decide +kernel) (by revert k; decide +kernel)]
  simp only [bigSepL_cons_cons, bigSepL_singleton]
  rfl

theorem take_column_even (c : Dev nD) (k : Fin 4) (n : ℕ) (hk : k.val % 2 = 0) (hn : n = 114 + 3 * k.val) :
    iprop(St X Y c n ∗ own c (cM k 3) fullShare (acc X Y k 2 (zl c)) ∗ rcvPay X Y (.cw k 3) c ∗ rcvPay X Y (.cc k 2) c)
      ⊢ iprop(St X Y c (n + 1) ∗ (gat X Y c k 0 ∗ gat X Y c k 1 ∗ gat X Y c k 2 ∗ gat X Y c k 3 ∗ gat X Y c k 4 ∗ gat X Y c k 5
          ∗ gat X Y c k 6 ∗ gat X Y c k 7) ∗ commDone (F := F) c k) := by
  have h := take_col X Y c k n hn
  rw [col_even X Y c k hk] at h
  rw [cw_gat X Y c k 1 7 (by decide) rfl, cw_gat X Y c k 2 6 (by decide) rfl, cw_gat X Y c k 3 5 (by decide) rfl, cc_gat X Y c k 1 (by decide),
    cc_gat X Y c k 2 (by decide), rs_own, rs_own, rs_own] at h
  rw [cw_in_gat X Y c k 3 4 rfl, cc_in_gat, ← around X Y c k (rIx c)]
  iintro ⟨HSt, C3, Gw, Gc⟩
  ihave H := h $$ HSt
  icases H with ⟨HSt, C0, C1, C2, Rw, Rc, G7, G6, G5, G1, G2⟩
  ihave G0 := (unlend X Y c k) $$ [Rw Rc]
  · isplitl [Rw]; · iexact Rw
    iexact Rc
  isplitl [HSt]; · iexact HSt
  isplitl [G0 G1 G2 G5 G6 G7 Gw Gc]
  · isplitl [G0]; · iexact G0
    isplitl [G1]; · iexact G1
    isplitl [G2]; · iexact G2
    isplitl [Gc]; · iexact Gc
    isplitl [Gw]; · iexact Gw
    isplitl [G5]; · iexact G5
    isplitl [G6]; · iexact G6
    iexact G7
  unfold commDone
  isplitl [C0]; · iapply (cM_any c k 0 (acc X Y k 0 c)); iexact C0
  isplitl [C1]; · iapply (cM_any c k 1 (acc X Y k 1 c)); iexact C1
  isplitl [C2]; · iapply (cM_any c k 2 (acc X Y k 2 c)); iexact C2
  iapply (cM_any c k 3 _); iexact C3

theorem take_column_odd (c : Dev nD) (k : Fin 4) (n : ℕ) (hk : k.val % 2 = 1) (hn : n = 114 + 3 * k.val) :
    iprop(St X Y c n ∗ own c (cM k 3) fullShare (acc X Y k 2 (zl c)) ∗ rcvPay X Y (.cw k 2) c ∗ rcvPay X Y (.cc k 3) c)
      ⊢ iprop(St X Y c (n + 1) ∗ (gat X Y c k 0 ∗ gat X Y c k 1 ∗ gat X Y c k 2 ∗ gat X Y c k 3 ∗ gat X Y c k 4 ∗ gat X Y c k 5
          ∗ gat X Y c k 6 ∗ gat X Y c k 7) ∗ commDone (F := F) c k) := by
  have h := take_col X Y c k n hn
  rw [col_odd X Y c k hk] at h
  rw [cw_gat X Y c k 1 7 (by decide) rfl, cw_gat X Y c k 2 6 (by decide) rfl, cc_gat X Y c k 1 (by decide), cc_gat X Y c k 2 (by decide),
    cc_gat X Y c k 3 (by decide), rs_own, rs_own, rs_own] at h
  rw [cw_in_gat X Y c k 2 5 rfl, cc_in_gat, ← around X Y c k (rIx c)]
  iintro ⟨HSt, C3, Gw, Gc⟩
  ihave H := h $$ HSt
  icases H with ⟨HSt, C0, C1, C2, Rw, Rc, G7, G6, G1, G2, G3⟩
  ihave G0 := (unlend X Y c k) $$ [Rw Rc]
  · isplitl [Rw]; · iexact Rw
    iexact Rc
  isplitl [HSt]; · iexact HSt
  isplitl [G0 G1 G2 G3 G6 G7 Gw Gc]
  · isplitl [G0]; · iexact G0
    isplitl [G1]; · iexact G1
    isplitl [G2]; · iexact G2
    isplitl [G3]; · iexact G3
    isplitl [Gc]; · iexact Gc
    isplitl [Gw]; · iexact Gw
    isplitl [G6]; · iexact G6
    iexact G7
  unfold commDone
  isplitl [C0]; · iapply (cM_any c k 0 (acc X Y k 0 c)); iexact C0
  isplitl [C1]; · iapply (cM_any c k 1 (acc X Y k 1 c)); iexact C1
  isplitl [C2]; · iapply (cM_any c k 2 (acc X Y k 2 c)); iexact C2
  iapply (cM_any c k 3 _); iexact C3

end Cert.Proof.Ring
-- ==== Proof.Ring.Bar.lean ====
/- The barrier the kernel opens with: each device hands its four neighbours the slots their transfers land
   in, and takes theirs. -/
module

public import proofs.«01_k».proof.Proof.Gen.KernelIdeal.Skeleton
public import proofs.«01_k».proof.Proof.Ring.Column

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .f32) (Y : Dev nD → Vec F S1024x512 .f32)

/-- The neighbours, in the order of the signals. -/
def nb : Fin 4 → Dev nD → Dev nD
  | 0 => zl
  | 1 => zr
  | 2 => rl
  | 3 => rr

/-- What a device owes before the barrier: its arrivals, and a unit on each neighbour's barrier. -/
def owedB (c : Dev nD) : CellTallies nD τ sig Unit :=
  owed c 0 + tallyAt (barCell (nb 3 c)) () 1 + tallyAt (barCell (nb 2 c)) () 1 + tallyAt (barCell (nb 1 c)) () 1 + tallyAt (barCell (nb 0 c)) () 1

/-- What a device holds of a transfer from the launch. -/
def linkTok (c : Dev nD) (l : Lk) : sProp 𝕄 :=
  iprop((dutyTok ER (sndCell l c) 0 0 ∗ dutyTok ER (rcvCell l (dstD l c)) 0 0 ∗ reached ER (sndCell l c) 0)
    ∗ atPos ER (sndCell l c) 0 ∅ 0 ∗ atPos ER (rcvCell l c) 0 ∅ 0 ∗ cred (tallyAt (rcvCell l c) () N))

def barPre (c : Dev nD) : sProp 𝕄 :=
  iprop((∃ W, owes (c : Thread nD τ) (owedB c) W) ∗ (bigSep Finset.univ fun d : Fin 4 => dutyTok ER (barCell (nb d c)) 0 d)
    ∗ cred (tallyAt (barCell c) () 4) ∗ atPos ER (barCell c) 0 ∅ 0 ∗ (bigSep links fun l => linkTok (F := F) c l)
    ∗ bigSep links fun l => inAny (F := F) l c)

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem lane_dst (l : Lk) (d : Fin 4) (h : l.lane = d) (c : Dev nD) : dstD l (nb d c) = c := by
  subst h
  cases l
  exacts [zr_zl c, rr_rl c, rl_rr c]

/-- The transfers, lane by lane. -/
theorem by_lane (Φ : Lk → sProp 𝕄) : bigSep links Φ = bigSep Finset.univ fun d : Fin 4 => bigSep (laneLinks d) Φ := by
  have h0 : laneLinks 1 = ∅ := by decide +kernel
  have h1 : links = laneLinks 0 ∪ (laneLinks 2 ∪ laneLinks 3) := by decide +kernel
  have h2 : Disjoint (laneLinks 0) (laneLinks 2 ∪ laneLinks 3) := by decide +kernel
  have h3 : Disjoint (laneLinks 2) (laneLinks 3) := by decide +kernel
  rw [fin4, h0, bigSep_empty]
  have e := bigSep_union (Φ := Φ) h2
  rw [bigSep_union (Φ := Φ) h3, ← h1] at e
  rw [e]
  refine Entails.antisymm ?_ ?_
  · show (iprop(_ ∗ _ ∗ _) : sProp 𝕄) ⊢ iprop(_ ∗ emp ∗ _ ∗ _)
    iintro ⟨H0, H2, H3⟩
    isplitl [H0]; · iexact H0
    isplitr; · iempintro
    isplitl [H2]; · iexact H2
    iexact H3
  · show (iprop(_ ∗ emp ∗ _ ∗ _) : sProp 𝕄) ⊢ iprop(_ ∗ _ ∗ _)
    iintro ⟨H0, -, H2, H3⟩
    isplitl [H0]; · iexact H0
    isplitl [H2]; · iexact H2
    iexact H3

/-- What a device's four payments hand over is its own landing slots. -/
theorem pays (c : Dev nD) : (bigSep links fun l => inAny (F := F) l c)
    = (iprop(barPay (F := F) (nb 0 c) 0 ∗ barPay (F := F) (nb 1 c) 1 ∗ barPay (F := F) (nb 2 c) 2 ∗ barPay (F := F) (nb 3 c) 3) : sProp 𝕄) := by
  rw [by_lane, ← fin4 (F := F) (fun d => barPay (F := F) (nb d c) d)]
  refine bigSep_congr fun d _ => bigSep_congr fun l hl => ?_
  rw [lane_dst l d (Finset.mem_filter.mp hl).2]

theorem paid (c : Dev nD) : (bigSep Finset.univ fun d => barPay (F := F) c d) = (bigSep links fun l => inAny (F := F) l (dstD l c) : sProp 𝕄) :=
  (by_lane _).symm

/-- With its neighbours' slots a device is at the start of its transfers. -/
theorem start (c : Dev nD) : iprop((∃ W, owes (c : Thread nD τ) (owed c 0) W) ∗ (bigSep links fun l => linkTok (F := F) c l)
    ∗ bigSep links fun l => inAny (F := F) l (dstD l c)) ⊢ St X Y c 0 := by
  unfold St
  iintro ⟨HO, HT, HI⟩
  isplitl [HO]; · iexact HO
  have h : iprop((bigSep links fun l => linkTok (F := F) c l) ∗ bigSep links fun l => inAny (F := F) l (dstD l c))
      ⊢ (bigSep links fun l => linkAt X Y c l (l.status 0) : sProp 𝕄) := by
    rw [← bigSep_sep']
    refine bigSep_mono fun l _ => ?_
    rw [show l.status 0 = 0 from if_pos (Nat.zero_le _), linkAt_0]
    unfold linkTok
    show (iprop(((_ ∗ _ ∗ _) ∗ _ ∗ _ ∗ _) ∗ _) : sProp 𝕄) ⊢ iprop((_ ∗ _ ∗ _ ∗ _) ∗ _ ∗ _ ∗ _)
    iintro ⟨⟨⟨H1, H2, H3⟩, H4, H5, H6⟩, H7⟩
    isplitl [H1 H2 H3 H7]
    · isplitl [H1]; · iexact H1
      isplitl [H2]; · iexact H2
      isplitl [H3]; · iexact H3
      iexact H7
    isplitl [H4]; · iexact H4
    isplitl [H5]; · iexact H5
    iexact H6
  iapply h
  isplitl [HT]; · iexact HT
  iexact HI

variable (κ : GSem nD τ sig → ℕ) (c : Dev nD) {α : Type}

theorem inv_bar (c : Dev nD) : records X Y κ ⊢ cellInv ER (sched X Y) (κ (barCell c)) (barCell c) := inv_at X Y κ (bar_mem c)

/-- One signal of the barrier. -/
theorem signal_step (d : Fin 4) {c' : Dev nD} (hc : c' = nb d c) (O : CellTallies nD τ sig Unit) (W : Waits sig Unit)
    {kk : PUnit → Prog (TpuEff nD τ sig (Elt F) Λ₀ .tc) α} {Q : α → sProp 𝕄} :
    iprop(records X Y κ ∗ owes (c : Thread nD τ) (O + tallyAt (barCell (nb d c)) () 1) W ∗ dutyTok ER (barCell (nb d c)) 0 d ∗ barPay (F := F) (nb d c) d)
      ⊢ iprop((owes (c : Thread nD τ) O W -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (c' : Thread nD τ) barS 1) kk) Q) := by
  subst hc
  iintro ⟨#HR, HO, Ht, Hp⟩ Hk
  ihave #I := (inv_bar X Y κ (nb d c)) $$ HR
  ihave #Hr := (reached_bar X Y κ (nb d c)) $$ HR
  iapply (Rounds.wp_signal 𝒱₀ ER (sched X Y) (c : Thread nD τ) none (dst := (nb d c : Thread nD τ)) (sem := barS) (r := 0) (d := d) (κ := κ (barCell (nb d c)))
    (by rw [duties_bar]; exact Finset.mem_univ _) rfl () O rfl) $$ [HO Ht Hp]
  · isplitr; · iexact I
    isplitl [HO]; · iexact HO
    isplitl [Ht]; · iexact Ht
    isplitl [Hp]; · rw [payload_bar]; iexact Hp
    iexact Hr
  iexact Hk

variable {a0 : Memref sig .tc .vmem S4x256x1024 .f32} {ha0 : a0.IsWhole} {a1 : Memref sig .tc .vmem S1024x512 .f32} {ha1 : a1.IsWhole}
  {a2 : Memref sig .tc .vmem S256x4096 .f32} {ha2 : a2.IsWhole} {hc : comm.IsWhole} {hg : gath.IsWhole} {hp : parts.IsWhole}

theorem part1 {kk : (Σ' (_ : Dev nD) (_ : BitVec 32) (_ : BitVec 32) (_ : BitVec 32) (_ : BitVec 32) (_ : BitVec 32) (_ : BitVec 32), BitVec 32)
      → Prog (TpuEff nD τ sig (Elt F) Λ₀ .tc) α} {Q : α → sProp 𝕄} :
    iprop(∀ w1 : BitVec 32, ∀ w2 : BitVec 32, ∀ w3 : BitVec 32, ∀ w4 : BitVec 32, ∀ w5 : BitVec 32, ∀ w6 : BitVec 32, ∀ w7 : BitVec 32,
      wp frame (wpE (defs₀ (F := F)) 𝒱₀ (c : Thread nD τ) none) Set.univ (kk ⟨c, w1, w2, w3, w4, w5, w6, w7⟩) Q)
    ⊢ wp frame (wpE (defs₀ (F := F)) 𝒱₀ (c : Thread nD τ) none) Set.univ (k0_part1 (F := F) a0 ha0 a1 ha1 a2 ha2 comm hc gath hg parts hp cc0_scratch3 cc0_scratch4 cc0_scratch5 cc0_scratch6 cc0_scratch7 cc0_scratch8 >>= kk) Q := by
  rw [k0_part1_eq_skeleton]; unfold k0_part1_skel
  simp only [Prog.lift, Prog.bind_op, Prog.bind_ret, Prog.pure_eq_ret, wp_deviceId]
  iintro Hk
  iapply Hk

theorem part2 {v11 c8 : BitVec 32} {kk : (Σ' (_ : BitVec 32) (_ : BitVec 32) (_ : BitVec 32) (_ : BitVec 32) (_ : Sems sig S_), BitVec 32)
      → Prog (TpuEff nD τ sig (Elt F) Λ₀ .tc) α} {Q : α → sProp 𝕄} :
    iprop(∀ w1 : BitVec 32, ∀ w2 : BitVec 32, ∀ w3 : BitVec 32, ∀ w4 : BitVec 32, ∀ w5 : BitVec 32,
      wp frame (wpE (defs₀ (F := F)) 𝒱₀ (c : Thread nD τ) none) Set.univ (kk ⟨w1, w2, w3, w4, SemArray.scalar (sig.barrier 0 rfl), w5⟩) Q)
    ⊢ wp frame (wpE (defs₀ (F := F)) 𝒱₀ (c : Thread nD τ) none) Set.univ (k0_part2 (F := F) a0 ha0 a1 ha1 a2 ha2 comm hc gath hg parts hp cc0_scratch3 cc0_scratch4 cc0_scratch5 cc0_scratch6 cc0_scratch7 cc0_scratch8 v11 c8 >>= kk) Q := by
  rw [k0_part2_eq_skeleton]; unfold k0_part2_skel
  simp only [Prog.bind_ret, Prog.pure_eq_ret]
  iintro Hk
  iapply Hk

theorem part3 {v2 v5 v8 v23 v34 v48 v51 v64 v67 c16 : BitVec 32} {kk : (Σ' (_ : BitVec 32) (_ : BitVec 32), BitVec 32)
      → Prog (TpuEff nD τ sig (Elt F) Λ₀ .tc) α} {Q : α → sProp 𝕄} :
    iprop(records X Y κ ∗ barPre (F := F) c ∗ (∀ w1 : BitVec 32, ∀ w2 : BitVec 32, ∀ w3 : BitVec 32, (St X Y c 0 ∗ atPos ER (barCell c) 1 ∅ 0) -∗
      wp frame (wpE (defs₀ (F := F)) 𝒱₀ (c : Thread nD τ) none) Set.univ (kk ⟨w1, w2, w3⟩) Q))
    ⊢ wp frame (wpE (defs₀ (F := F)) 𝒱₀ (c : Thread nD τ) none) Set.univ (k0_part3 (F := F) a0 ha0 a1 ha1 a2 ha2 comm hc gath hg parts hp cc0_scratch3 cc0_scratch4 cc0_scratch5 cc0_scratch6 cc0_scratch7 cc0_scratch8
        c v2 v5 v8 v23 v34 v48 v51 v64 v67 (SemArray.scalar (sig.barrier 0 rfl)) c16 >>= kk) Q := by
  rw [k0_part3_eq_skeleton]; unfold k0_part3_skel
  simp only [semSignalWord, semWaitWord, Prog.lift, Prog.bind_op, Prog.bind_ret, Prog.pure_eq_ret]
  unfold barPre owedB
  rw [fin4, pays]
  iintro ⟨#HR, ⟨⟨%W, HO⟩, ⟨T0, T1, T2, T3⟩, HC, HA, HL, ⟨P0, P1, P2, P3⟩⟩, Hk⟩
  iapply (signal_step X Y κ c 0 (dev_zl c) _ W) $$ [HO T0 P0]
  · isplitr; · iexact HR
    isplitl [HO]; · iexact HO
    isplitl [T0]; · iexact T0
    iexact P0
  iintro HO
  iapply (signal_step X Y κ c 1 (dev_zr c) _ W) $$ [HO T1 P1]
  · isplitr; · iexact HR
    isplitl [HO]; · iexact HO
    isplitl [T1]; · iexact T1
    iexact P1
  iintro HO
  iapply (signal_step X Y κ c 2 (dev_rl c) _ W) $$ [HO T2 P2]
  · isplitr; · iexact HR
    isplitl [HO]; · iexact HO
    isplitl [T2]; · iexact T2
    iexact P2
  iintro HO
  iapply (signal_step X Y κ c 3 (dev_rr c) _ W) $$ [HO T3 P3]
  · isplitr; · iexact HR
    isplitl [HO]; · iexact HO
    isplitl [T3]; · iexact T3
    iexact P3
  iintro HO
  ihave #I := (inv_bar X Y κ c) $$ HR
  iapply (Rounds.wp_wait_rest_token 𝒱₀ ER (sched X Y) (c : Thread nD τ) none (κ := κ (barCell c))
      (wpE_semWait_eq 𝒱₀ (c : Thread nD τ) none Set.univ) (Set.mem_univ _) () (O := owed c 0) (W := W) (R := 0) (m := 0) (T := ∅)
      ((Nat.zero_add 4).trans (expect_bar X Y c).symm)) $$ [HC HO HA]
  · isplitr; · iexact I
    isplitl [HC]; · iexact HC
    isplitl [HO]; · iexact HO
    isplitr; · iapply (mayWait_at X Y κ c 0 (.reg barS) 1 (le_refl _) (by omega)); iexact HR
    iexact HA
  iintro ⟨HO, HA, -, Hpay⟩
  ihave Hpay := (Entails.of_eq ((rest_bar X Y c).trans (paid c))) $$ Hpay
  iapply Hk
  isplitr [HA]
  · iapply (start X Y c)
    isplitl [HO]; · iexists _; iexact HO
    isplitl [HL]; · iexact HL
    iexact Hpay
  iexact HA

end Cert.Proof.Ring
-- ==== Proof.Ring.PartsA.lean ====
/- The parts of the body from number 4 to number 16, each with what it uses and what it leaves. -/
module

public import proofs.«01_k».proof.Proof.Gen.KernelIdeal.Skeleton
public import proofs.«01_k».proof.Proof.Ring.Column

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .f32) (Y : Dev nD → Vec F S1024x512 .f32)
variable (κ : GSem nD τ sig → ℕ) (c : Dev nD) {α : Type}

theorem part4 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {v96 : BitVec 32} {v97 : BitVec 32} {c0_i32_67 : BitVec 32} {kk : (BitVec 32) → Prog (TpuEff nD τ sig (Elt F) Λ₀ .tc) α} {Q : α → sProp 𝕄} :
    iprop(records X Y κ ∗ St X Y c 0 ∗ hasX X a0 c ∗ hasY Y a1 c ∗ ownAny (F := F) c (cM 0 0)
      ∗ (∀ w0 : BitVec 32, (St X Y c 1 ∗ hasX X a0 c ∗ hasY Y a1 c) -∗ wp frame (wpE (defs₀ (F := F)) 𝒱₀ (c : Thread nD τ) none) Set.univ (kk w0) Q))
    ⊢ wp frame (wpE (defs₀ (F := F)) 𝒱₀ (c : Thread nD τ) none) Set.univ (k0_part4 (F := F) a0 ha0 a1 ha1 a2 ha2 comm hc gath hg parts hp cc0_scratch3 cc0_scratch4 cc0_scratch5 cc0_scratch6 cc0_scratch7 cc0_scratch8 c v2 v5 v34 v96 v97 c0_i32_67 >>= kk) Q := by
  rw [k0_part4_eq_skeleton]; unfold k0_part4_skel
  simp only [Prog.lift, Prog.bind_op, Prog.bind_ret, Prog.pure_eq_ret]
  iintro ⟨#HR, HSt, HX, HY, C00, Hk⟩
  iapply (load_x X a0 c (k0_off1 c) (k0_off1_inb c)) $$ HX; iintro HX
  iapply (load_y Y a1 c 0 rfl) $$ HY; iintro HY
  ihave C00 := (show ownAny (F := F) c (cM 0 0) ⊢ iprop(∃ v, own (F := F) c (cM 0 0) fullShare v) from .rfl) $$ C00
  icases C00 with ⟨%xC00, C00⟩
  iapply (load_own c comm _ (fun _ => rfl) (m' := cM 0 0) rfl fullShare _) $$ C00; iintro C00
  iapply (store_own c comm _ (fun _ => rfl) (m' := cM 0 0) rfl _ _) $$ C00; iintro C00
  ihave C00 := (show own c (cM 0 0) fullShare (k0_pay2 (xRd (k0_off1 c) (k0_off1_inb c) (X c)) (yRd (yOff 0) (yOff_inb 0) (Y c))) ⊢ sndPay X Y (.rs 0 0) c from .rfl) $$ C00
  iapply (send_step X Y κ c 0 (.rs 0 0) rfl rfl rfl (dev5 c) rfl rfl rfl) $$ [HSt C00]
  · isplitr; · iexact HR
    isplitl [HSt]; · iexact HSt
    iexact C00
  iintro HSt
  iapply Hk
  isplitl [HSt]; · iexact HSt
  isplitl [HX]; · iexact HX
  iexact HY

theorem part5 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {v104 : BitVec 32} {kk : (FVec F S256x128 .f32) → Prog (TpuEff nD τ sig (Elt F) Λ₀ .tc) α} {Q : α → sProp 𝕄} :
    iprop(records X Y κ ∗ St X Y c 1 ∗ hasX X a0 c ∗ hasY Y a1 c ∗ ownAny (F := F) c (cM 1 0)
      ∗ ((St X Y c 2 ∗ hasX X a0 c ∗ hasY Y a1 c) -∗ wp frame (wpE (defs₀ (F := F)) 𝒱₀ (c : Thread nD τ) none) Set.univ (kk (k0_pay4 (xRd (k0_off1 c) (k0_off1_inb c) (X c)) (yRd (yOff 2) (yOff_inb 2) (Y c)))) Q))
    ⊢ wp frame (wpE (defs₀ (F := F)) 𝒱₀ (c : Thread nD τ) none) Set.univ (k0_part5 (F := F) a0 ha0 a1 ha1 a2 ha2 comm hc gath hg parts hp cc0_scratch3 cc0_scratch4 cc0_scratch5 cc0_scratch6 cc0_scratch7 cc0_scratch8 c v2 v5 v34 v104 >>= kk) Q := by
  rw [k0_part5_eq_skeleton]; unfold k0_part5_skel
  simp only [Prog.lift, Prog.bind_op, Prog.bind_ret, Prog.pure_eq_ret]
  iintro ⟨#HR, HSt, HX, HY, C10, Hk⟩
  iapply (load_x X a0 c (k0_off1 c) (k0_off1_inb c)) $$ HX; iintro HX
  iapply (load_y Y a1 c 1 rfl) $$ HY; iintro HY
  ihave C10 := (show ownAny (F := F) c (cM 1 0) ⊢ iprop(∃ v, own (F := F) c (cM 1 0) fullShare v) from .rfl) $$ C10
  icases C10 with ⟨%xC10, C10⟩
  iapply (load_own c comm _ (fun _ => rfl) (m' := cM 1 0) rfl fullShare _) $$ C10; iintro C10
  iapply (store_own c comm _ (fun _ => rfl) (m' := cM 1 0) rfl _ _) $$ C10; iintro C10
  ihave C10 := (show own c (cM 1 0) fullShare (k0_pay3 (xRd (k0_off1 c) (k0_off1_inb c) (X c)) (yRd (yOff 1) (yOff_inb 1) (Y c))) ⊢ sndPay X Y (.rs 1 0) c from .rfl) $$ C10
  iapply (send_step X Y κ c 1 (.rs 1 0) rfl rfl rfl (dev6 c) rfl rfl rfl) $$ [HSt C10]
  · isplitr; · iexact HR
    isplitl [HSt]; · iexact HSt
    iexact C10
  iintro HSt
  iapply (load_x X a0 c (k0_off1 c) (k0_off1_inb c)) $$ HX; iintro HX
  iapply (load_y Y a1 c 2 rfl) $$ HY; iintro HY
  iapply Hk
  isplitl [HSt]; · iexact HSt
  isplitl [HX]; · iexact HX
  iexact HY

theorem part6 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {v104 : BitVec 32} {kk : (PUnit) → Prog (TpuEff nD τ sig (Elt F) Λ₀ .tc) α} {Q : α → sProp 𝕄} :
    iprop(records X Y κ ∗ St X Y c 2 ∗ ownAny (F := F) c (cM 2 0) ∗ hasX X a0 c ∗ hasY Y a1 c ∗ ownAny (F := F) c (cM 3 0)
      ∗ ((St X Y c 3 ∗ hasX X a0 c ∗ hasY Y a1 c ∗ sndPay X Y (.rs 3 0) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part6 (F := F) a0 ha0 a1 ha1 a2 ha2 comm hc gath hg parts hp cc0_scratch3 cc0_scratch4 cc0_scratch5 cc0_scratch6 cc0_scratch7 cc0_scratch8 c v2 v5 v34 v104 ((k0_pay4 (xRd (k0_off1 c) (k0_off1_inb c) (X c)) (yRd (yOff 2) (yOff_inb 2) (Y c)))) >>= kk) Q := by
  rw [k0_part6_eq_skeleton]; unfold k0_part6_skel
  simp only [Prog.lift, Prog.bind_op, Prog.bind_ret, Prog.pure_eq_ret]
  iintro ⟨#HR, HSt, C20, HX, HY, C30, Hk⟩
  ihave C20 := (show ownAny (F := F) c (cM 2 0) ⊢ iprop(∃ v, own (F := F) c (cM 2 0) fullShare v) from .rfl) $$ C20
  icases C20 with ⟨%xC20, C20⟩
  iapply (load_own c comm _ (fun _ => rfl) (m' := cM 2 0) rfl fullShare _) $$ C20; iintro C20
  iapply (store_own c comm _ (fun _ => rfl) (m' := cM 2 0) rfl _ _) $$ C20; iintro C20
  ihave C20 := (show own c (cM 2 0) fullShare (k0_pay5 ((k0_pay4 (xRd (k0_off1 c) (k0_off1_inb c) (X c)) (yRd (yOff 2) (yOff_inb 2) (Y c))))) ⊢ sndPay X Y (.rs 2 0) c from .rfl) $$ C20
  iapply (send_step X Y κ c 2 (.rs 2 0) rfl rfl rfl (dev7 c) rfl rfl rfl) $$ [HSt C20]
  · isplitr; · iexact HR
    isplitl [HSt]; · iexact HSt
    iexact C20
  iintro HSt
  iapply (load_x X a0 c (k0_off1 c) (k0_off1_inb c)) $$ HX; iintro HX
  iapply (load_y Y a1 c 3 rfl) $$ HY; iintro HY
  ihave C30 := (show ownAny (F := F) c (cM 3 0) ⊢ iprop(∃ v, own (F := F) c (cM 3 0) fullShare v) from .rfl) $$ C30
  icases C30 with ⟨%xC30, C30⟩
  iapply (load_own c comm _ (fun _ => rfl) (m' := cM 3 0) rfl fullShare _) $$ C30; iintro C30
  iapply (store_own c comm _ (fun _ => rfl) (m' := cM 3 0) rfl _ _) $$ C30; iintro C30
  ihave C30 := (show own c (cM 3 0) fullShare (k0_pay6 (xRd (k0_off1 c) (k0_off1_inb c) (X c)) (yRd (yOff 3) (yOff_inb 3) (Y c))) ⊢ sndPay X Y (.rs 3 0) c from .rfl) $$ C30
  iapply Hk
  isplitl [HSt]; · iexact HSt
  isplitl [HX]; · iexact HX
  isplitl [HY]; · iexact HY
  iexact C30

theorem part7 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v8 : BitVec 32} {v34 : BitVec 32} {kk : (Σ' (v209 : BitVec 32) (v212 : FVec F S256x1024 .f32), FVec F S1024x128 .f32) → Prog (TpuEff nD τ sig (Elt F) Λ₀ .tc) α} {Q : α → sProp 𝕄} :
    iprop(records X Y κ ∗ St X Y c 3 ∗ sndPay X Y (.rs 3 0) c ∗ hasX X a0 c ∗ hasY Y a1 c
      ∗ (∀ w0 : BitVec 32, (St X Y c 4 ∗ hasX X a0 c ∗ hasY Y a1 c) -∗ wp frame (wpE (defs₀ (F := F)) 𝒱₀ (c : Thread nD τ) none) Set.univ (kk ⟨w0, k0_pay7 (xRd (k0_off2 c 0#32) (k0_off2_inb c 0) (X c)), k0_pay8 (yRd (yOff 0) (yOff_inb 0) (Y c))⟩) Q))
    ⊢ wp frame (wpE (defs₀ (F := F)) 𝒱₀ (c : Thread nD τ) none) Set.univ (k0_part7 (F := F) a0 ha0 a1 ha1 a2 ha2 comm hc gath hg parts hp cc0_scratch3 cc0_scratch4 cc0_scratch5 cc0_scratch6 cc0_scratch7 cc0_scratch8 c v2 v5 v8 v34 >>= kk) Q := by
  rw [k0_part7_eq_skeleton]; unfold k0_part7_skel
  simp only [Prog.lift, Prog.bind_op, Prog.bind_ret, Prog.pure_eq_ret]
  iintro ⟨#HR, HSt, C30, HX, HY, Hk⟩
  iapply (send_step X Y κ c 3 (.rs 3 0) rfl rfl rfl (dev8 c) rfl rfl rfl) $$ [HSt C30]
  · isplitr; · iexact HR
    isplitl [HSt]; · iexact HSt
    iexact C30
  iintro HSt
  iapply (load_x X a0 c (k0_off2 c 0#32) (k0_off2_inb c 0)) $$ HX; iintro HX
  iapply (load_y Y a1 c 0 rfl) $$ HY; iintro HY
  iapply Hk
  isplitl [HSt]; · iexact HSt
  isplitl [HX]; · iexact HX
  iexact HY

theorem part8 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v209 : BitVec 32} {kk : (Σ' (v242 : FVec F S256x128 .f32), Vec F S1x256x128 .f32) → Prog (TpuEff nD τ sig (Elt F) Λ₀ .tc) α} {Q : α → sProp 𝕄} :
    iprop(records X Y κ ∗ St X Y c 4 ∗ anyP (F := F) c 0 ∗ hasX X a0 c ∗ hasY Y a1 c ∗ anyP (F := F) c 1 ∗ anyP (F := F) c 2 ∗ anyP (F := F) c 3
      ∗ (∀ w1 : Vec F S1x256x128 .f32, (St X Y c 4 ∗ ownP c 0 (up3 (ctr X Y c 0 0)) ∗ hasX X a0 c ∗ hasY Y a1 c ∗ ownP c 1 (up3 (ctr X Y c 0 1)) ∗ ownP c 2 (up3 (ctr X Y c 0 2)) ∗ anyP (F := F) c 3) -∗ wp frame (wpE (defs₀ (F := F)) 𝒱₀ (c : Thread nD τ) none) Set.univ (kk ⟨k0_pay12 (xRd (k0_off2 c 0#32) (k0_off2_inb c 0) (X c)) (yRd (yOff 3) (yOff_inb 3) (Y c)), w1⟩) Q))
    ⊢ wp frame (wpE (defs₀ (F := F)) 𝒱₀ (c : Thread nD τ) none) Set.univ (k0_part8 (F := F) a0 ha0 a1 ha1 a2 ha2 comm hc gath hg parts hp cc0_scratch3 cc0_scratch4 cc0_scratch5 cc0_scratch6 cc0_scratch7 cc0_scratch8 c v209 (k0_pay7 (xRd (k0_off2 c 0#32) (k0_off2_inb c 0) (X c))) (k0_pay8 (yRd (yOff 0) (yOff_inb 0) (Y c))) >>= kk) Q := by
  rw [k0_part8_eq_skeleton]; unfold k0_part8_skel
  simp only [Prog.lift, Prog.bind_op, Prog.bind_ret, Prog.pure_eq_ret]
  iintro ⟨#HR, HSt, P0, HX, HY, P1, P2, P3, Hk⟩
  ihave P0 := (show anyP (F := F) c 0 ⊢ iprop(∃ v, ownP (F := F) c 0 v) from .rfl) $$ P0
  icases P0 with ⟨%xP0, P0⟩
  iapply (load_own c parts _ (fun _ => rfl) (m' := pM 0) rfl fullShare _) $$ P0; iintro P0
  iapply (store_own c parts _ (fun _ => rfl) (m' := pM 0) rfl _ _) $$ P0; iintro P0
  ihave P0 := (show ownP c 0 (k0_pay9 (k0_pay7 (xRd (k0_off2 c 0#32) (k0_off2_inb c 0) (X c))) (k0_pay8 (yRd (yOff 0) (yOff_inb 0) (Y c)))) ⊢ ownP c 0 (up3 (ctr X Y c 0 0)) from .rfl) $$ P0
  iapply (load_x X a0 c (k0_off2 c 0#32) (k0_off2_inb c 0)) $$ HX; iintro HX
  iapply (load_y Y a1 c 1 rfl) $$ HY; iintro HY
  ihave P1 := (show anyP (F := F) c 1 ⊢ iprop(∃ v, ownP (F := F) c 1 v) from .rfl) $$ P1
  icases P1 with ⟨%xP1, P1⟩
  iapply (load_own c parts _ (fun _ => rfl) (m' := pM 1) rfl fullShare _) $$ P1; iintro P1
  iapply (store_own c parts _ (fun _ => rfl) (m' := pM 1) rfl _ _) $$ P1; iintro P1
  ihave P1 := (show ownP c 1 (k0_pay10 (xRd (k0_off2 c 0#32) (k0_off2_inb c 0) (X c)) (yRd (yOff 1) (yOff_inb 1) (Y c))) ⊢ ownP c 1 (up3 (ctr X Y c 0 1)) from .rfl) $$ P1
  iapply (load_x X a0 c (k0_off2 c 0#32) (k0_off2_inb c 0)) $$ HX; iintro HX
  iapply (load_y Y a1 c 2 rfl) $$ HY; iintro HY
  ihave P2 := (show anyP (F := F) c 2 ⊢ iprop(∃ v, ownP (F := F) c 2 v) from .rfl) $$ P2
  icases P2 with ⟨%xP2, P2⟩
  iapply (load_own c parts _ (fun _ => rfl) (m' := pM 2) rfl fullShare _) $$ P2; iintro P2
  iapply (store_own c parts _ (fun _ => rfl) (m' := pM 2) rfl _ _) $$ P2; iintro P2
  ihave P2 := (show ownP c 2 (k0_pay11 (xRd (k0_off2 c 0#32) (k0_off2_inb c 0) (X c)) (yRd (yOff 2) (yOff_inb 2) (Y c))) ⊢ ownP c 2 (up3 (ctr X Y c 0 2)) from .rfl) $$ P2
  iapply (load_x X a0 c (k0_off2 c 0#32) (k0_off2_inb c 0)) $$ HX; iintro HX
  iapply (load_y Y a1 c 3 rfl) $$ HY; iintro HY
  ihave P3 := (show anyP (F := F) c 3 ⊢ iprop(∃ v, ownP (F := F) c 3 v) from .rfl) $$ P3
  icases P3 with ⟨%xP3, P3⟩
  iapply (load_own c parts _ (fun _ => rfl) (m' := pM 3) rfl fullShare _) $$ P3; iintro P3
  ihave P3 := (show ownP c 3 xP3 ⊢ anyP (F := F) c 3 from exists_intro _) $$ P3
  iapply Hk
  isplitl [HSt]; · iexact HSt
  isplitl [P0]; · iexact P0
  isplitl [HX]; · iexact HX
  isplitl [HY]; · iexact HY
  isplitl [P1]; · iexact P1
  isplitl [P2]; · iexact P2
  iexact P3

theorem part9 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {v243 : Vec F S1x256x128 .f32} {kk : (FVec F S256x128 .f32) → Prog (TpuEff nD τ sig (Elt F) Λ₀ .tc) α} {Q : α → sProp 𝕄} :
    iprop(records X Y κ ∗ St X Y c 4 ∗ anyP (F := F) c 3
      ∗ ((St X Y c 6 ∗ ownP c 3 (up3 (ctr X Y c 0 3)) ∗ own c (cM 0 1) fullShare (acc X Y 0 0 (zl c))) -∗ wp frame (wpE (defs₀ (F := F)) 𝒱₀ (c : Thread nD τ) none) Set.univ (kk (k0_pay14 (acc X Y 0 0 (zl c)))) Q))
    ⊢ wp frame (wpE (defs₀ (F := F)) 𝒱₀ (c : Thread nD τ) none) Set.univ (k0_part9 (F := F) a0 ha0 a1 ha1 a2 ha2 comm hc gath hg parts hp cc0_scratch3 cc0_scratch4 cc0_scratch5 cc0_scratch6 cc0_scratch7 cc0_scratch8 v2 v5 v34 (k0_pay12 (xRd (k0_off2 c 0#32) (k0_off2_inb c 0) (X c)) (yRd (yOff 3) (yOff_inb 3) (Y c))) v243 >>= kk) Q := by
  rw [k0_part9_eq_skeleton]; unfold k0_part9_skel
  simp only [Prog.lift, Prog.bind_op, Prog.bind_ret, Prog.pure_eq_ret]
  iintro ⟨#HR, HSt, P3, Hk⟩
  ihave P3 := (show anyP (F := F) c 3 ⊢ iprop(∃ v, ownP (F := F) c 3 v) from .rfl) $$ P3
  icases P3 with ⟨%xP3, P3⟩
  iapply (store_own c parts _ (fun _ => rfl) (m' := pM 3) rfl _ _) $$ P3; iintro P3
  ihave P3 := (show ownP c 3 (k0_pay13 (k0_pay12 (xRd (k0_off2 c 0#32) (k0_off2_inb c 0) (X c)) (yRd (yOff 3) (yOff_inb 3) (Y c)))) ⊢ ownP c 3 (up3 (ctr X Y c 0 3)) from .rfl) $$ P3
  iapply (wait_snd X Y κ c 4 (.rs 0 0) rfl rfl rfl) $$ [HSt]
  · isplitr; · iexact HR
    iexact HSt
  iintro HSt
  iapply (wait_rcv X Y κ c 5 (.rs 0 0) rfl rfl rfl) $$ [HSt]
  · isplitr; · iexact HR
    iexact HSt
  iintro ⟨HSt, C01⟩
  ihave C01 := (show rcvPay X Y (.rs 0 0) c ⊢ own c (cM 0 1) fullShare (acc X Y 0 0 (zl c)) from .rfl) $$ C01
  iapply (load_own c comm _ (fun _ => rfl) (m' := cM 0 1) rfl fullShare _) $$ C01; iintro C01
  iapply Hk
  isplitl [HSt]; · iexact HSt
  isplitl [P3]; · iexact P3
  iexact C01

theorem part10 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {kk : (PUnit) → Prog (TpuEff nD τ sig (Elt F) Λ₀ .tc) α} {Q : α → sProp 𝕄} :
    iprop(records X Y κ ∗ St X Y c 6 ∗ ownP c 0 (up3 (ctr X Y c 0 0)) ∗ own c (cM 0 1) fullShare (acc X Y 0 0 (zl c))
      ∗ ((St X Y c 7 ∗ ownP c 0 (up3 (ctr X Y c 0 0))) -∗ wp frame (wpE (defs₀ (F := F)) 𝒱₀ (c : Thread nD τ) none) Set.univ (kk ⟨⟩) Q))
    ⊢ wp frame (wpE (defs₀ (F := F)) 𝒱₀ (c : Thread nD τ) none) Set.univ (k0_part10 (F := F) a0 ha0 a1 ha1 a2 ha2 comm hc gath hg parts hp cc0_scratch3 cc0_scratch4 cc0_scratch5 cc0_scratch6 cc0_scratch7 cc0_scratch8 c v2 v5 v34 ((k0_pay14 (acc X Y 0 0 (zl c)))) >>= kk) Q := by
  rw [k0_part10_eq_skeleton]; unfold k0_part10_skel
  simp only [Prog.lift, Prog.bind_op, Prog.bind_ret, Prog.pure_eq_ret]
  iintro ⟨#HR, HSt, P0, C01, Hk⟩
  iapply (load_own c parts _ (fun _ => rfl) (m' := pM 0) rfl fullShare _) $$ P0; iintro P0
  iapply (load_own c comm _ (fun _ => rfl) (m' := cM 0 1) rfl fullShare _) $$ C01; iintro C01
  iapply (store_own c comm _ (fun _ => rfl) (m' := cM 0 1) rfl _ _) $$ C01; iintro C01
  ihave C01 := (show own c (cM 0 1) fullShare (k0_pay15 ((k0_pay14 (acc X Y 0 0 (zl c)))) (up3 (ctr X Y c 0 0))) ⊢ sndPay X Y (.rs 0 1) c from .rfl) $$ C01
  iapply (send_step X Y κ c 6 (.rs 0 1) rfl rfl rfl (dev9 c) rfl rfl rfl) $$ [HSt C01]
  · isplitr; · iexact HR
    isplitl [HSt]; · iexact HSt
    iexact C01
  iintro HSt
  iapply Hk
  isplitl [HSt]; · iexact HSt
  iexact P0

theorem part11 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {kk : (PUnit) → Prog (TpuEff nD τ sig (Elt F) Λ₀ .tc) α} {Q : α → sProp 𝕄} :
    iprop(records X Y κ ∗ St X Y c 7 ∗ ownP c 1 (up3 (ctr X Y c 0 1))
      ∗ ((St X Y c 9 ∗ ownP c 1 (up3 (ctr X Y c 0 1)) ∗ sndPay X Y (.rs 1 1) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part11 (F := F) a0 ha0 a1 ha1 a2 ha2 comm hc gath hg parts hp cc0_scratch3 cc0_scratch4 cc0_scratch5 cc0_scratch6 cc0_scratch7 cc0_scratch8 v2 v5 v34 >>= kk) Q := by
  rw [k0_part11_eq_skeleton]; unfold k0_part11_skel
  simp only [Prog.lift, Prog.bind_op, Prog.bind_ret, Prog.pure_eq_ret]
  iintro ⟨#HR, HSt, P1, Hk⟩
  iapply (wait_snd X Y κ c 7 (.rs 1 0) rfl rfl rfl) $$ [HSt]
  · isplitr; · iexact HR
    iexact HSt
  iintro HSt
  iapply (wait_rcv X Y κ c 8 (.rs 1 0) rfl rfl rfl) $$ [HSt]
  · isplitr; · iexact HR
    iexact HSt
  iintro ⟨HSt, C11⟩
  ihave C11 := (show rcvPay X Y (.rs 1 0) c ⊢ own c (cM 1 1) fullShare (acc X Y 1 0 (zl c)) from .rfl) $$ C11
  iapply (load_own c comm _ (fun _ => rfl) (m' := cM 1 1) rfl fullShare _) $$ C11; iintro C11
  iapply (load_own c parts _ (fun _ => rfl) (m' := pM 1) rfl fullShare _) $$ P1; iintro P1
  iapply (load_own c comm _ (fun _ => rfl) (m' := cM 1 1) rfl fullShare _) $$ C11; iintro C11
  iapply (store_own c comm _ (fun _ => rfl) (m' := cM 1 1) rfl _ _) $$ C11; iintro C11
  ihave C11 := (show own c (cM 1 1) fullShare (k0_pay16 (acc X Y 1 0 (zl c)) (up3 (ctr X Y c 0 1))) ⊢ sndPay X Y (.rs 1 1) c from .rfl) $$ C11
  iapply Hk
  isplitl [HSt]; · iexact HSt
  isplitl [P1]; · iexact P1
  iexact C11

theorem part12 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {kk : (Σ' (v335 : BitVec 32), BitVec 32) → Prog (TpuEff nD τ sig (Elt F) Λ₀ .tc) α} {Q : α → sProp 𝕄} :
    iprop(records X Y κ ∗ St X Y c 9 ∗ sndPay X Y (.rs 1 1) c
      ∗ (∀ w0 : BitVec 32, ∀ w1 : BitVec 32, (St X Y c 11) -∗ wp frame (wpE (defs₀ (F := F)) 𝒱₀ (c : Thread nD τ) none) Set.univ (kk ⟨w0, w1⟩) Q))
    ⊢ wp frame (wpE (defs₀ (F := F)) 𝒱₀ (c : Thread nD τ) none) Set.univ (k0_part12 (F := F) a0 ha0 a1 ha1 a2 ha2 comm hc gath hg parts hp cc0_scratch3 cc0_scratch4 cc0_scratch5 cc0_scratch6 cc0_scratch7 cc0_scratch8 c v2 v5 v34 >>= kk) Q := by
  rw [k0_part12_eq_skeleton]; unfold k0_part12_skel
  simp only [Prog.lift, Prog.bind_op, Prog.bind_ret, Prog.pure_eq_ret]
  iintro ⟨#HR, HSt, C11, Hk⟩
  iapply (send_step X Y κ c 9 (.rs 1 1) rfl rfl rfl (dev10 c) rfl rfl rfl) $$ [HSt C11]
  · isplitr; · iexact HR
    isplitl [HSt]; · iexact HSt
    iexact C11
  iintro HSt
  iapply (wait_snd X Y κ c 10 (.rs 2 0) rfl rfl rfl) $$ [HSt]
  · isplitr; · iexact HR
    iexact HSt
  iintro HSt
  iapply Hk
  iexact HSt

theorem part13 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {v335 : BitVec 32} {v336 : BitVec 32} {kk : (PUnit) → Prog (TpuEff nD τ sig (Elt F) Λ₀ .tc) α} {Q : α → sProp 𝕄} :
    iprop(records X Y κ ∗ St X Y c 11 ∗ ownP c 2 (up3 (ctr X Y c 0 2))
      ∗ ((St X Y c 12 ∗ ownP c 2 (up3 (ctr X Y c 0 2)) ∗ sndPay X Y (.rs 2 1) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part13 (F := F) a0 ha0 a1 ha1 a2 ha2 comm hc gath hg parts hp cc0_scratch3 cc0_scratch4 cc0_scratch5 cc0_scratch6 cc0_scratch7 cc0_scratch8 v2 v5 v34 v335 v336 >>= kk) Q := by
  rw [k0_part13_eq_skeleton]; unfold k0_part13_skel
  simp only [Prog.lift, Prog.bind_op, Prog.bind_ret, Prog.pure_eq_ret]
  iintro ⟨#HR, HSt, P2, Hk⟩
  iapply (wait_rcv X Y κ c 11 (.rs 2 0) rfl rfl rfl) $$ [HSt]
  · isplitr; · iexact HR
    iexact HSt
  iintro ⟨HSt, C21⟩
  ihave C21 := (show rcvPay X Y (.rs 2 0) c ⊢ own c (cM 2 1) fullShare (acc X Y 2 0 (zl c)) from .rfl) $$ C21
  iapply (load_own c comm _ (fun _ => rfl) (m' := cM 2 1) rfl fullShare _) $$ C21; iintro C21
  iapply (load_own c parts _ (fun _ => rfl) (m' := pM 2) rfl fullShare _) $$ P2; iintro P2
  iapply (load_own c comm _ (fun _ => rfl) (m' := cM 2 1) rfl fullShare _) $$ C21; iintro C21
  iapply (store_own c comm _ (fun _ => rfl) (m' := cM 2 1) rfl _ _) $$ C21; iintro C21
  ihave C21 := (show own c (cM 2 1) fullShare (k0_pay17 (acc X Y 2 0 (zl c)) (up3 (ctr X Y c 0 2))) ⊢ sndPay X Y (.rs 2 1) c from .rfl) $$ C21
  iapply Hk
  isplitl [HSt]; · iexact HSt
  isplitl [P2]; · iexact P2
  iexact C21

theorem part14 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {kk : (FVec F S256x128 .f32) → Prog (TpuEff nD τ sig (Elt F) Λ₀ .tc) α} {Q : α → sProp 𝕄} :
    iprop(records X Y κ ∗ St X Y c 12 ∗ sndPay X Y (.rs 2 1) c
      ∗ ((St X Y c 15 ∗ own c (cM 3 1) fullShare (acc X Y 3 0 (zl c))) -∗ wp frame (wpE (defs₀ (F := F)) 𝒱₀ (c : Thread nD τ) none) Set.univ (kk (k0_pay18 (acc X Y 3 0 (zl c)))) Q))
    ⊢ wp frame (wpE (defs₀ (F := F)) 𝒱₀ (c : Thread nD τ) none) Set.univ (k0_part14 (F := F) a0 ha0 a1 ha1 a2 ha2 comm hc gath hg parts hp cc0_scratch3 cc0_scratch4 cc0_scratch5 cc0_scratch6 cc0_scratch7 cc0_scratch8 c v2 v5 v34 >>= kk) Q := by
  rw [k0_part14_eq_skeleton]; unfold k0_part14_skel
  simp only [Prog.lift, Prog.bind_op, Prog.bind_ret, Prog.pure_eq_ret]
  iintro ⟨#HR, HSt, C21, Hk⟩
  iapply (send_step X Y κ c 12 (.rs 2 1) rfl rfl rfl (dev11 c) rfl rfl rfl) $$ [HSt C21]
  · isplitr; · iexact HR
    isplitl [HSt]; · iexact HSt
    iexact C21
  iintro HSt
  iapply (wait_snd X Y κ c 13 (.rs 3 0) rfl rfl rfl) $$ [HSt]
  · isplitr; · iexact HR
    iexact HSt
  iintro HSt
  iapply (wait_rcv X Y κ c 14 (.rs 3 0) rfl rfl rfl) $$ [HSt]
  · isplitr; · iexact HR
    iexact HSt
  iintro ⟨HSt, C31⟩
  ihave C31 := (show rcvPay X Y (.rs 3 0) c ⊢ own c (cM 3 1) fullShare (acc X Y 3 0 (zl c)) from .rfl) $$ C31
  iapply (load_own c comm _ (fun _ => rfl) (m' := cM 3 1) rfl fullShare _) $$ C31; iintro C31
  iapply Hk
  isplitl [HSt]; · iexact HSt
  iexact C31

theorem part15 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v8 : BitVec 32} {v34 : BitVec 32} {kk : (Σ' (v410 : BitVec 32) (v411 : BitVec 32) (v412 : BitVec 1) (v413 : BitVec 1), BitVec 32) → Prog (TpuEff nD τ sig (Elt F) Λ₀ .tc) α} {Q : α → sProp 𝕄} :
    iprop(records X Y κ ∗ St X Y c 15 ∗ ownP c 3 (up3 (ctr X Y c 0 3)) ∗ own c (cM 3 1) fullShare (acc X Y 3 0 (zl c))
      ∗ (∀ w0 : BitVec 32, ∀ w1 : BitVec 32, ∀ w2 : BitVec 1, ∀ w3 : BitVec 1, ∀ w4 : BitVec 32, (St X Y c 16 ∗ ownP c 3 (up3 (ctr X Y c 0 3))) -∗ wp frame (wpE (defs₀ (F := F)) 𝒱₀ (c : Thread nD τ) none) Set.univ (kk ⟨w0, w1, w2, w3, w4⟩) Q))
    ⊢ wp frame (wpE (defs₀ (F := F)) 𝒱₀ (c : Thread nD τ) none) Set.univ (k0_part15 (F := F) a0 ha0 a1 ha1 a2 ha2 comm hc gath hg parts hp cc0_scratch3 cc0_scratch4 cc0_scratch5 cc0_scratch6 cc0_scratch7 cc0_scratch8 c v2 v5 v8 v34 ((k0_pay18 (acc X Y 3 0 (zl c)))) >>= kk) Q := by
  rw [k0_part15_eq_skeleton]; unfold k0_part15_skel
  simp only [Prog.lift, Prog.bind_op, Prog.bind_ret, Prog.pure_eq_ret]
  iintro ⟨#HR, HSt, P3, C31, Hk⟩
  iapply (load_own c parts _ (fun _ => rfl) (m' := pM 3) rfl fullShare _) $$ P3; iintro P3
  iapply (load_own c comm _ (fun _ => rfl) (m' := cM 3 1) rfl fullShare _) $$ C31; iintro C31
  iapply (store_own c comm _ (fun _ => rfl) (m' := cM 3 1) rfl _ _) $$ C31; iintro C31
  ihave C31 := (show own c (cM 3 1) fullShare (k0_pay19 ((k0_pay18 (acc X Y 3 0 (zl c)))) (up3 (ctr X Y c 0 3))) ⊢ sndPay X Y (.rs 3 1) c from .rfl) $$ C31
  iapply (send_step X Y κ c 15 (.rs 3 1) rfl rfl rfl (dev12 c) rfl rfl rfl) $$ [HSt C31]
  · isplitr; · iexact HR
    isplitl [HSt]; · iexact HSt
    iexact C31
  iintro HSt
  iapply Hk
  isplitl [HSt]; · iexact HSt
  iexact P3

theorem part16 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v410 : BitVec 32} {v411 : BitVec 32} {v412 : BitVec 1} {v413 : BitVec 1} {c0_i32_434 : BitVec 32} {kk : (PUnit) → Prog (TpuEff nD τ sig (Elt F) Λ₀ .tc) α} {Q : α → sProp 𝕄} :
    iprop(records X Y κ ∗ St X Y c 16 ∗ hasX X a0 c ∗ hasY Y a1 c ∗ ownP c 0 (up3 (ctr X Y c 0 0)) ∗ ownP c 1 (up3 (ctr X Y c 0 1)) ∗ ownP c 2 (up3 (ctr X Y c 0 2))
      ∗ ((St X Y c 16 ∗ hasX X a0 c ∗ hasY Y a1 c ∗ ownP c 0 (up3 (ctr X Y c 1 0)) ∗ ownP c 1 (up3 (ctr X Y c 1 1)) ∗ ownP c 2 (up3 (ctr X Y c 1 2))) -∗ wp frame (wpE (defs₀ (F := F)) 𝒱₀ (c : Thread nD τ) none) Set.univ (kk ⟨⟩) Q))
    ⊢ wp frame (wpE (defs₀ (F := F)) 𝒱₀ (c : Thread nD τ) none) Set.univ (k0_part16 (F := F) a0 ha0 a1 ha1 a2 ha2 comm hc gath hg parts hp cc0_scratch3 cc0_scratch4 cc0_scratch5 cc0_scratch6 cc0_scratch7 cc0_scratch8 c v410 v411 v412 v413 c0_i32_434 >>= kk) Q := by
  rw [k0_part16_eq_skeleton]; unfold k0_part16_skel
  simp only [Prog.lift, Prog.bind_op, Prog.bind_ret, Prog.pure_eq_ret]
  iintro ⟨#HR, HSt, HX, HY, P0, P1, P2, Hk⟩
  iapply (load_x X a0 c (k0_off2 c 1#32) (k0_off2_inb c 1)) $$ HX; iintro HX
  iapply (load_y Y a1 c 0 rfl) $$ HY; iintro HY
  iapply (load_own c parts _ (fun _ => rfl) (m' := pM 0) rfl fullShare _) $$ P0; iintro P0
  iapply (store_own c parts _ (fun _ => rfl) (m' := pM 0) rfl _ _) $$ P0; iintro P0
  ihave P0 := (show ownP c 0 (k0_pay20 (xRd (k0_off2 c 1#32) (k0_off2_inb c 1) (X c)) (yRd (yOff 0) (yOff_inb 0) (Y c))) ⊢ ownP c 0 (up3 (ctr X Y c 1 0)) from .rfl) $$ P0
  iapply (load_x X a0 c (k0_off2 c 1#32) (k0_off2_inb c 1)) $$ HX; iintro HX
  iapply (load_y Y a1 c 1 rfl) $$ HY; iintro HY
  iapply (load_own c parts _ (fun _ => rfl) (m' := pM 1) rfl fullShare _) $$ P1; iintro P1
  iapply (store_own c parts _ (fun _ => rfl) (m' := pM 1) rfl _ _) $$ P1; iintro P1
  ihave P1 := (show ownP c 1 (k0_pay21 (xRd (k0_off2 c 1#32) (k0_off2_inb c 1) (X c)) (yRd (yOff 1) (yOff_inb 1) (Y c))) ⊢ ownP c 1 (up3 (ctr X Y c 1 1)) from .rfl) $$ P1
  iapply (load_x X a0 c (k0_off2 c 1#32) (k0_off2_inb c 1)) $$ HX; iintro HX
  iapply (load_y Y a1 c 2 rfl) $$ HY; iintro HY
  iapply (load_own c parts _ (fun _ => rfl) (m' := pM 2) rfl fullShare _) $$ P2; iintro P2
  iapply (store_own c parts _ (fun _ => rfl) (m' := pM 2) rfl _ _) $$ P2; iintro P2
  ihave P2 := (show ownP c 2 (k0_pay22 (xRd (k0_off2 c 1#32) (k0_off2_inb c 1) (X c)) (yRd (yOff 2) (yOff_inb 2) (Y c))) ⊢ ownP c 2 (up3 (ctr X Y c 1 2)) from .rfl) $$ P2
  iapply Hk
  isplitl [HSt]; · iexact HSt
  isplitl [HX]; · iexact HX
  isplitl [HY]; · iexact HY
  isplitl [P0]; · iexact P0
  isplitl [P1]; · iexact P1
  iexact P2

end Cert.Proof.Ring
-- ==== Proof.Ring.PartsB.lean ====
/- The parts of the body from number 17 to number 30, each with what it uses and what it leaves. -/
module

public import proofs.«01_k».proof.Proof.Gen.KernelIdeal.Skeleton
public import proofs.«01_k».proof.Proof.Ring.Column

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .f32) (Y : Dev nD → Vec F S1024x512 .f32)
variable (κ : GSem nD τ sig → ℕ) (c : Dev nD) {α : Type}

theorem part17 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {kk : (PUnit) → Prog (TpuEff nD τ sig (Elt F) Λ₀ .tc) α} {Q : α → sProp 𝕄} :
    iprop(records X Y κ ∗ St X Y c 16 ∗ hasX X a0 c ∗ hasY Y a1 c ∗ ownP c 3 (up3 (ctr X Y c 0 3))
      ∗ ((St X Y c 17 ∗ hasX X a0 c ∗ hasY Y a1 c ∗ ownP c 3 (up3 (ctr X Y c 1 3))) -∗ wp frame (wpE (defs₀ (F := F)) 𝒱₀ (c : Thread nD τ) none) Set.univ (kk ⟨⟩) Q))
    ⊢ wp frame (wpE (defs₀ (F := F)) 𝒱₀ (c : Thread nD τ) none) Set.univ (k0_part17 (F := F) a0 ha0 a1 ha1 a2 ha2 comm hc gath hg parts hp cc0_scratch3 cc0_scratch4 cc0_scratch5 cc0_scratch6 cc0_scratch7 cc0_scratch8 c v2 v5 v34 >>= kk) Q := by
  rw [k0_part17_eq_skeleton]; unfold k0_part17_skel
  simp only [Prog.lift, Prog.bind_op, Prog.bind_ret, Prog.pure_eq_ret]
  iintro ⟨#HR, HSt, HX, HY, P3, Hk⟩
  iapply (load_x X a0 c (k0_off2 c 1#32) (k0_off2_inb c 1)) $$ HX; iintro HX
  iapply (load_y Y a1 c 3 rfl) $$ HY; iintro HY
  iapply (load_own c parts _ (fun _ => rfl) (m' := pM 3) rfl fullShare _) $$ P3; iintro P3
  iapply (store_own c parts _ (fun _ => rfl) (m' := pM 3) rfl _ _) $$ P3; iintro P3
  ihave P3 := (show ownP c 3 (k0_pay23 (xRd (k0_off2 c 1#32) (k0_off2_inb c 1) (X c)) (yRd (yOff 3) (yOff_inb 3) (Y c))) ⊢ ownP c 3 (up3 (ctr X Y c 1 3)) from .rfl) $$ P3
  iapply (wait_snd X Y κ c 16 (.rs 0 1) rfl rfl rfl) $$ [HSt]
  · isplitr; · iexact HR
    iexact HSt
  iintro HSt
  iapply Hk
  isplitl [HSt]; · iexact HSt
  isplitl [HX]; · iexact HX
  isplitl [HY]; · iexact HY
  iexact P3

theorem part18 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {kk : (PUnit) → Prog (TpuEff nD τ sig (Elt F) Λ₀ .tc) α} {Q : α → sProp 𝕄} :
    iprop(records X Y κ ∗ St X Y c 17 ∗ ownP c 0 (up3 (ctr X Y c 1 0))
      ∗ ((St X Y c 19 ∗ ownP c 0 (up3 (ctr X Y c 1 0))) -∗ wp frame (wpE (defs₀ (F := F)) 𝒱₀ (c : Thread nD τ) none) Set.univ (kk ⟨⟩) Q))
    ⊢ wp frame (wpE (defs₀ (F := F)) 𝒱₀ (c : Thread nD τ) none) Set.univ (k0_part18 (F := F) a0 ha0 a1 ha1 a2 ha2 comm hc gath hg parts hp cc0_scratch3 cc0_scratch4 cc0_scratch5 cc0_scratch6 cc0_scratch7 cc0_scratch8 c v2 v5 v34 >>= kk) Q := by
  rw [k0_part18_eq_skeleton]; unfold k0_part18_skel
  simp only [Prog.lift, Prog.bind_op, Prog.bind_ret, Prog.pure_eq_ret]
  iintro ⟨#HR, HSt, P0, Hk⟩
  iapply (wait_rcv X Y κ c 17 (.rs 0 1) rfl rfl rfl) $$ [HSt]
  · isplitr; · iexact HR
    iexact HSt
  iintro ⟨HSt, C02⟩
  ihave C02 := (show rcvPay X Y (.rs 0 1) c ⊢ own c (cM 0 2) fullShare (acc X Y 0 1 (zl c)) from .rfl) $$ C02
  iapply (load_own c comm _ (fun _ => rfl) (m' := cM 0 2) rfl fullShare _) $$ C02; iintro C02
  iapply (load_own c parts _ (fun _ => rfl) (m' := pM 0) rfl fullShare _) $$ P0; iintro P0
  iapply (load_own c comm _ (fun _ => rfl) (m' := cM 0 2) rfl fullShare _) $$ C02; iintro C02
  iapply (store_own c comm _ (fun _ => rfl) (m' := cM 0 2) rfl _ _) $$ C02; iintro C02
  ihave C02 := (show own c (cM 0 2) fullShare (k0_pay24 (acc X Y 0 1 (zl c)) (up3 (ctr X Y c 1 0))) ⊢ sndPay X Y (.rs 0 2) c from .rfl) $$ C02
  iapply (send_step X Y κ c 18 (.rs 0 2) rfl rfl rfl (dev13 c) rfl rfl rfl) $$ [HSt C02]
  · isplitr; · iexact HR
    isplitl [HSt]; · iexact HSt
    iexact C02
  iintro HSt
  iapply Hk
  isplitl [HSt]; · iexact HSt
  iexact P0

theorem part19 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {kk : (FVec F S256x128 .f32) → Prog (TpuEff nD τ sig (Elt F) Λ₀ .tc) α} {Q : α → sProp 𝕄} :
    iprop(records X Y κ ∗ St X Y c 19 ∗ ownP c 1 (up3 (ctr X Y c 1 1))
      ∗ ((St X Y c 21 ∗ ownP c 1 (up3 (ctr X Y c 1 1)) ∗ own c (cM 1 2) fullShare (acc X Y 1 1 (zl c))) -∗ wp frame (wpE (defs₀ (F := F)) 𝒱₀ (c : Thread nD τ) none) Set.univ (kk (k0_pay25 (acc X Y 1 1 (zl c)) (up3 (ctr X Y c 1 1)))) Q))
    ⊢ wp frame (wpE (defs₀ (F := F)) 𝒱₀ (c : Thread nD τ) none) Set.univ (k0_part19 (F := F) a0 ha0 a1 ha1 a2 ha2 comm hc gath hg parts hp cc0_scratch3 cc0_scratch4 cc0_scratch5 cc0_scratch6 cc0_scratch7 cc0_scratch8 v2 v5 v34 >>= kk) Q := by
  rw [k0_part19_eq_skeleton]; unfold k0_part19_skel
  simp only [Prog.lift, Prog.bind_op, Prog.bind_ret, Prog.pure_eq_ret]
  iintro ⟨#HR, HSt, P1, Hk⟩
  iapply (wait_snd X Y κ c 19 (.rs 1 1) rfl rfl rfl) $$ [HSt]
  · isplitr; · iexact HR
    iexact HSt
  iintro HSt
  iapply (wait_rcv X Y κ c 20 (.rs 1 1) rfl rfl rfl) $$ [HSt]
  · isplitr; · iexact HR
    iexact HSt
  iintro ⟨HSt, C12⟩
  ihave C12 := (show rcvPay X Y (.rs 1 1) c ⊢ own c (cM 1 2) fullShare (acc X Y 1 1 (zl c)) from .rfl) $$ C12
  iapply (load_own c comm _ (fun _ => rfl) (m' := cM 1 2) rfl fullShare _) $$ C12; iintro C12
  iapply (load_own c parts _ (fun _ => rfl) (m' := pM 1) rfl fullShare _) $$ P1; iintro P1
  iapply Hk
  isplitl [HSt]; · iexact HSt
  isplitl [P1]; · iexact P1
  iexact C12

theorem part20 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {kk : (PUnit) → Prog (TpuEff nD τ sig (Elt F) Λ₀ .tc) α} {Q : α → sProp 𝕄} :
    iprop(records X Y κ ∗ St X Y c 21 ∗ own c (cM 1 2) fullShare (acc X Y 1 1 (zl c))
      ∗ ((St X Y c 23) -∗ wp frame (wpE (defs₀ (F := F)) 𝒱₀ (c : Thread nD τ) none) Set.univ (kk ⟨⟩) Q))
    ⊢ wp frame (wpE (defs₀ (F := F)) 𝒱₀ (c : Thread nD τ) none) Set.univ (k0_part20 (F := F) a0 ha0 a1 ha1 a2 ha2 comm hc gath hg parts hp cc0_scratch3 cc0_scratch4 cc0_scratch5 cc0_scratch6 cc0_scratch7 cc0_scratch8 c v2 v5 v34 ((k0_pay25 (acc X Y 1 1 (zl c)) (up3 (ctr X Y c 1 1)))) >>= kk) Q := by
  rw [k0_part20_eq_skeleton]; unfold k0_part20_skel
  simp only [Prog.lift, Prog.bind_op, Prog.bind_ret, Prog.pure_eq_ret]
  iintro ⟨#HR, HSt, C12, Hk⟩
  iapply (load_own c comm _ (fun _ => rfl) (m' := cM 1 2) rfl fullShare _) $$ C12; iintro C12
  iapply (store_own c comm _ (fun _ => rfl) (m' := cM 1 2) rfl _ _) $$ C12; iintro C12
  ihave C12 := (show own c (cM 1 2) fullShare (k0_pay26 ((k0_pay25 (acc X Y 1 1 (zl c)) (up3 (ctr X Y c 1 1))))) ⊢ sndPay X Y (.rs 1 2) c from .rfl) $$ C12
  iapply (send_step X Y κ c 21 (.rs 1 2) rfl rfl rfl (dev14 c) rfl rfl rfl) $$ [HSt C12]
  · isplitr; · iexact HR
    isplitl [HSt]; · iexact HSt
    iexact C12
  iintro HSt
  iapply (wait_snd X Y κ c 22 (.rs 2 1) rfl rfl rfl) $$ [HSt]
  · isplitr; · iexact HR
    iexact HSt
  iintro HSt
  iapply Hk
  iexact HSt

theorem part21 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {kk : (Σ' (v562 : BitVec 32), BitVec 32) → Prog (TpuEff nD τ sig (Elt F) Λ₀ .tc) α} {Q : α → sProp 𝕄} :
    iprop(records X Y κ ∗ St X Y c 23 ∗ ownP c 2 (up3 (ctr X Y c 1 2))
      ∗ (∀ w0 : BitVec 32, ∀ w1 : BitVec 32, (St X Y c 24 ∗ ownP c 2 (up3 (ctr X Y c 1 2)) ∗ sndPay X Y (.rs 2 2) c) -∗ wp frame (wpE (defs₀ (F := F)) 𝒱₀ (c : Thread nD τ) none) Set.univ (kk ⟨w0, w1⟩) Q))
    ⊢ wp frame (wpE (defs₀ (F := F)) 𝒱₀ (c : Thread nD τ) none) Set.univ (k0_part21 (F := F) a0 ha0 a1 ha1 a2 ha2 comm hc gath hg parts hp cc0_scratch3 cc0_scratch4 cc0_scratch5 cc0_scratch6 cc0_scratch7 cc0_scratch8 v2 v5 v34 >>= kk) Q := by
  rw [k0_part21_eq_skeleton]; unfold k0_part21_skel
  simp only [Prog.lift, Prog.bind_op, Prog.bind_ret, Prog.pure_eq_ret]
  iintro ⟨#HR, HSt, P2, Hk⟩
  iapply (wait_rcv X Y κ c 23 (.rs 2 1) rfl rfl rfl) $$ [HSt]
  · isplitr; · iexact HR
    iexact HSt
  iintro ⟨HSt, C22⟩
  ihave C22 := (show rcvPay X Y (.rs 2 1) c ⊢ own c (cM 2 2) fullShare (acc X Y 2 1 (zl c)) from .rfl) $$ C22
  iapply (load_own c comm _ (fun _ => rfl) (m' := cM 2 2) rfl fullShare _) $$ C22; iintro C22
  iapply (load_own c parts _ (fun _ => rfl) (m' := pM 2) rfl fullShare _) $$ P2; iintro P2
  iapply (load_own c comm _ (fun _ => rfl) (m' := cM 2 2) rfl fullShare _) $$ C22; iintro C22
  iapply (store_own c comm _ (fun _ => rfl) (m' := cM 2 2) rfl _ _) $$ C22; iintro C22
  ihave C22 := (show own c (cM 2 2) fullShare (k0_pay27 (acc X Y 2 1 (zl c)) (up3 (ctr X Y c 1 2))) ⊢ sndPay X Y (.rs 2 2) c from .rfl) $$ C22
  iapply Hk
  isplitl [HSt]; · iexact HSt
  isplitl [P2]; · iexact P2
  iexact C22

theorem part22 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {v562 : BitVec 32} {v563 : BitVec 32} {kk : (PUnit) → Prog (TpuEff nD τ sig (Elt F) Λ₀ .tc) α} {Q : α → sProp 𝕄} :
    iprop(records X Y κ ∗ St X Y c 24 ∗ sndPay X Y (.rs 2 2) c
      ∗ ((St X Y c 26) -∗ wp frame (wpE (defs₀ (F := F)) 𝒱₀ (c : Thread nD τ) none) Set.univ (kk ⟨⟩) Q))
    ⊢ wp frame (wpE (defs₀ (F := F)) 𝒱₀ (c : Thread nD τ) none) Set.univ (k0_part22 (F := F) a0 ha0 a1 ha1 a2 ha2 comm hc gath hg parts hp cc0_scratch3 cc0_scratch4 cc0_scratch5 cc0_scratch6 cc0_scratch7 cc0_scratch8 c v2 v5 v34 v562 v563 >>= kk) Q := by
  rw [k0_part22_eq_skeleton]; unfold k0_part22_skel
  simp only [Prog.lift, Prog.bind_op, Prog.bind_ret, Prog.pure_eq_ret]
  iintro ⟨#HR, HSt, C22, Hk⟩
  iapply (send_step X Y κ c 24 (.rs 2 2) rfl rfl rfl (dev15 c) rfl rfl rfl) $$ [HSt C22]
  · isplitr; · iexact HR
    isplitl [HSt]; · iexact HSt
    iexact C22
  iintro HSt
  iapply (wait_snd X Y κ c 25 (.rs 3 1) rfl rfl rfl) $$ [HSt]
  · isplitr; · iexact HR
    iexact HSt
  iintro HSt
  iapply Hk
  iexact HSt

theorem part23 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v8 : BitVec 32} {v34 : BitVec 32} {kk : (Σ' (v615 : BitVec 32), BitVec 32) → Prog (TpuEff nD τ sig (Elt F) Λ₀ .tc) α} {Q : α → sProp 𝕄} :
    iprop(records X Y κ ∗ St X Y c 26 ∗ ownP c 3 (up3 (ctr X Y c 1 3))
      ∗ (∀ w0 : BitVec 32, ∀ w1 : BitVec 32, (St X Y c 28 ∗ ownP c 3 (up3 (ctr X Y c 1 3))) -∗ wp frame (wpE (defs₀ (F := F)) 𝒱₀ (c : Thread nD τ) none) Set.univ (kk ⟨w0, w1⟩) Q))
    ⊢ wp frame (wpE (defs₀ (F := F)) 𝒱₀ (c : Thread nD τ) none) Set.univ (k0_part23 (F := F) a0 ha0 a1 ha1 a2 ha2 comm hc gath hg parts hp cc0_scratch3 cc0_scratch4 cc0_scratch5 cc0_scratch6 cc0_scratch7 cc0_scratch8 c v2 v5 v8 v34 >>= kk) Q := by
  rw [k0_part23_eq_skeleton]; unfold k0_part23_skel
  simp only [Prog.lift, Prog.bind_op, Prog.bind_ret, Prog.pure_eq_ret]
  iintro ⟨#HR, HSt, P3, Hk⟩
  iapply (wait_rcv X Y κ c 26 (.rs 3 1) rfl rfl rfl) $$ [HSt]
  · isplitr; · iexact HR
    iexact HSt
  iintro ⟨HSt, C32⟩
  ihave C32 := (show rcvPay X Y (.rs 3 1) c ⊢ own c (cM 3 2) fullShare (acc X Y 3 1 (zl c)) from .rfl) $$ C32
  iapply (load_own c comm _ (fun _ => rfl) (m' := cM 3 2) rfl fullShare _) $$ C32; iintro C32
  iapply (load_own c parts _ (fun _ => rfl) (m' := pM 3) rfl fullShare _) $$ P3; iintro P3
  iapply (load_own c comm _ (fun _ => rfl) (m' := cM 3 2) rfl fullShare _) $$ C32; iintro C32
  iapply (store_own c comm _ (fun _ => rfl) (m' := cM 3 2) rfl _ _) $$ C32; iintro C32
  ihave C32 := (show own c (cM 3 2) fullShare (k0_pay28 (acc X Y 3 1 (zl c)) (up3 (ctr X Y c 1 3))) ⊢ sndPay X Y (.rs 3 2) c from .rfl) $$ C32
  iapply (send_step X Y κ c 27 (.rs 3 2) rfl rfl rfl (dev16 c) rfl rfl rfl) $$ [HSt C32]
  · isplitr; · iexact HR
    isplitl [HSt]; · iexact HSt
    iexact C32
  iintro HSt
  iapply Hk
  isplitl [HSt]; · iexact HSt
  iexact P3

theorem part24 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v615 : BitVec 32} {c2_i32_692 : BitVec 32} {kk : (Σ' (v627 : BitVec 32), FVec F S256x1024 .f32) → Prog (TpuEff nD τ sig (Elt F) Λ₀ .tc) α} {Q : α → sProp 𝕄} :
    iprop(records X Y κ ∗ St X Y c 28 ∗ hasX X a0 c ∗ hasY Y a1 c ∗ ownP c 0 (up3 (ctr X Y c 1 0)) ∗ ownP c 1 (up3 (ctr X Y c 1 1))
      ∗ (∀ w0 : BitVec 32, (St X Y c 28 ∗ hasX X a0 c ∗ hasY Y a1 c ∗ ownP c 0 (up3 (ctr X Y c 2 0)) ∗ ownP c 1 (up3 (ctr X Y c 2 1))) -∗ wp frame (wpE (defs₀ (F := F)) 𝒱₀ (c : Thread nD τ) none) Set.univ (kk ⟨w0, k0_pay31 (xRd (k0_off2 c 2#32) (k0_off2_inb c 2) (X c))⟩) Q))
    ⊢ wp frame (wpE (defs₀ (F := F)) 𝒱₀ (c : Thread nD τ) none) Set.univ (k0_part24 (F := F) a0 ha0 a1 ha1 a2 ha2 comm hc gath hg parts hp cc0_scratch3 cc0_scratch4 cc0_scratch5 cc0_scratch6 cc0_scratch7 cc0_scratch8 c v615 c2_i32_692 >>= kk) Q := by
  rw [k0_part24_eq_skeleton]; unfold k0_part24_skel
  simp only [Prog.lift, Prog.bind_op, Prog.bind_ret, Prog.pure_eq_ret]
  iintro ⟨#HR, HSt, HX, HY, P0, P1, Hk⟩
  iapply (load_x X a0 c (k0_off2 c 2#32) (k0_off2_inb c 2)) $$ HX; iintro HX
  iapply (load_y Y a1 c 0 rfl) $$ HY; iintro HY
  iapply (load_own c parts _ (fun _ => rfl) (m' := pM 0) rfl fullShare _) $$ P0; iintro P0
  iapply (store_own c parts _ (fun _ => rfl) (m' := pM 0) rfl _ _) $$ P0; iintro P0
  ihave P0 := (show ownP c 0 (k0_pay29 (xRd (k0_off2 c 2#32) (k0_off2_inb c 2) (X c)) (yRd (yOff 0) (yOff_inb 0) (Y c))) ⊢ ownP c 0 (up3 (ctr X Y c 2 0)) from .rfl) $$ P0
  iapply (load_x X a0 c (k0_off2 c 2#32) (k0_off2_inb c 2)) $$ HX; iintro HX
  iapply (load_y Y a1 c 1 rfl) $$ HY; iintro HY
  iapply (load_own c parts _ (fun _ => rfl) (m' := pM 1) rfl fullShare _) $$ P1; iintro P1
  iapply (store_own c parts _ (fun _ => rfl) (m' := pM 1) rfl _ _) $$ P1; iintro P1
  ihave P1 := (show ownP c 1 (k0_pay30 (xRd (k0_off2 c 2#32) (k0_off2_inb c 2) (X c)) (yRd (yOff 1) (yOff_inb 1) (Y c))) ⊢ ownP c 1 (up3 (ctr X Y c 2 1)) from .rfl) $$ P1
  iapply (load_x X a0 c (k0_off2 c 2#32) (k0_off2_inb c 2)) $$ HX; iintro HX
  iapply Hk
  isplitl [HSt]; · iexact HSt
  isplitl [HX]; · iexact HX
  isplitl [HY]; · iexact HY
  isplitl [P0]; · iexact P0
  iexact P1

theorem part25 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v627 : BitVec 32} {kk : (BitVec 32) → Prog (TpuEff nD τ sig (Elt F) Λ₀ .tc) α} {Q : α → sProp 𝕄} :
    iprop(records X Y κ ∗ St X Y c 28 ∗ hasY Y a1 c ∗ ownP c 2 (up3 (ctr X Y c 1 2)) ∗ hasX X a0 c ∗ ownP c 3 (up3 (ctr X Y c 1 3))
      ∗ (∀ w0 : BitVec 32, (St X Y c 29 ∗ hasY Y a1 c ∗ ownP c 2 (up3 (ctr X Y c 2 2)) ∗ hasX X a0 c ∗ ownP c 3 (up3 (ctr X Y c 2 3))) -∗ wp frame (wpE (defs₀ (F := F)) 𝒱₀ (c : Thread nD τ) none) Set.univ (kk w0) Q))
    ⊢ wp frame (wpE (defs₀ (F := F)) 𝒱₀ (c : Thread nD τ) none) Set.univ (k0_part25 (F := F) a0 ha0 a1 ha1 a2 ha2 comm hc gath hg parts hp cc0_scratch3 cc0_scratch4 cc0_scratch5 cc0_scratch6 cc0_scratch7 cc0_scratch8 c v627 (k0_pay31 (xRd (k0_off2 c 2#32) (k0_off2_inb c 2) (X c))) >>= kk) Q := by
  rw [k0_part25_eq_skeleton]; unfold k0_part25_skel
  simp only [Prog.lift, Prog.bind_op, Prog.bind_ret, Prog.pure_eq_ret]
  iintro ⟨#HR, HSt, HY, P2, HX, P3, Hk⟩
  iapply (load_y Y a1 c 2 rfl) $$ HY; iintro HY
  iapply (load_own c parts _ (fun _ => rfl) (m' := pM 2) rfl fullShare _) $$ P2; iintro P2
  iapply (store_own c parts _ (fun _ => rfl) (m' := pM 2) rfl _ _) $$ P2; iintro P2
  ihave P2 := (show ownP c 2 (k0_pay32 (k0_pay31 (xRd (k0_off2 c 2#32) (k0_off2_inb c 2) (X c))) (yRd (yOff 2) (yOff_inb 2) (Y c))) ⊢ ownP c 2 (up3 (ctr X Y c 2 2)) from .rfl) $$ P2
  iapply (load_x X a0 c (k0_off2 c 2#32) (k0_off2_inb c 2)) $$ HX; iintro HX
  iapply (load_y Y a1 c 3 rfl) $$ HY; iintro HY
  iapply (load_own c parts _ (fun _ => rfl) (m' := pM 3) rfl fullShare _) $$ P3; iintro P3
  iapply (store_own c parts _ (fun _ => rfl) (m' := pM 3) rfl _ _) $$ P3; iintro P3
  ihave P3 := (show ownP c 3 (k0_pay33 (xRd (k0_off2 c 2#32) (k0_off2_inb c 2) (X c)) (yRd (yOff 3) (yOff_inb 3) (Y c))) ⊢ ownP c 3 (up3 (ctr X Y c 2 3)) from .rfl) $$ P3
  iapply (wait_snd X Y κ c 28 (.rs 0 2) rfl rfl rfl) $$ [HSt]
  · isplitr; · iexact HR
    iexact HSt
  iintro HSt
  iapply Hk
  isplitl [HSt]; · iexact HSt
  isplitl [HY]; · iexact HY
  isplitl [P2]; · iexact P2
  isplitl [HX]; · iexact HX
  iexact P3

theorem part26 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v11 : BitVec 32} {v34 : BitVec 32} {c16_i32_753 : BitVec 32} {kk : (Σ' (v696 : BitVec 32) (v701 : BitVec 1), BitVec 32) → Prog (TpuEff nD τ sig (Elt F) Λ₀ .tc) α} {Q : α → sProp 𝕄} :
    iprop(records X Y κ ∗ St X Y c 29 ∗ ownP c 0 (up3 (ctr X Y c 2 0)) ∗ ownAny (F := F) c (aM 0 (rIx c))
      ∗ (∀ w0 : BitVec 32, ∀ w1 : BitVec 1, ∀ w2 : BitVec 32, (St X Y c 30 ∗ ownP c 0 (up3 (ctr X Y c 2 0)) ∗ own c (cM 0 3) fullShare (acc X Y 0 2 (zl c)) ∗ sndPay X Y (.cw 0 0) c ∗ sndPay X Y (.cc 0 0) c) -∗ wp frame (wpE (defs₀ (F := F)) 𝒱₀ (c : Thread nD τ) none) Set.univ (kk ⟨w0, w1, w2⟩) Q))
    ⊢ wp frame (wpE (defs₀ (F := F)) 𝒱₀ (c : Thread nD τ) none) Set.univ (k0_part26 (F := F) a0 ha0 a1 ha1 a2 ha2 comm hc gath hg parts hp cc0_scratch3 cc0_scratch4 cc0_scratch5 cc0_scratch6 cc0_scratch7 cc0_scratch8 c v2 v5 v11 v34 c16_i32_753 >>= kk) Q := by
  rw [k0_part26_eq_skeleton]; unfold k0_part26_skel
  simp only [Prog.lift, Prog.bind_op, Prog.bind_ret, Prog.pure_eq_ret]
  iintro ⟨#HR, HSt, P0, A0, Hk⟩
  iapply (wait_rcv X Y κ c 29 (.rs 0 2) rfl rfl rfl) $$ [HSt]
  · isplitr; · iexact HR
    iexact HSt
  iintro ⟨HSt, C03⟩
  ihave C03 := (show rcvPay X Y (.rs 0 2) c ⊢ own c (cM 0 3) fullShare (acc X Y 0 2 (zl c)) from .rfl) $$ C03
  iapply (load_own c comm _ (fun _ => rfl) (m' := cM 0 3) rfl fullShare _) $$ C03; iintro C03
  iapply (load_own c parts _ (fun _ => rfl) (m' := pM 0) rfl fullShare _) $$ P0; iintro P0
  ihave A0 := (show ownAny (F := F) c (aM 0 (rIx c)) ⊢ iprop(∃ v, own (F := F) c (aM 0 (rIx c)) fullShare v) from .rfl) $$ A0
  icases A0 with ⟨%xA0, A0⟩
  iapply (load_slot c 0 (off_own0 c) (k0_off3_inb c) xA0) $$ A0; iintro A0
  iapply (store_slot c 0 (off_own0 c) (k0_off3_inb c) _ _) $$ A0; iintro A0
  ihave A0 := (show own c (aM 0 (rIx c)) fullShare (k0_pay34 (acc X Y 0 2 (zl c)) (up3 (ctr X Y c 2 0))) ⊢ own c (aM 0 (rIx c)) fullShare (tot X Y 0 c) from .rfl) $$ A0
  ihave A0 := (lend X Y c 0) $$ A0
  icases A0 with ⟨R0w, R0c⟩
  iapply Hk
  isplitl [HSt]; · iexact HSt
  isplitl [P0]; · iexact P0
  isplitl [C03]; · iexact C03
  isplitl [R0w]; · iexact R0w
  iexact R0c

theorem part27 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {v64 : BitVec 32} {v67 : BitVec 32} {v696 : BitVec 32} {v701 : BitVec 1} {v702 : BitVec 32} {kk : (Σ' (v730 : BitVec 32), BitVec 32) → Prog (TpuEff nD τ sig (Elt F) Λ₀ .tc) α} {Q : α → sProp 𝕄} :
    iprop(records X Y κ ∗ St X Y c 30 ∗ sndPay X Y (.cw 0 0) c
      ∗ (∀ w0 : BitVec 32, ∀ w1 : BitVec 32, (St X Y c 31) -∗ wp frame (wpE (defs₀ (F := F)) 𝒱₀ (c : Thread nD τ) none) Set.univ (kk ⟨w0, w1⟩) Q))
    ⊢ wp frame (wpE (defs₀ (F := F)) 𝒱₀ (c : Thread nD τ) none) Set.univ (k0_part27 (F := F) a0 ha0 a1 ha1 a2 ha2 comm hc gath hg parts hp cc0_scratch3 cc0_scratch4 cc0_scratch5 cc0_scratch6 cc0_scratch7 cc0_scratch8 c v8 v11 v48 v51 v64 v67 v696 v701 v702 >>= kk) Q := by
  rw [k0_part27_eq_skeleton]; unfold k0_part27_skel
  simp only [Prog.lift, Prog.bind_op, Prog.bind_ret, Prog.pure_eq_ret]
  iintro ⟨#HR, HSt, R0w, Hk⟩
  iapply (send_step X Y κ c 30 (.cw 0 0) rfl rfl (congrArg sq (slotA_congr (off_cw0 c 0) _ _)) (dev17 c) (congrArg sq (slotA_congr (off_cw0 c 0) _ _)) rfl rfl) $$ [HSt R0w]
  · isplitr; · iexact HR
    isplitl [HSt]; · iexact HSt
    iexact R0w
  iintro HSt
  iapply Hk
  iexact HSt

theorem part28 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v8 : BitVec 32} {v34 : BitVec 32} {v730 : BitVec 32} {v731 : BitVec 32} {kk : (PUnit) → Prog (TpuEff nD τ sig (Elt F) Λ₀ .tc) α} {Q : α → sProp 𝕄} :
    iprop(records X Y κ ∗ St X Y c 31 ∗ sndPay X Y (.cc 0 0) c
      ∗ ((St X Y c 33) -∗ wp frame (wpE (defs₀ (F := F)) 𝒱₀ (c : Thread nD τ) none) Set.univ (kk ⟨⟩) Q))
    ⊢ wp frame (wpE (defs₀ (F := F)) 𝒱₀ (c : Thread nD τ) none) Set.univ (k0_part28 (F := F) a0 ha0 a1 ha1 a2 ha2 comm hc gath hg parts hp cc0_scratch3 cc0_scratch4 cc0_scratch5 cc0_scratch6 cc0_scratch7 cc0_scratch8 c v2 v5 v8 v34 v730 v731 >>= kk) Q := by
  rw [k0_part28_eq_skeleton]; unfold k0_part28_skel
  simp only [Prog.lift, Prog.bind_op, Prog.bind_ret, Prog.pure_eq_ret]
  iintro ⟨#HR, HSt, R0c, Hk⟩
  iapply (send_step X Y κ c 31 (.cc 0 0) rfl rfl (congrArg sq (slotA_congr (off_cc0 c 0) _ _)) (dev18 c) (congrArg sq (slotA_congr (off_cc0 c 0) _ _)) rfl rfl) $$ [HSt R0c]
  · isplitr; · iexact HR
    isplitl [HSt]; · iexact HSt
    iexact R0c
  iintro HSt
  iapply (wait_snd X Y κ c 32 (.rs 1 2) rfl rfl rfl) $$ [HSt]
  · isplitr; · iexact HR
    iexact HSt
  iintro HSt
  iapply Hk
  iexact HSt

theorem part29 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v11 : BitVec 32} {v64 : BitVec 32} {v67 : BitVec 32} {kk : (BitVec 32) → Prog (TpuEff nD τ sig (Elt F) Λ₀ .tc) α} {Q : α → sProp 𝕄} :
    iprop(records X Y κ ∗ St X Y c 33 ∗ ownP c 1 (up3 (ctr X Y c 2 1)) ∗ ownAny (F := F) c (aM 1 (rIx c))
      ∗ (∀ w0 : BitVec 32, (St X Y c 34 ∗ ownP c 1 (up3 (ctr X Y c 2 1)) ∗ own c (cM 1 3) fullShare (acc X Y 1 2 (zl c)) ∗ sndPay X Y (.cw 1 0) c ∗ sndPay X Y (.cc 1 0) c) -∗ wp frame (wpE (defs₀ (F := F)) 𝒱₀ (c : Thread nD τ) none) Set.univ (kk w0) Q))
    ⊢ wp frame (wpE (defs₀ (F := F)) 𝒱₀ (c : Thread nD τ) none) Set.univ (k0_part29 (F := F) a0 ha0 a1 ha1 a2 ha2 comm hc gath hg parts hp cc0_scratch3 cc0_scratch4 cc0_scratch5 cc0_scratch6 cc0_scratch7 cc0_scratch8 c v11 v64 v67 >>= kk) Q := by
  rw [k0_part29_eq_skeleton]; unfold k0_part29_skel
  simp only [Prog.lift, Prog.bind_op, Prog.bind_ret, Prog.pure_eq_ret]
  iintro ⟨#HR, HSt, P1, A1, Hk⟩
  iapply (wait_rcv X Y κ c 33 (.rs 1 2) rfl rfl rfl) $$ [HSt]
  · isplitr; · iexact HR
    iexact HSt
  iintro ⟨HSt, C13⟩
  ihave C13 := (show rcvPay X Y (.rs 1 2) c ⊢ own c (cM 1 3) fullShare (acc X Y 1 2 (zl c)) from .rfl) $$ C13
  iapply (load_own c comm _ (fun _ => rfl) (m' := cM 1 3) rfl fullShare _) $$ C13; iintro C13
  iapply (load_own c parts _ (fun _ => rfl) (m' := pM 1) rfl fullShare _) $$ P1; iintro P1
  ihave A1 := (show ownAny (F := F) c (aM 1 (rIx c)) ⊢ iprop(∃ v, own (F := F) c (aM 1 (rIx c)) fullShare v) from .rfl) $$ A1
  icases A1 with ⟨%xA1, A1⟩
  iapply (load_slot c 1 (off_own1 c) (k0_off6_inb c) xA1) $$ A1; iintro A1
  iapply (store_slot c 1 (off_own1 c) (k0_off6_inb c) _ _) $$ A1; iintro A1
  ihave A1 := (show own c (aM 1 (rIx c)) fullShare (k0_pay35 (acc X Y 1 2 (zl c)) (up3 (ctr X Y c 2 1))) ⊢ own c (aM 1 (rIx c)) fullShare (tot X Y 1 c) from .rfl) $$ A1
  ihave A1 := (lend X Y c 1) $$ A1
  icases A1 with ⟨R1w, R1c⟩
  iapply Hk
  isplitl [HSt]; · iexact HSt
  isplitl [P1]; · iexact P1
  isplitl [C13]; · iexact C13
  isplitl [R1w]; · iexact R1w
  iexact R1c

theorem part30 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {v786 : BitVec 32} {kk : (PUnit) → Prog (TpuEff nD τ sig (Elt F) Λ₀ .tc) α} {Q : α → sProp 𝕄} :
    iprop(records X Y κ ∗ St X Y c 34 ∗ sndPay X Y (.cw 1 0) c
      ∗ ((St X Y c 35) -∗ wp frame (wpE (defs₀ (F := F)) 𝒱₀ (c : Thread nD τ) none) Set.univ (kk ⟨⟩) Q))
    ⊢ wp frame (wpE (defs₀ (F := F)) 𝒱₀ (c : Thread nD τ) none) Set.univ (k0_part30 (F := F) a0 ha0 a1 ha1 a2 ha2 comm hc gath hg parts hp cc0_scratch3 cc0_scratch4 cc0_scratch5 cc0_scratch6 cc0_scratch7 cc0_scratch8 c v8 v11 v48 v51 v786 >>= kk) Q := by
  rw [k0_part30_eq_skeleton]; unfold k0_part30_skel
  simp only [Prog.lift, Prog.bind_op, Prog.bind_ret, Prog.pure_eq_ret]
  iintro ⟨#HR, HSt, R1w, Hk⟩
  iapply (send_step X Y κ c 34 (.cw 1 0) rfl rfl (congrArg sq (slotA_congr (off_cw1 c 0) _ _)) (dev19 c) (congrArg sq (slotA_congr (off_cw1 c 0) _ _)) rfl rfl) $$ [HSt R1w]
  · isplitr; · iexact HR
    isplitl [HSt]; · iexact HSt
    iexact R1w
  iintro HSt
  iapply Hk
  iexact HSt

end Cert.Proof.Ring
-- ==== Proof.Ring.PartsC.lean ====
/- The parts of the body from number 31 to number 46, each with what it uses and what it leaves. -/
module

public import proofs.«01_k».proof.Proof.Gen.KernelIdeal.Skeleton
public import proofs.«01_k».proof.Proof.Ring.Column

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .f32) (Y : Dev nD → Vec F S1024x512 .f32)
variable (κ : GSem nD τ sig → ℕ) (c : Dev nD) {α : Type}

theorem part31 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v34 : BitVec 32} {kk : (FVec F S256x128 .f32) → Prog (TpuEff nD τ sig (Elt F) Λ₀ .tc) α} {Q : α → sProp 𝕄} :
    iprop(records X Y κ ∗ St X Y c 35 ∗ sndPay X Y (.cc 1 0) c
      ∗ ((St X Y c 38 ∗ own c (cM 2 3) fullShare (acc X Y 2 2 (zl c))) -∗ wp frame (wpE (defs₀ (F := F)) 𝒱₀ (c : Thread nD τ) none) Set.univ (kk (k0_pay36 (acc X Y 2 2 (zl c)))) Q))
    ⊢ wp frame (wpE (defs₀ (F := F)) 𝒱₀ (c : Thread nD τ) none) Set.univ (k0_part31 (F := F) a0 ha0 a1 ha1 a2 ha2 comm hc gath hg parts hp cc0_scratch3 cc0_scratch4 cc0_scratch5 cc0_scratch6 cc0_scratch7 cc0_scratch8 c v2 v5 v34 >>= kk) Q := by
  rw [k0_part31_eq_skeleton]; unfold k0_part31_skel
  simp only [Prog.lift, Prog.bind_op, Prog.bind_ret, Prog.pure_eq_ret]
  iintro ⟨#HR, HSt, R1c, Hk⟩
  iapply (send_step X Y κ c 35 (.cc 1 0) rfl rfl (congrArg sq (slotA_congr (off_cc1 c 0) _ _)) (dev20 c) (congrArg sq (slotA_congr (off_cc1 c 0) _ _)) rfl rfl) $$ [HSt R1c]
  · isplitr; · iexact HR
    isplitl [HSt]; · iexact HSt
    iexact R1c
  iintro HSt
  iapply (wait_snd X Y κ c 36 (.rs 2 2) rfl rfl rfl) $$ [HSt]
  · isplitr; · iexact HR
    iexact HSt
  iintro HSt
  iapply (wait_rcv X Y κ c 37 (.rs 2 2) rfl rfl rfl) $$ [HSt]
  · isplitr; · iexact HR
    iexact HSt
  iintro ⟨HSt, C23⟩
  ihave C23 := (show rcvPay X Y (.rs 2 2) c ⊢ own c (cM 2 3) fullShare (acc X Y 2 2 (zl c)) from .rfl) $$ C23
  iapply (load_own c comm _ (fun _ => rfl) (m' := cM 2 3) rfl fullShare _) $$ C23; iintro C23
  iapply Hk
  isplitl [HSt]; · iexact HSt
  iexact C23

theorem part32 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v64 : BitVec 32} {v67 : BitVec 32} {kk : (PUnit) → Prog (TpuEff nD τ sig (Elt F) Λ₀ .tc) α} {Q : α → sProp 𝕄} :
    iprop(records X Y κ ∗ St X Y c 38 ∗ ownP c 2 (up3 (ctr X Y c 2 2)) ∗ ownAny (F := F) c (aM 2 (rIx c))
      ∗ ((St X Y c 38 ∗ ownP c 2 (up3 (ctr X Y c 2 2)) ∗ sndPay X Y (.cw 2 0) c ∗ sndPay X Y (.cc 2 0) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part32 (F := F) a0 ha0 a1 ha1 a2 ha2 comm hc gath hg parts hp cc0_scratch3 cc0_scratch4 cc0_scratch5 cc0_scratch6 cc0_scratch7 cc0_scratch8 c v8 v11 v64 v67 ((k0_pay36 (acc X Y 2 2 (zl c)))) >>= kk) Q := by
  rw [k0_part32_eq_skeleton]; unfold k0_part32_skel
  simp only [Prog.lift, Prog.bind_op, Prog.bind_ret, Prog.pure_eq_ret]
  iintro ⟨#HR, HSt, P2, A2, Hk⟩
  iapply (load_own c parts _ (fun _ => rfl) (m' := pM 2) rfl fullShare _) $$ P2; iintro P2
  ihave A2 := (show ownAny (F := F) c (aM 2 (rIx c)) ⊢ iprop(∃ v, own (F := F) c (aM 2 (rIx c)) fullShare v) from .rfl) $$ A2
  icases A2 with ⟨%xA2, A2⟩
  iapply (load_slot c 2 (off_own2 c) (k0_off9_inb c) xA2) $$ A2; iintro A2
  iapply (store_slot c 2 (off_own2 c) (k0_off9_inb c) _ _) $$ A2; iintro A2
  ihave A2 := (show own c (aM 2 (rIx c)) fullShare (k0_pay37 ((k0_pay36 (acc X Y 2 2 (zl c)))) (up3 (ctr X Y c 2 2))) ⊢ own c (aM 2 (rIx c)) fullShare (tot X Y 2 c) from .rfl) $$ A2
  ihave A2 := (lend X Y c 2) $$ A2
  icases A2 with ⟨R2w, R2c⟩
  iapply Hk
  isplitl [HSt]; · iexact HSt
  isplitl [P2]; · iexact P2
  isplitl [R2w]; · iexact R2w
  iexact R2c

theorem part33 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {kk : (PUnit) → Prog (TpuEff nD τ sig (Elt F) Λ₀ .tc) α} {Q : α → sProp 𝕄} :
    iprop(records X Y κ ∗ St X Y c 38 ∗ sndPay X Y (.cw 2 0) c ∗ sndPay X Y (.cc 2 0) c
      ∗ ((St X Y c 40) -∗ wp frame (wpE (defs₀ (F := F)) 𝒱₀ (c : Thread nD τ) none) Set.univ (kk ⟨⟩) Q))
    ⊢ wp frame (wpE (defs₀ (F := F)) 𝒱₀ (c : Thread nD τ) none) Set.univ (k0_part33 (F := F) a0 ha0 a1 ha1 a2 ha2 comm hc gath hg parts hp cc0_scratch3 cc0_scratch4 cc0_scratch5 cc0_scratch6 cc0_scratch7 cc0_scratch8 c v8 v11 v48 v51 >>= kk) Q := by
  rw [k0_part33_eq_skeleton]; unfold k0_part33_skel
  simp only [Prog.lift, Prog.bind_op, Prog.bind_ret, Prog.pure_eq_ret]
  iintro ⟨#HR, HSt, R2w, R2c, Hk⟩
  iapply (send_step X Y κ c 38 (.cw 2 0) rfl rfl (congrArg sq (slotA_congr (off_cw2 c 0) _ _)) (dev21 c) (congrArg sq (slotA_congr (off_cw2 c 0) _ _)) rfl rfl) $$ [HSt R2w]
  · isplitr; · iexact HR
    isplitl [HSt]; · iexact HSt
    iexact R2w
  iintro HSt
  iapply (send_step X Y κ c 39 (.cc 2 0) rfl rfl (congrArg sq (slotA_congr (off_cc2 c 0) _ _)) (dev22 c) (congrArg sq (slotA_congr (off_cc2 c 0) _ _)) rfl rfl) $$ [HSt R2c]
  · isplitr; · iexact HR
    isplitl [HSt]; · iexact HSt
    iexact R2c
  iintro HSt
  iapply Hk
  iexact HSt

theorem part34 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v2 : BitVec 32} {v5 : BitVec 32} {v11 : BitVec 32} {v34 : BitVec 32} {kk : (BitVec 32) → Prog (TpuEff nD τ sig (Elt F) Λ₀ .tc) α} {Q : α → sProp 𝕄} :
    iprop(records X Y κ ∗ St X Y c 40 ∗ ownP c 3 (up3 (ctr X Y c 2 3)) ∗ ownAny (F := F) c (aM 3 (rIx c))
      ∗ (∀ w0 : BitVec 32, (St X Y c 42 ∗ ownP c 3 (up3 (ctr X Y c 2 3)) ∗ own c (cM 3 3) fullShare (acc X Y 3 2 (zl c)) ∗ sndPay X Y (.cw 3 0) c ∗ sndPay X Y (.cc 3 0) c) -∗ wp frame (wpE (defs₀ (F := F)) 𝒱₀ (c : Thread nD τ) none) Set.univ (kk w0) Q))
    ⊢ wp frame (wpE (defs₀ (F := F)) 𝒱₀ (c : Thread nD τ) none) Set.univ (k0_part34 (F := F) a0 ha0 a1 ha1 a2 ha2 comm hc gath hg parts hp cc0_scratch3 cc0_scratch4 cc0_scratch5 cc0_scratch6 cc0_scratch7 cc0_scratch8 c v2 v5 v11 v34 >>= kk) Q := by
  rw [k0_part34_eq_skeleton]; unfold k0_part34_skel
  simp only [Prog.lift, Prog.bind_op, Prog.bind_ret, Prog.pure_eq_ret]
  iintro ⟨#HR, HSt, P3, A3, Hk⟩
  iapply (wait_snd X Y κ c 40 (.rs 3 2) rfl rfl rfl) $$ [HSt]
  · isplitr; · iexact HR
    iexact HSt
  iintro HSt
  iapply (wait_rcv X Y κ c 41 (.rs 3 2) rfl rfl rfl) $$ [HSt]
  · isplitr; · iexact HR
    iexact HSt
  iintro ⟨HSt, C33⟩
  ihave C33 := (show rcvPay X Y (.rs 3 2) c ⊢ own c (cM 3 3) fullShare (acc X Y 3 2 (zl c)) from .rfl) $$ C33
  iapply (load_own c comm _ (fun _ => rfl) (m' := cM 3 3) rfl fullShare _) $$ C33; iintro C33
  iapply (load_own c parts _ (fun _ => rfl) (m' := pM 3) rfl fullShare _) $$ P3; iintro P3
  ihave A3 := (show ownAny (F := F) c (aM 3 (rIx c)) ⊢ iprop(∃ v, own (F := F) c (aM 3 (rIx c)) fullShare v) from .rfl) $$ A3
  icases A3 with ⟨%xA3, A3⟩
  iapply (load_slot c 3 (off_own3 c) (k0_off12_inb c) xA3) $$ A3; iintro A3
  iapply (store_slot c 3 (off_own3 c) (k0_off12_inb c) _ _) $$ A3; iintro A3
  ihave A3 := (show own c (aM 3 (rIx c)) fullShare (k0_pay38 (acc X Y 3 2 (zl c)) (up3 (ctr X Y c 2 3))) ⊢ own c (aM 3 (rIx c)) fullShare (tot X Y 3 c) from .rfl) $$ A3
  ihave A3 := (lend X Y c 3) $$ A3
  icases A3 with ⟨R3w, R3c⟩
  iapply Hk
  isplitl [HSt]; · iexact HSt
  isplitl [P3]; · iexact P3
  isplitl [C33]; · iexact C33
  isplitl [R3w]; · iexact R3w
  iexact R3c

theorem part35 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v64 : BitVec 32} {v67 : BitVec 32} {c8_i32_1017 : BitVec 32} {kk : (Σ' (v957 : BitVec 32) (v958 : BitVec 32) (v959 : BitVec 1), BitVec 1) → Prog (TpuEff nD τ sig (Elt F) Λ₀ .tc) α} {Q : α → sProp 𝕄} :
    iprop(records X Y κ ∗ St X Y c 42 ∗ sndPay X Y (.cw 3 0) c
      ∗ (∀ w0 : BitVec 32, ∀ w1 : BitVec 32, ∀ w2 : BitVec 1, ∀ w3 : BitVec 1, (St X Y c 43) -∗ wp frame (wpE (defs₀ (F := F)) 𝒱₀ (c : Thread nD τ) none) Set.univ (kk ⟨w0, w1, w2, w3⟩) Q))
    ⊢ wp frame (wpE (defs₀ (F := F)) 𝒱₀ (c : Thread nD τ) none) Set.univ (k0_part35 (F := F) a0 ha0 a1 ha1 a2 ha2 comm hc gath hg parts hp cc0_scratch3 cc0_scratch4 cc0_scratch5 cc0_scratch6 cc0_scratch7 cc0_scratch8 c v8 v11 v64 v67 c8_i32_1017 >>= kk) Q := by
  rw [k0_part35_eq_skeleton]; unfold k0_part35_skel
  simp only [Prog.lift, Prog.bind_op, Prog.bind_ret, Prog.pure_eq_ret]
  iintro ⟨#HR, HSt, R3w, Hk⟩
  iapply (send_step X Y κ c 42 (.cw 3 0) rfl rfl (congrArg sq (slotA_congr (off_cw3 c 0) _ _)) (dev23 c) (congrArg sq (slotA_congr (off_cw3 c 0) _ _)) rfl rfl) $$ [HSt R3w]
  · isplitr; · iexact HR
    isplitl [HSt]; · iexact HSt
    iexact R3w
  iintro HSt
  iapply Hk
  iexact HSt

theorem part36 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v48 : BitVec 32} {v51 : BitVec 32} {v957 : BitVec 32} {v958 : BitVec 32} {v959 : BitVec 1} {v960 : BitVec 1} {kk : (BitVec 32) → Prog (TpuEff nD τ sig (Elt F) Λ₀ .tc) α} {Q : α → sProp 𝕄} :
    iprop(records X Y κ ∗ St X Y c 43 ∗ sndPay X Y (.cc 3 0) c
      ∗ (∀ w0 : BitVec 32, (St X Y c 45) -∗ wp frame (wpE (defs₀ (F := F)) 𝒱₀ (c : Thread nD τ) none) Set.univ (kk w0) Q))
    ⊢ wp frame (wpE (defs₀ (F := F)) 𝒱₀ (c : Thread nD τ) none) Set.univ (k0_part36 (F := F) a0 ha0 a1 ha1 a2 ha2 comm hc gath hg parts hp cc0_scratch3 cc0_scratch4 cc0_scratch5 cc0_scratch6 cc0_scratch7 cc0_scratch8 c v8 v48 v51 v957 v958 v959 v960 >>= kk) Q := by
  rw [k0_part36_eq_skeleton]; unfold k0_part36_skel
  simp only [Prog.lift, Prog.bind_op, Prog.bind_ret, Prog.pure_eq_ret]
  iintro ⟨#HR, HSt, R3c, Hk⟩
  iapply (send_step X Y κ c 43 (.cc 3 0) rfl rfl (congrArg sq (slotA_congr (off_cc3 c 0) _ _)) (dev24 c) (congrArg sq (slotA_congr (off_cc3 c 0) _ _)) rfl rfl) $$ [HSt R3c]
  · isplitr; · iexact HR
    isplitl [HSt]; · iexact HSt
    iexact R3c
  iintro HSt
  iapply (wait_snd X Y κ c 44 (.cw 0 0) rfl rfl rfl) $$ [HSt]
  · isplitr; · iexact HR
    iexact HSt
  iintro HSt
  iapply Hk
  iexact HSt

theorem part37 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v48 : BitVec 32} {v51 : BitVec 32} {v64 : BitVec 32} {v67 : BitVec 32} {c16_i32_1077 : BitVec 32} {kk : (PUnit) → Prog (TpuEff nD τ sig (Elt F) Λ₀ .tc) α} {Q : α → sProp 𝕄} :
    iprop(records X Y κ ∗ St X Y c 45
      ∗ ((St X Y c 47 ∗ sndPay X Y (.cw 0 1) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part37 (F := F) a0 ha0 a1 ha1 a2 ha2 comm hc gath hg parts hp cc0_scratch3 cc0_scratch4 cc0_scratch5 cc0_scratch6 cc0_scratch7 cc0_scratch8 c v8 v48 v51 v64 v67 c16_i32_1077 >>= kk) Q := by
  rw [k0_part37_eq_skeleton]; unfold k0_part37_skel
  simp only [Prog.lift, Prog.bind_op, Prog.bind_ret, Prog.pure_eq_ret]
  iintro ⟨#HR, HSt, Hk⟩
  iapply (wait_rcv X Y κ c 45 (.cw 0 0) rfl rfl rfl) $$ [HSt]
  · isplitr; · iexact HR
    iexact HSt
  iintro ⟨HSt, R0w⟩
  ihave R0w := (show rcvPay X Y (.cw 0 0) c ⊢ sndPay X Y (.cw 0 1) c from .rfl) $$ R0w
  iapply (wait_snd X Y κ c 46 (.cc 0 0) rfl rfl rfl) $$ [HSt]
  · isplitr; · iexact HR
    iexact HSt
  iintro HSt
  iapply Hk
  isplitl [HSt]; · iexact HSt
  iexact R0w

theorem part38 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v64 : BitVec 32} {v67 : BitVec 32} {kk : (Σ' (v1042 : BitVec 32) (c8_i32_1133 : BitVec 32) (v1043 : BitVec 1), BitVec 32) → Prog (TpuEff nD τ sig (Elt F) Λ₀ .tc) α} {Q : α → sProp 𝕄} :
    iprop(records X Y κ ∗ St X Y c 47 ∗ sndPay X Y (.cw 0 1) c
      ∗ (∀ w0 : BitVec 32, ∀ w1 : BitVec 32, ∀ w2 : BitVec 1, ∀ w3 : BitVec 32, (St X Y c 49 ∗ sndPay X Y (.cc 0 1) c) -∗ wp frame (wpE (defs₀ (F := F)) 𝒱₀ (c : Thread nD τ) none) Set.univ (kk ⟨w0, w1, w2, w3⟩) Q))
    ⊢ wp frame (wpE (defs₀ (F := F)) 𝒱₀ (c : Thread nD τ) none) Set.univ (k0_part38 (F := F) a0 ha0 a1 ha1 a2 ha2 comm hc gath hg parts hp cc0_scratch3 cc0_scratch4 cc0_scratch5 cc0_scratch6 cc0_scratch7 cc0_scratch8 c v8 v11 v64 v67 >>= kk) Q := by
  rw [k0_part38_eq_skeleton]; unfold k0_part38_skel
  simp only [Prog.lift, Prog.bind_op, Prog.bind_ret, Prog.pure_eq_ret]
  iintro ⟨#HR, HSt, R0w, Hk⟩
  iapply (wait_rcv X Y κ c 47 (.cc 0 0) rfl rfl rfl) $$ [HSt]
  · isplitr; · iexact HR
    iexact HSt
  iintro ⟨HSt, R0c⟩
  ihave R0c := (show rcvPay X Y (.cc 0 0) c ⊢ sndPay X Y (.cc 0 1) c from .rfl) $$ R0c
  iapply (send_step X Y κ c 48 (.cw 0 1) rfl rfl (congrArg sq (slotA_congr (off_cw0 c 1) _ _)) (dev25 c) (congrArg sq (slotA_congr (off_cw0 c 1) _ _)) rfl rfl) $$ [HSt R0w]
  · isplitr; · iexact HR
    isplitl [HSt]; · iexact HSt
    iexact R0w
  iintro HSt
  iapply Hk
  isplitl [HSt]; · iexact HSt
  iexact R0c

theorem part39 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v48 : BitVec 32} {v51 : BitVec 32} {v1042 : BitVec 32} {c8_i32_1133 : BitVec 32} {v1043 : BitVec 1} {c1_i32_1135 : BitVec 32} {kk : (PUnit) → Prog (TpuEff nD τ sig (Elt F) Λ₀ .tc) α} {Q : α → sProp 𝕄} :
    iprop(records X Y κ ∗ St X Y c 49 ∗ sndPay X Y (.cc 0 1) c
      ∗ ((St X Y c 51) -∗ wp frame (wpE (defs₀ (F := F)) 𝒱₀ (c : Thread nD τ) none) Set.univ (kk ⟨⟩) Q))
    ⊢ wp frame (wpE (defs₀ (F := F)) 𝒱₀ (c : Thread nD τ) none) Set.univ (k0_part39 (F := F) a0 ha0 a1 ha1 a2 ha2 comm hc gath hg parts hp cc0_scratch3 cc0_scratch4 cc0_scratch5 cc0_scratch6 cc0_scratch7 cc0_scratch8 c v8 v48 v51 v1042 c8_i32_1133 v1043 c1_i32_1135 >>= kk) Q := by
  rw [k0_part39_eq_skeleton]; unfold k0_part39_skel
  simp only [Prog.lift, Prog.bind_op, Prog.bind_ret, Prog.pure_eq_ret]
  iintro ⟨#HR, HSt, R0c, Hk⟩
  iapply (send_step X Y κ c 49 (.cc 0 1) rfl rfl (congrArg sq (slotA_congr (off_cc0 c 1) _ _)) (dev26 c) (congrArg sq (slotA_congr (off_cc0 c 1) _ _)) rfl rfl) $$ [HSt R0c]
  · isplitr; · iexact HR
    isplitl [HSt]; · iexact HSt
    iexact R0c
  iintro HSt
  iapply (wait_snd X Y κ c 50 (.cw 1 0) rfl rfl rfl) $$ [HSt]
  · isplitr; · iexact HR
    iexact HSt
  iintro HSt
  iapply Hk
  iexact HSt

theorem part40 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v48 : BitVec 32} {v51 : BitVec 32} {v64 : BitVec 32} {v67 : BitVec 32} {kk : (PUnit) → Prog (TpuEff nD τ sig (Elt F) Λ₀ .tc) α} {Q : α → sProp 𝕄} :
    iprop(records X Y κ ∗ St X Y c 51
      ∗ ((St X Y c 53 ∗ sndPay X Y (.cw 1 1) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part40 (F := F) a0 ha0 a1 ha1 a2 ha2 comm hc gath hg parts hp cc0_scratch3 cc0_scratch4 cc0_scratch5 cc0_scratch6 cc0_scratch7 cc0_scratch8 c v8 v48 v51 v64 v67 >>= kk) Q := by
  rw [k0_part40_eq_skeleton]; unfold k0_part40_skel
  simp only [Prog.lift, Prog.bind_op, Prog.bind_ret, Prog.pure_eq_ret]
  iintro ⟨#HR, HSt, Hk⟩
  iapply (wait_rcv X Y κ c 51 (.cw 1 0) rfl rfl rfl) $$ [HSt]
  · isplitr; · iexact HR
    iexact HSt
  iintro ⟨HSt, R1w⟩
  ihave R1w := (show rcvPay X Y (.cw 1 0) c ⊢ sndPay X Y (.cw 1 1) c from .rfl) $$ R1w
  iapply (wait_snd X Y κ c 52 (.cc 1 0) rfl rfl rfl) $$ [HSt]
  · isplitr; · iexact HR
    iexact HSt
  iintro HSt
  iapply Hk
  isplitl [HSt]; · iexact HSt
  iexact R1w

theorem part41 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v64 : BitVec 32} {v67 : BitVec 32} {kk : (PUnit) → Prog (TpuEff nD τ sig (Elt F) Λ₀ .tc) α} {Q : α → sProp 𝕄} :
    iprop(records X Y κ ∗ St X Y c 53 ∗ sndPay X Y (.cw 1 1) c
      ∗ ((St X Y c 55 ∗ sndPay X Y (.cc 1 1) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part41 (F := F) a0 ha0 a1 ha1 a2 ha2 comm hc gath hg parts hp cc0_scratch3 cc0_scratch4 cc0_scratch5 cc0_scratch6 cc0_scratch7 cc0_scratch8 c v8 v11 v64 v67 >>= kk) Q := by
  rw [k0_part41_eq_skeleton]; unfold k0_part41_skel
  simp only [Prog.lift, Prog.bind_op, Prog.bind_ret, Prog.pure_eq_ret]
  iintro ⟨#HR, HSt, R1w, Hk⟩
  iapply (wait_rcv X Y κ c 53 (.cc 1 0) rfl rfl rfl) $$ [HSt]
  · isplitr; · iexact HR
    iexact HSt
  iintro ⟨HSt, R1c⟩
  ihave R1c := (show rcvPay X Y (.cc 1 0) c ⊢ sndPay X Y (.cc 1 1) c from .rfl) $$ R1c
  iapply (send_step X Y κ c 54 (.cw 1 1) rfl rfl (congrArg sq (slotA_congr (off_cw1 c 1) _ _)) (dev27 c) (congrArg sq (slotA_congr (off_cw1 c 1) _ _)) rfl rfl) $$ [HSt R1w]
  · isplitr; · iexact HR
    isplitl [HSt]; · iexact HSt
    iexact R1w
  iintro HSt
  iapply Hk
  isplitl [HSt]; · iexact HSt
  iexact R1c

theorem part42 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {kk : (PUnit) → Prog (TpuEff nD τ sig (Elt F) Λ₀ .tc) α} {Q : α → sProp 𝕄} :
    iprop(records X Y κ ∗ St X Y c 55 ∗ sndPay X Y (.cc 1 1) c
      ∗ ((St X Y c 56) -∗ wp frame (wpE (defs₀ (F := F)) 𝒱₀ (c : Thread nD τ) none) Set.univ (kk ⟨⟩) Q))
    ⊢ wp frame (wpE (defs₀ (F := F)) 𝒱₀ (c : Thread nD τ) none) Set.univ (k0_part42 (F := F) a0 ha0 a1 ha1 a2 ha2 comm hc gath hg parts hp cc0_scratch3 cc0_scratch4 cc0_scratch5 cc0_scratch6 cc0_scratch7 cc0_scratch8 c v8 v11 v48 v51 >>= kk) Q := by
  rw [k0_part42_eq_skeleton]; unfold k0_part42_skel
  simp only [Prog.lift, Prog.bind_op, Prog.bind_ret, Prog.pure_eq_ret]
  iintro ⟨#HR, HSt, R1c, Hk⟩
  iapply (send_step X Y κ c 55 (.cc 1 1) rfl rfl (congrArg sq (slotA_congr (off_cc1 c 1) _ _)) (dev28 c) (congrArg sq (slotA_congr (off_cc1 c 1) _ _)) rfl rfl) $$ [HSt R1c]
  · isplitr; · iexact HR
    isplitl [HSt]; · iexact HSt
    iexact R1c
  iintro HSt
  iapply Hk
  iexact HSt

theorem part43 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v48 : BitVec 32} {v64 : BitVec 32} {v67 : BitVec 32} {kk : (BitVec 32) → Prog (TpuEff nD τ sig (Elt F) Λ₀ .tc) α} {Q : α → sProp 𝕄} :
    iprop(records X Y κ ∗ St X Y c 56
      ∗ (∀ w0 : BitVec 32, (St X Y c 59 ∗ sndPay X Y (.cw 2 1) c) -∗ wp frame (wpE (defs₀ (F := F)) 𝒱₀ (c : Thread nD τ) none) Set.univ (kk w0) Q))
    ⊢ wp frame (wpE (defs₀ (F := F)) 𝒱₀ (c : Thread nD τ) none) Set.univ (k0_part43 (F := F) a0 ha0 a1 ha1 a2 ha2 comm hc gath hg parts hp cc0_scratch3 cc0_scratch4 cc0_scratch5 cc0_scratch6 cc0_scratch7 cc0_scratch8 c v8 v48 v64 v67 >>= kk) Q := by
  rw [k0_part43_eq_skeleton]; unfold k0_part43_skel
  simp only [Prog.lift, Prog.bind_op, Prog.bind_ret, Prog.pure_eq_ret]
  iintro ⟨#HR, HSt, Hk⟩
  iapply (wait_snd X Y κ c 56 (.cw 2 0) rfl rfl rfl) $$ [HSt]
  · isplitr; · iexact HR
    iexact HSt
  iintro HSt
  iapply (wait_rcv X Y κ c 57 (.cw 2 0) rfl rfl rfl) $$ [HSt]
  · isplitr; · iexact HR
    iexact HSt
  iintro ⟨HSt, R2w⟩
  ihave R2w := (show rcvPay X Y (.cw 2 0) c ⊢ sndPay X Y (.cw 2 1) c from .rfl) $$ R2w
  iapply (wait_snd X Y κ c 58 (.cc 2 0) rfl rfl rfl) $$ [HSt]
  · isplitr; · iexact HR
    iexact HSt
  iintro HSt
  iapply Hk
  isplitl [HSt]; · iexact HSt
  iexact R2w

theorem part44 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v51 : BitVec 32} {v64 : BitVec 32} {v67 : BitVec 32} {v1179 : BitVec 32} {kk : (PUnit) → Prog (TpuEff nD τ sig (Elt F) Λ₀ .tc) α} {Q : α → sProp 𝕄} :
    iprop(records X Y κ ∗ St X Y c 59
      ∗ ((St X Y c 60 ∗ sndPay X Y (.cc 2 1) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part44 (F := F) a0 ha0 a1 ha1 a2 ha2 comm hc gath hg parts hp cc0_scratch3 cc0_scratch4 cc0_scratch5 cc0_scratch6 cc0_scratch7 cc0_scratch8 c v8 v11 v51 v64 v67 v1179 >>= kk) Q := by
  rw [k0_part44_eq_skeleton]; unfold k0_part44_skel
  simp only [Prog.lift, Prog.bind_op, Prog.bind_ret, Prog.pure_eq_ret]
  iintro ⟨#HR, HSt, Hk⟩
  iapply (wait_rcv X Y κ c 59 (.cc 2 0) rfl rfl rfl) $$ [HSt]
  · isplitr; · iexact HR
    iexact HSt
  iintro ⟨HSt, R2c⟩
  ihave R2c := (show rcvPay X Y (.cc 2 0) c ⊢ sndPay X Y (.cc 2 1) c from .rfl) $$ R2c
  iapply Hk
  isplitl [HSt]; · iexact HSt
  iexact R2c

theorem part45 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {kk : (PUnit) → Prog (TpuEff nD τ sig (Elt F) Λ₀ .tc) α} {Q : α → sProp 𝕄} :
    iprop(records X Y κ ∗ St X Y c 60 ∗ sndPay X Y (.cw 2 1) c ∗ sndPay X Y (.cc 2 1) c
      ∗ ((St X Y c 62) -∗ wp frame (wpE (defs₀ (F := F)) 𝒱₀ (c : Thread nD τ) none) Set.univ (kk ⟨⟩) Q))
    ⊢ wp frame (wpE (defs₀ (F := F)) 𝒱₀ (c : Thread nD τ) none) Set.univ (k0_part45 (F := F) a0 ha0 a1 ha1 a2 ha2 comm hc gath hg parts hp cc0_scratch3 cc0_scratch4 cc0_scratch5 cc0_scratch6 cc0_scratch7 cc0_scratch8 c v8 v11 v48 v51 >>= kk) Q := by
  rw [k0_part45_eq_skeleton]; unfold k0_part45_skel
  simp only [Prog.lift, Prog.bind_op, Prog.bind_ret, Prog.pure_eq_ret]
  iintro ⟨#HR, HSt, R2w, R2c, Hk⟩
  iapply (send_step X Y κ c 60 (.cw 2 1) rfl rfl (congrArg sq (slotA_congr (off_cw2 c 1) _ _)) (dev29 c) (congrArg sq (slotA_congr (off_cw2 c 1) _ _)) rfl rfl) $$ [HSt R2w]
  · isplitr; · iexact HR
    isplitl [HSt]; · iexact HSt
    iexact R2w
  iintro HSt
  iapply (send_step X Y κ c 61 (.cc 2 1) rfl rfl (congrArg sq (slotA_congr (off_cc2 c 1) _ _)) (dev30 c) (congrArg sq (slotA_congr (off_cc2 c 1) _ _)) rfl rfl) $$ [HSt R2c]
  · isplitr; · iexact HR
    isplitl [HSt]; · iexact HSt
    iexact R2c
  iintro HSt
  iapply Hk
  iexact HSt

theorem part46 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v64 : BitVec 32} {v67 : BitVec 32} {kk : (PUnit) → Prog (TpuEff nD τ sig (Elt F) Λ₀ .tc) α} {Q : α → sProp 𝕄} :
    iprop(records X Y κ ∗ St X Y c 62
      ∗ ((St X Y c 65 ∗ sndPay X Y (.cw 3 1) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part46 (F := F) a0 ha0 a1 ha1 a2 ha2 comm hc gath hg parts hp cc0_scratch3 cc0_scratch4 cc0_scratch5 cc0_scratch6 cc0_scratch7 cc0_scratch8 c v8 v64 v67 >>= kk) Q := by
  rw [k0_part46_eq_skeleton]; unfold k0_part46_skel
  simp only [Prog.lift, Prog.bind_op, Prog.bind_ret, Prog.pure_eq_ret]
  iintro ⟨#HR, HSt, Hk⟩
  iapply (wait_snd X Y κ c 62 (.cw 3 0) rfl rfl rfl) $$ [HSt]
  · isplitr; · iexact HR
    iexact HSt
  iintro HSt
  iapply (wait_rcv X Y κ c 63 (.cw 3 0) rfl rfl rfl) $$ [HSt]
  · isplitr; · iexact HR
    iexact HSt
  iintro ⟨HSt, R3w⟩
  ihave R3w := (show rcvPay X Y (.cw 3 0) c ⊢ sndPay X Y (.cw 3 1) c from .rfl) $$ R3w
  iapply (wait_snd X Y κ c 64 (.cc 3 0) rfl rfl rfl) $$ [HSt]
  · isplitr; · iexact HR
    iexact HSt
  iintro HSt
  iapply Hk
  isplitl [HSt]; · iexact HSt
  iexact R3w

end Cert.Proof.Ring
-- ==== Proof.Ring.PartsD.lean ====
/- The parts of the body from number 47 to number 61, each with what it uses and what it leaves. -/
module

public import proofs.«01_k».proof.Proof.Gen.KernelIdeal.Skeleton
public import proofs.«01_k».proof.Proof.Ring.Column

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .f32) (Y : Dev nD → Vec F S1024x512 .f32)
variable (κ : GSem nD τ sig → ℕ) (c : Dev nD) {α : Type}

theorem part47 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {v64 : BitVec 32} {v67 : BitVec 32} {kk : (PUnit) → Prog (TpuEff nD τ sig (Elt F) Λ₀ .tc) α} {Q : α → sProp 𝕄} :
    iprop(records X Y κ ∗ St X Y c 65
      ∗ ((St X Y c 66 ∗ sndPay X Y (.cc 3 1) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part47 (F := F) a0 ha0 a1 ha1 a2 ha2 comm hc gath hg parts hp cc0_scratch3 cc0_scratch4 cc0_scratch5 cc0_scratch6 cc0_scratch7 cc0_scratch8 c v8 v11 v48 v51 v64 v67 >>= kk) Q := by
  rw [k0_part47_eq_skeleton]; unfold k0_part47_skel
  simp only [Prog.lift, Prog.bind_op, Prog.bind_ret, Prog.pure_eq_ret]
  iintro ⟨#HR, HSt, Hk⟩
  iapply (wait_rcv X Y κ c 65 (.cc 3 0) rfl rfl rfl) $$ [HSt]
  · isplitr; · iexact HR
    iexact HSt
  iintro ⟨HSt, R3c⟩
  ihave R3c := (show rcvPay X Y (.cc 3 0) c ⊢ sndPay X Y (.cc 3 1) c from .rfl) $$ R3c
  iapply Hk
  isplitl [HSt]; · iexact HSt
  iexact R3c

theorem part48 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {kk : (PUnit) → Prog (TpuEff nD τ sig (Elt F) Λ₀ .tc) α} {Q : α → sProp 𝕄} :
    iprop(records X Y κ ∗ St X Y c 66 ∗ sndPay X Y (.cw 3 1) c ∗ sndPay X Y (.cc 3 1) c
      ∗ ((St X Y c 68) -∗ wp frame (wpE (defs₀ (F := F)) 𝒱₀ (c : Thread nD τ) none) Set.univ (kk ⟨⟩) Q))
    ⊢ wp frame (wpE (defs₀ (F := F)) 𝒱₀ (c : Thread nD τ) none) Set.univ (k0_part48 (F := F) a0 ha0 a1 ha1 a2 ha2 comm hc gath hg parts hp cc0_scratch3 cc0_scratch4 cc0_scratch5 cc0_scratch6 cc0_scratch7 cc0_scratch8 c v8 v11 v48 v51 >>= kk) Q := by
  rw [k0_part48_eq_skeleton]; unfold k0_part48_skel
  simp only [Prog.lift, Prog.bind_op, Prog.bind_ret, Prog.pure_eq_ret]
  iintro ⟨#HR, HSt, R3w, R3c, Hk⟩
  iapply (send_step X Y κ c 66 (.cw 3 1) rfl rfl (congrArg sq (slotA_congr (off_cw3 c 1) _ _)) (dev31 c) (congrArg sq (slotA_congr (off_cw3 c 1) _ _)) rfl rfl) $$ [HSt R3w]
  · isplitr; · iexact HR
    isplitl [HSt]; · iexact HSt
    iexact R3w
  iintro HSt
  iapply (send_step X Y κ c 67 (.cc 3 1) rfl rfl (congrArg sq (slotA_congr (off_cc3 c 1) _ _)) (dev32 c) (congrArg sq (slotA_congr (off_cc3 c 1) _ _)) rfl rfl) $$ [HSt R3c]
  · isplitr; · iexact HR
    isplitl [HSt]; · iexact HSt
    iexact R3c
  iintro HSt
  iapply Hk
  iexact HSt

theorem part49 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v64 : BitVec 32} {v67 : BitVec 32} {kk : (PUnit) → Prog (TpuEff nD τ sig (Elt F) Λ₀ .tc) α} {Q : α → sProp 𝕄} :
    iprop(records X Y κ ∗ St X Y c 68
      ∗ ((St X Y c 70 ∗ sndPay X Y (.cw 0 2) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part49 (F := F) a0 ha0 a1 ha1 a2 ha2 comm hc gath hg parts hp cc0_scratch3 cc0_scratch4 cc0_scratch5 cc0_scratch6 cc0_scratch7 cc0_scratch8 c v8 v64 v67 >>= kk) Q := by
  rw [k0_part49_eq_skeleton]; unfold k0_part49_skel
  simp only [Prog.lift, Prog.bind_op, Prog.bind_ret, Prog.pure_eq_ret]
  iintro ⟨#HR, HSt, Hk⟩
  iapply (wait_snd X Y κ c 68 (.cw 0 1) rfl rfl rfl) $$ [HSt]
  · isplitr; · iexact HR
    iexact HSt
  iintro HSt
  iapply (wait_rcv X Y κ c 69 (.cw 0 1) rfl rfl rfl) $$ [HSt]
  · isplitr; · iexact HR
    iexact HSt
  iintro ⟨HSt, R0w⟩
  ihave R0w := (show rcvPay X Y (.cw 0 1) c ⊢ sndPay X Y (.cw 0 2) c from .rfl) $$ R0w
  iapply Hk
  isplitl [HSt]; · iexact HSt
  iexact R0w

theorem part50 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {v64 : BitVec 32} {kk : (Σ' (v1377 : BitVec 32), BitVec 32) → Prog (TpuEff nD τ sig (Elt F) Λ₀ .tc) α} {Q : α → sProp 𝕄} :
    iprop(records X Y κ ∗ St X Y c 70
      ∗ (∀ w0 : BitVec 32, ∀ w1 : BitVec 32, (St X Y c 72 ∗ sndPay X Y (.cc 0 2) c) -∗ wp frame (wpE (defs₀ (F := F)) 𝒱₀ (c : Thread nD τ) none) Set.univ (kk ⟨w0, w1⟩) Q))
    ⊢ wp frame (wpE (defs₀ (F := F)) 𝒱₀ (c : Thread nD τ) none) Set.univ (k0_part50 (F := F) a0 ha0 a1 ha1 a2 ha2 comm hc gath hg parts hp cc0_scratch3 cc0_scratch4 cc0_scratch5 cc0_scratch6 cc0_scratch7 cc0_scratch8 c v8 v11 v48 v51 v64 >>= kk) Q := by
  rw [k0_part50_eq_skeleton]; unfold k0_part50_skel
  simp only [Prog.lift, Prog.bind_op, Prog.bind_ret, Prog.pure_eq_ret]
  iintro ⟨#HR, HSt, Hk⟩
  iapply (wait_snd X Y κ c 70 (.cc 0 1) rfl rfl rfl) $$ [HSt]
  · isplitr; · iexact HR
    iexact HSt
  iintro HSt
  iapply (wait_rcv X Y κ c 71 (.cc 0 1) rfl rfl rfl) $$ [HSt]
  · isplitr; · iexact HR
    iexact HSt
  iintro ⟨HSt, R0c⟩
  ihave R0c := (show rcvPay X Y (.cc 0 1) c ⊢ sndPay X Y (.cc 0 2) c from .rfl) $$ R0c
  iapply Hk
  isplitl [HSt]; · iexact HSt
  iexact R0c

theorem part51 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {v67 : BitVec 32} {v1377 : BitVec 32} {c4_i32_1498 : BitVec 32} {kk : (PUnit) → Prog (TpuEff nD τ sig (Elt F) Λ₀ .tc) α} {Q : α → sProp 𝕄} :
    iprop(records X Y κ ∗ St X Y c 72 ∗ sndPay X Y (.cw 0 2) c
      ∗ ((St X Y c 73) -∗ wp frame (wpE (defs₀ (F := F)) 𝒱₀ (c : Thread nD τ) none) Set.univ (kk ⟨⟩) Q))
    ⊢ wp frame (wpE (defs₀ (F := F)) 𝒱₀ (c : Thread nD τ) none) Set.univ (k0_part51 (F := F) a0 ha0 a1 ha1 a2 ha2 comm hc gath hg parts hp cc0_scratch3 cc0_scratch4 cc0_scratch5 cc0_scratch6 cc0_scratch7 cc0_scratch8 c v8 v11 v48 v51 v67 v1377 c4_i32_1498 >>= kk) Q := by
  rw [k0_part51_eq_skeleton]; unfold k0_part51_skel
  simp only [Prog.lift, Prog.bind_op, Prog.bind_ret, Prog.pure_eq_ret]
  iintro ⟨#HR, HSt, R0w, Hk⟩
  iapply (send_step X Y κ c 72 (.cw 0 2) rfl rfl (congrArg sq (slotA_congr (off_cw0 c 2) _ _)) (dev33 c) (congrArg sq (slotA_congr (off_cw0 c 2) _ _)) rfl rfl) $$ [HSt R0w]
  · isplitr; · iexact HR
    isplitl [HSt]; · iexact HSt
    iexact R0w
  iintro HSt
  iapply Hk
  iexact HSt

theorem part52 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v64 : BitVec 32} {v67 : BitVec 32} {kk : (PUnit) → Prog (TpuEff nD τ sig (Elt F) Λ₀ .tc) α} {Q : α → sProp 𝕄} :
    iprop(records X Y κ ∗ St X Y c 73 ∗ sndPay X Y (.cc 0 2) c
      ∗ ((St X Y c 76 ∗ sndPay X Y (.cw 1 2) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part52 (F := F) a0 ha0 a1 ha1 a2 ha2 comm hc gath hg parts hp cc0_scratch3 cc0_scratch4 cc0_scratch5 cc0_scratch6 cc0_scratch7 cc0_scratch8 c v8 v64 v67 >>= kk) Q := by
  rw [k0_part52_eq_skeleton]; unfold k0_part52_skel
  simp only [Prog.lift, Prog.bind_op, Prog.bind_ret, Prog.pure_eq_ret]
  iintro ⟨#HR, HSt, R0c, Hk⟩
  iapply (send_step X Y κ c 73 (.cc 0 2) rfl rfl (congrArg sq (slotA_congr (off_cc0 c 2) _ _)) (dev34 c) (congrArg sq (slotA_congr (off_cc0 c 2) _ _)) rfl rfl) $$ [HSt R0c]
  · isplitr; · iexact HR
    isplitl [HSt]; · iexact HSt
    iexact R0c
  iintro HSt
  iapply (wait_snd X Y κ c 74 (.cw 1 1) rfl rfl rfl) $$ [HSt]
  · isplitr; · iexact HR
    iexact HSt
  iintro HSt
  iapply (wait_rcv X Y κ c 75 (.cw 1 1) rfl rfl rfl) $$ [HSt]
  · isplitr; · iexact HR
    iexact HSt
  iintro ⟨HSt, R1w⟩
  ihave R1w := (show rcvPay X Y (.cw 1 1) c ⊢ sndPay X Y (.cw 1 2) c from .rfl) $$ R1w
  iapply Hk
  isplitl [HSt]; · iexact HSt
  iexact R1w

theorem part53 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {kk : (PUnit) → Prog (TpuEff nD τ sig (Elt F) Λ₀ .tc) α} {Q : α → sProp 𝕄} :
    iprop(records X Y κ ∗ St X Y c 76
      ∗ ((St X Y c 78 ∗ sndPay X Y (.cc 1 2) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part53 (F := F) a0 ha0 a1 ha1 a2 ha2 comm hc gath hg parts hp cc0_scratch3 cc0_scratch4 cc0_scratch5 cc0_scratch6 cc0_scratch7 cc0_scratch8 c v8 v11 v48 v51 >>= kk) Q := by
  rw [k0_part53_eq_skeleton]; unfold k0_part53_skel
  simp only [Prog.lift, Prog.bind_op, Prog.bind_ret, Prog.pure_eq_ret]
  iintro ⟨#HR, HSt, Hk⟩
  iapply (wait_snd X Y κ c 76 (.cc 1 1) rfl rfl rfl) $$ [HSt]
  · isplitr; · iexact HR
    iexact HSt
  iintro HSt
  iapply (wait_rcv X Y κ c 77 (.cc 1 1) rfl rfl rfl) $$ [HSt]
  · isplitr; · iexact HR
    iexact HSt
  iintro ⟨HSt, R1c⟩
  ihave R1c := (show rcvPay X Y (.cc 1 1) c ⊢ sndPay X Y (.cc 1 2) c from .rfl) $$ R1c
  iapply Hk
  isplitl [HSt]; · iexact HSt
  iexact R1c

theorem part54 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {v64 : BitVec 32} {v67 : BitVec 32} {kk : (PUnit) → Prog (TpuEff nD τ sig (Elt F) Λ₀ .tc) α} {Q : α → sProp 𝕄} :
    iprop(records X Y κ ∗ St X Y c 78 ∗ sndPay X Y (.cw 1 2) c
      ∗ ((St X Y c 79) -∗ wp frame (wpE (defs₀ (F := F)) 𝒱₀ (c : Thread nD τ) none) Set.univ (kk ⟨⟩) Q))
    ⊢ wp frame (wpE (defs₀ (F := F)) 𝒱₀ (c : Thread nD τ) none) Set.univ (k0_part54 (F := F) a0 ha0 a1 ha1 a2 ha2 comm hc gath hg parts hp cc0_scratch3 cc0_scratch4 cc0_scratch5 cc0_scratch6 cc0_scratch7 cc0_scratch8 c v8 v11 v48 v51 v64 v67 >>= kk) Q := by
  rw [k0_part54_eq_skeleton]; unfold k0_part54_skel
  simp only [Prog.lift, Prog.bind_op, Prog.bind_ret, Prog.pure_eq_ret]
  iintro ⟨#HR, HSt, R1w, Hk⟩
  iapply (send_step X Y κ c 78 (.cw 1 2) rfl rfl (congrArg sq (slotA_congr (off_cw1 c 2) _ _)) (dev35 c) (congrArg sq (slotA_congr (off_cw1 c 2) _ _)) rfl rfl) $$ [HSt R1w]
  · isplitr; · iexact HR
    isplitl [HSt]; · iexact HSt
    iexact R1w
  iintro HSt
  iapply Hk
  iexact HSt

theorem part55 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v64 : BitVec 32} {v67 : BitVec 32} {kk : (PUnit) → Prog (TpuEff nD τ sig (Elt F) Λ₀ .tc) α} {Q : α → sProp 𝕄} :
    iprop(records X Y κ ∗ St X Y c 79 ∗ sndPay X Y (.cc 1 2) c
      ∗ ((St X Y c 82 ∗ sndPay X Y (.cw 2 2) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part55 (F := F) a0 ha0 a1 ha1 a2 ha2 comm hc gath hg parts hp cc0_scratch3 cc0_scratch4 cc0_scratch5 cc0_scratch6 cc0_scratch7 cc0_scratch8 c v8 v64 v67 >>= kk) Q := by
  rw [k0_part55_eq_skeleton]; unfold k0_part55_skel
  simp only [Prog.lift, Prog.bind_op, Prog.bind_ret, Prog.pure_eq_ret]
  iintro ⟨#HR, HSt, R1c, Hk⟩
  iapply (send_step X Y κ c 79 (.cc 1 2) rfl rfl (congrArg sq (slotA_congr (off_cc1 c 2) _ _)) (dev36 c) (congrArg sq (slotA_congr (off_cc1 c 2) _ _)) rfl rfl) $$ [HSt R1c]
  · isplitr; · iexact HR
    isplitl [HSt]; · iexact HSt
    iexact R1c
  iintro HSt
  iapply (wait_snd X Y κ c 80 (.cw 2 1) rfl rfl rfl) $$ [HSt]
  · isplitr; · iexact HR
    iexact HSt
  iintro HSt
  iapply (wait_rcv X Y κ c 81 (.cw 2 1) rfl rfl rfl) $$ [HSt]
  · isplitr; · iexact HR
    iexact HSt
  iintro ⟨HSt, R2w⟩
  ihave R2w := (show rcvPay X Y (.cw 2 1) c ⊢ sndPay X Y (.cw 2 2) c from .rfl) $$ R2w
  iapply Hk
  isplitl [HSt]; · iexact HSt
  iexact R2w

theorem part56 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {kk : (Σ' (v1542 : BitVec 32) (v1547 : BitVec 1), BitVec 32) → Prog (TpuEff nD τ sig (Elt F) Λ₀ .tc) α} {Q : α → sProp 𝕄} :
    iprop(records X Y κ ∗ St X Y c 82
      ∗ (∀ w0 : BitVec 32, ∀ w1 : BitVec 1, ∀ w2 : BitVec 32, (St X Y c 84 ∗ sndPay X Y (.cc 2 2) c) -∗ wp frame (wpE (defs₀ (F := F)) 𝒱₀ (c : Thread nD τ) none) Set.univ (kk ⟨w0, w1, w2⟩) Q))
    ⊢ wp frame (wpE (defs₀ (F := F)) 𝒱₀ (c : Thread nD τ) none) Set.univ (k0_part56 (F := F) a0 ha0 a1 ha1 a2 ha2 comm hc gath hg parts hp cc0_scratch3 cc0_scratch4 cc0_scratch5 cc0_scratch6 cc0_scratch7 cc0_scratch8 c v8 v11 v48 v51 >>= kk) Q := by
  rw [k0_part56_eq_skeleton]; unfold k0_part56_skel
  simp only [Prog.lift, Prog.bind_op, Prog.bind_ret, Prog.pure_eq_ret]
  iintro ⟨#HR, HSt, Hk⟩
  iapply (wait_snd X Y κ c 82 (.cc 2 1) rfl rfl rfl) $$ [HSt]
  · isplitr; · iexact HR
    iexact HSt
  iintro HSt
  iapply (wait_rcv X Y κ c 83 (.cc 2 1) rfl rfl rfl) $$ [HSt]
  · isplitr; · iexact HR
    iexact HSt
  iintro ⟨HSt, R2c⟩
  ihave R2c := (show rcvPay X Y (.cc 2 1) c ⊢ sndPay X Y (.cc 2 2) c from .rfl) $$ R2c
  iapply Hk
  isplitl [HSt]; · iexact HSt
  iexact R2c

theorem part57 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {v64 : BitVec 32} {v67 : BitVec 32} {v1542 : BitVec 32} {v1547 : BitVec 1} {v1548 : BitVec 32} {kk : (Σ' (v1576 : BitVec 32), BitVec 32) → Prog (TpuEff nD τ sig (Elt F) Λ₀ .tc) α} {Q : α → sProp 𝕄} :
    iprop(records X Y κ ∗ St X Y c 84 ∗ sndPay X Y (.cw 2 2) c
      ∗ (∀ w0 : BitVec 32, ∀ w1 : BitVec 32, (St X Y c 85) -∗ wp frame (wpE (defs₀ (F := F)) 𝒱₀ (c : Thread nD τ) none) Set.univ (kk ⟨w0, w1⟩) Q))
    ⊢ wp frame (wpE (defs₀ (F := F)) 𝒱₀ (c : Thread nD τ) none) Set.univ (k0_part57 (F := F) a0 ha0 a1 ha1 a2 ha2 comm hc gath hg parts hp cc0_scratch3 cc0_scratch4 cc0_scratch5 cc0_scratch6 cc0_scratch7 cc0_scratch8 c v8 v11 v48 v51 v64 v67 v1542 v1547 v1548 >>= kk) Q := by
  rw [k0_part57_eq_skeleton]; unfold k0_part57_skel
  simp only [Prog.lift, Prog.bind_op, Prog.bind_ret, Prog.pure_eq_ret]
  iintro ⟨#HR, HSt, R2w, Hk⟩
  iapply (send_step X Y κ c 84 (.cw 2 2) rfl rfl (congrArg sq (slotA_congr (off_cw2 c 2) _ _)) (dev37 c) (congrArg sq (slotA_congr (off_cw2 c 2) _ _)) rfl rfl) $$ [HSt R2w]
  · isplitr; · iexact HR
    isplitl [HSt]; · iexact HSt
    iexact R2w
  iintro HSt
  iapply Hk
  iexact HSt

theorem part58 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v64 : BitVec 32} {v67 : BitVec 32} {v1576 : BitVec 32} {v1577 : BitVec 32} {kk : (PUnit) → Prog (TpuEff nD τ sig (Elt F) Λ₀ .tc) α} {Q : α → sProp 𝕄} :
    iprop(records X Y κ ∗ St X Y c 85 ∗ sndPay X Y (.cc 2 2) c
      ∗ ((St X Y c 87) -∗ wp frame (wpE (defs₀ (F := F)) 𝒱₀ (c : Thread nD τ) none) Set.univ (kk ⟨⟩) Q))
    ⊢ wp frame (wpE (defs₀ (F := F)) 𝒱₀ (c : Thread nD τ) none) Set.univ (k0_part58 (F := F) a0 ha0 a1 ha1 a2 ha2 comm hc gath hg parts hp cc0_scratch3 cc0_scratch4 cc0_scratch5 cc0_scratch6 cc0_scratch7 cc0_scratch8 c v8 v64 v67 v1576 v1577 >>= kk) Q := by
  rw [k0_part58_eq_skeleton]; unfold k0_part58_skel
  simp only [Prog.lift, Prog.bind_op, Prog.bind_ret, Prog.pure_eq_ret]
  iintro ⟨#HR, HSt, R2c, Hk⟩
  iapply (send_step X Y κ c 85 (.cc 2 2) rfl rfl (congrArg sq (slotA_congr (off_cc2 c 2) _ _)) (dev38 c) (congrArg sq (slotA_congr (off_cc2 c 2) _ _)) rfl rfl) $$ [HSt R2c]
  · isplitr; · iexact HR
    isplitl [HSt]; · iexact HSt
    iexact R2c
  iintro HSt
  iapply (wait_snd X Y κ c 86 (.cw 3 1) rfl rfl rfl) $$ [HSt]
  · isplitr; · iexact HR
    iexact HSt
  iintro HSt
  iapply Hk
  iexact HSt

theorem part59 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {kk : (Σ' (v1628 : BitVec 32) (v1629 : BitVec 32) (v1630 : BitVec 1), BitVec 32) → Prog (TpuEff nD τ sig (Elt F) Λ₀ .tc) α} {Q : α → sProp 𝕄} :
    iprop(records X Y κ ∗ St X Y c 87
      ∗ (∀ w0 : BitVec 32, ∀ w1 : BitVec 32, ∀ w2 : BitVec 1, ∀ w3 : BitVec 32, (St X Y c 90 ∗ sndPay X Y (.cw 3 2) c ∗ sndPay X Y (.cc 3 2) c) -∗ wp frame (wpE (defs₀ (F := F)) 𝒱₀ (c : Thread nD τ) none) Set.univ (kk ⟨w0, w1, w2, w3⟩) Q))
    ⊢ wp frame (wpE (defs₀ (F := F)) 𝒱₀ (c : Thread nD τ) none) Set.univ (k0_part59 (F := F) a0 ha0 a1 ha1 a2 ha2 comm hc gath hg parts hp cc0_scratch3 cc0_scratch4 cc0_scratch5 cc0_scratch6 cc0_scratch7 cc0_scratch8 c v8 v11 v48 v51 >>= kk) Q := by
  rw [k0_part59_eq_skeleton]; unfold k0_part59_skel
  simp only [Prog.lift, Prog.bind_op, Prog.bind_ret, Prog.pure_eq_ret]
  iintro ⟨#HR, HSt, Hk⟩
  iapply (wait_rcv X Y κ c 87 (.cw 3 1) rfl rfl rfl) $$ [HSt]
  · isplitr; · iexact HR
    iexact HSt
  iintro ⟨HSt, R3w⟩
  ihave R3w := (show rcvPay X Y (.cw 3 1) c ⊢ sndPay X Y (.cw 3 2) c from .rfl) $$ R3w
  iapply (wait_snd X Y κ c 88 (.cc 3 1) rfl rfl rfl) $$ [HSt]
  · isplitr; · iexact HR
    iexact HSt
  iintro HSt
  iapply (wait_rcv X Y κ c 89 (.cc 3 1) rfl rfl rfl) $$ [HSt]
  · isplitr; · iexact HR
    iexact HSt
  iintro ⟨HSt, R3c⟩
  ihave R3c := (show rcvPay X Y (.cc 3 1) c ⊢ sndPay X Y (.cc 3 2) c from .rfl) $$ R3c
  iapply Hk
  isplitl [HSt]; · iexact HSt
  isplitl [R3w]; · iexact R3w
  iexact R3c

theorem part60 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v64 : BitVec 32} {v67 : BitVec 32} {v1628 : BitVec 32} {v1629 : BitVec 32} {v1630 : BitVec 1} {c0_i32_1767 : BitVec 32} {kk : (PUnit) → Prog (TpuEff nD τ sig (Elt F) Λ₀ .tc) α} {Q : α → sProp 𝕄} :
    iprop(records X Y κ ∗ St X Y c 90 ∗ sndPay X Y (.cw 3 2) c
      ∗ ((St X Y c 91) -∗ wp frame (wpE (defs₀ (F := F)) 𝒱₀ (c : Thread nD τ) none) Set.univ (kk ⟨⟩) Q))
    ⊢ wp frame (wpE (defs₀ (F := F)) 𝒱₀ (c : Thread nD τ) none) Set.univ (k0_part60 (F := F) a0 ha0 a1 ha1 a2 ha2 comm hc gath hg parts hp cc0_scratch3 cc0_scratch4 cc0_scratch5 cc0_scratch6 cc0_scratch7 cc0_scratch8 c v8 v11 v64 v67 v1628 v1629 v1630 c0_i32_1767 >>= kk) Q := by
  rw [k0_part60_eq_skeleton]; unfold k0_part60_skel
  simp only [Prog.lift, Prog.bind_op, Prog.bind_ret, Prog.pure_eq_ret]
  iintro ⟨#HR, HSt, R3w, Hk⟩
  iapply (send_step X Y κ c 90 (.cw 3 2) rfl rfl (congrArg sq (slotA_congr (off_cw3 c 2) _ _)) (dev39 c) (congrArg sq (slotA_congr (off_cw3 c 2) _ _)) rfl rfl) $$ [HSt R3w]
  · isplitr; · iexact HR
    isplitl [HSt]; · iexact HSt
    iexact R3w
  iintro HSt
  iapply Hk
  iexact HSt

theorem part61 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v48 : BitVec 32} {v51 : BitVec 32} {v64 : BitVec 32} {v67 : BitVec 32} {kk : (PUnit) → Prog (TpuEff nD τ sig (Elt F) Λ₀ .tc) α} {Q : α → sProp 𝕄} :
    iprop(records X Y κ ∗ St X Y c 91 ∗ sndPay X Y (.cc 3 2) c
      ∗ ((St X Y c 93) -∗ wp frame (wpE (defs₀ (F := F)) 𝒱₀ (c : Thread nD τ) none) Set.univ (kk ⟨⟩) Q))
    ⊢ wp frame (wpE (defs₀ (F := F)) 𝒱₀ (c : Thread nD τ) none) Set.univ (k0_part61 (F := F) a0 ha0 a1 ha1 a2 ha2 comm hc gath hg parts hp cc0_scratch3 cc0_scratch4 cc0_scratch5 cc0_scratch6 cc0_scratch7 cc0_scratch8 c v8 v48 v51 v64 v67 >>= kk) Q := by
  rw [k0_part61_eq_skeleton]; unfold k0_part61_skel
  simp only [Prog.lift, Prog.bind_op, Prog.bind_ret, Prog.pure_eq_ret]
  iintro ⟨#HR, HSt, R3c, Hk⟩
  iapply (send_step X Y κ c 91 (.cc 3 2) rfl rfl (congrArg sq (slotA_congr (off_cc3 c 2) _ _)) (dev40 c) (congrArg sq (slotA_congr (off_cc3 c 2) _ _)) rfl rfl) $$ [HSt R3c]
  · isplitr; · iexact HR
    isplitl [HSt]; · iexact HSt
    iexact R3c
  iintro HSt
  iapply (wait_snd X Y κ c 92 (.cw 0 2) rfl rfl rfl) $$ [HSt]
  · isplitr; · iexact HR
    iexact HSt
  iintro HSt
  iapply Hk
  iexact HSt

end Cert.Proof.Ring
-- ==== Proof.Ring.PartsE.lean ====
/- The parts of the body from number 62 to number 77, each with what it uses and what it leaves. -/
module

public import proofs.«01_k».proof.Proof.Gen.KernelIdeal.Skeleton
public import proofs.«01_k».proof.Proof.Ring.Column

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .f32) (Y : Dev nD → Vec F S1024x512 .f32)
variable (κ : GSem nD τ sig → ℕ) (c : Dev nD) {α : Type}

theorem part62 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {kk : (Σ' (v1713 : BitVec 32) (c8_i32_1856 : BitVec 32), BitVec 1) → Prog (TpuEff nD τ sig (Elt F) Λ₀ .tc) α} {Q : α → sProp 𝕄} :
    iprop(records X Y κ ∗ St X Y c 93
      ∗ (∀ w0 : BitVec 32, ∀ w1 : BitVec 32, ∀ w2 : BitVec 1, (St X Y c 96 ∗ sndPay X Y (.cw 0 3) c ∗ rcvPay X Y (.cc 0 2) c) -∗ wp frame (wpE (defs₀ (F := F)) 𝒱₀ (c : Thread nD τ) none) Set.univ (kk ⟨w0, w1, w2⟩) Q))
    ⊢ wp frame (wpE (defs₀ (F := F)) 𝒱₀ (c : Thread nD τ) none) Set.univ (k0_part62 (F := F) a0 ha0 a1 ha1 a2 ha2 comm hc gath hg parts hp cc0_scratch3 cc0_scratch4 cc0_scratch5 cc0_scratch6 cc0_scratch7 cc0_scratch8 c v8 v11 v48 v51 >>= kk) Q := by
  rw [k0_part62_eq_skeleton]; unfold k0_part62_skel
  simp only [Prog.lift, Prog.bind_op, Prog.bind_ret, Prog.pure_eq_ret]
  iintro ⟨#HR, HSt, Hk⟩
  iapply (wait_rcv X Y κ c 93 (.cw 0 2) rfl rfl rfl) $$ [HSt]
  · isplitr; · iexact HR
    iexact HSt
  iintro ⟨HSt, R0w⟩
  ihave R0w := (show rcvPay X Y (.cw 0 2) c ⊢ sndPay X Y (.cw 0 3) c from .rfl) $$ R0w
  iapply (wait_snd X Y κ c 94 (.cc 0 2) rfl rfl rfl) $$ [HSt]
  · isplitr; · iexact HR
    iexact HSt
  iintro HSt
  iapply (wait_rcv X Y κ c 95 (.cc 0 2) rfl rfl rfl) $$ [HSt]
  · isplitr; · iexact HR
    iexact HSt
  iintro ⟨HSt, R0c⟩
  iapply Hk
  isplitl [HSt]; · iexact HSt
  isplitl [R0w]; · iexact R0w
  iexact R0c

theorem part63 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v64 : BitVec 32} {v67 : BitVec 32} {v1713 : BitVec 32} {c8_i32_1856 : BitVec 32} {v1714 : BitVec 1} {kk : (PUnit) → Prog (TpuEff nD τ sig (Elt F) Λ₀ .tc) α} {Q : α → sProp 𝕄} :
    iprop(records X Y κ ∗ St X Y c 96 ∗ sndPay X Y (.cw 0 3) c
      ∗ ((St X Y c 98) -∗ wp frame (wpE (defs₀ (F := F)) 𝒱₀ (c : Thread nD τ) none) Set.univ (kk ⟨⟩) Q))
    ⊢ wp frame (wpE (defs₀ (F := F)) 𝒱₀ (c : Thread nD τ) none) Set.univ (k0_part63 (F := F) a0 ha0 a1 ha1 a2 ha2 comm hc gath hg parts hp cc0_scratch3 cc0_scratch4 cc0_scratch5 cc0_scratch6 cc0_scratch7 cc0_scratch8 c v8 v64 v67 v1713 c8_i32_1856 v1714 >>= kk) Q := by
  rw [k0_part63_eq_skeleton]; unfold k0_part63_skel
  simp only [Prog.lift, Prog.bind_op, Prog.bind_ret, Prog.pure_eq_ret]
  iintro ⟨#HR, HSt, R0w, Hk⟩
  iapply (send_step X Y κ c 96 (.cw 0 3) rfl rfl (congrArg sq (slotA_congr (off_cw0 c 3) _ _)) (dev41 c) (congrArg sq (slotA_congr (off_cw0 c 3) _ _)) rfl rfl) $$ [HSt R0w]
  · isplitr; · iexact HR
    isplitl [HSt]; · iexact HSt
    iexact R0w
  iintro HSt
  iapply (wait_snd X Y κ c 97 (.cw 1 2) rfl rfl rfl) $$ [HSt]
  · isplitr; · iexact HR
    iexact HSt
  iintro HSt
  iapply Hk
  iexact HSt

theorem part64 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v48 : BitVec 32} {v51 : BitVec 32} {v64 : BitVec 32} {v67 : BitVec 32} {kk : (Σ' (v1765 : BitVec 32), BitVec 32) → Prog (TpuEff nD τ sig (Elt F) Λ₀ .tc) α} {Q : α → sProp 𝕄} :
    iprop(records X Y κ ∗ St X Y c 98
      ∗ (∀ w0 : BitVec 32, ∀ w1 : BitVec 32, (St X Y c 100 ∗ rcvPay X Y (.cw 1 2) c) -∗ wp frame (wpE (defs₀ (F := F)) 𝒱₀ (c : Thread nD τ) none) Set.univ (kk ⟨w0, w1⟩) Q))
    ⊢ wp frame (wpE (defs₀ (F := F)) 𝒱₀ (c : Thread nD τ) none) Set.univ (k0_part64 (F := F) a0 ha0 a1 ha1 a2 ha2 comm hc gath hg parts hp cc0_scratch3 cc0_scratch4 cc0_scratch5 cc0_scratch6 cc0_scratch7 cc0_scratch8 c v8 v48 v51 v64 v67 >>= kk) Q := by
  rw [k0_part64_eq_skeleton]; unfold k0_part64_skel
  simp only [Prog.lift, Prog.bind_op, Prog.bind_ret, Prog.pure_eq_ret]
  iintro ⟨#HR, HSt, Hk⟩
  iapply (wait_rcv X Y κ c 98 (.cw 1 2) rfl rfl rfl) $$ [HSt]
  · isplitr; · iexact HR
    iexact HSt
  iintro ⟨HSt, R1w⟩
  iapply (wait_snd X Y κ c 99 (.cc 1 2) rfl rfl rfl) $$ [HSt]
  · isplitr; · iexact HR
    iexact HSt
  iintro HSt
  iapply Hk
  isplitl [HSt]; · iexact HSt
  iexact R1w

theorem part65 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {v1765 : BitVec 32} {v1766 : BitVec 32} {kk : (PUnit) → Prog (TpuEff nD τ sig (Elt F) Λ₀ .tc) α} {Q : α → sProp 𝕄} :
    iprop(records X Y κ ∗ St X Y c 100
      ∗ ((St X Y c 102) -∗ wp frame (wpE (defs₀ (F := F)) 𝒱₀ (c : Thread nD τ) none) Set.univ (kk ⟨⟩) Q))
    ⊢ wp frame (wpE (defs₀ (F := F)) 𝒱₀ (c : Thread nD τ) none) Set.univ (k0_part65 (F := F) a0 ha0 a1 ha1 a2 ha2 comm hc gath hg parts hp cc0_scratch3 cc0_scratch4 cc0_scratch5 cc0_scratch6 cc0_scratch7 cc0_scratch8 c v8 v11 v48 v51 v1765 v1766 >>= kk) Q := by
  rw [k0_part65_eq_skeleton]; unfold k0_part65_skel
  simp only [Prog.lift, Prog.bind_op, Prog.bind_ret, Prog.pure_eq_ret]
  iintro ⟨#HR, HSt, Hk⟩
  iapply (wait_rcv X Y κ c 100 (.cc 1 2) rfl rfl rfl) $$ [HSt]
  · isplitr; · iexact HR
    iexact HSt
  iintro ⟨HSt, R1c⟩
  ihave R1c := (show rcvPay X Y (.cc 1 2) c ⊢ sndPay X Y (.cc 1 3) c from .rfl) $$ R1c
  iapply (send_step X Y κ c 101 (.cc 1 3) rfl rfl (congrArg sq (slotA_congr (off_cc1 c 3) _ _)) (dev42 c) (congrArg sq (slotA_congr (off_cc1 c 3) _ _)) rfl rfl) $$ [HSt R1c]
  · isplitr; · iexact HR
    isplitl [HSt]; · iexact HSt
    iexact R1c
  iintro HSt
  iapply Hk
  iexact HSt

theorem part66 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v64 : BitVec 32} {v67 : BitVec 32} {kk : (PUnit) → Prog (TpuEff nD τ sig (Elt F) Λ₀ .tc) α} {Q : α → sProp 𝕄} :
    iprop(records X Y κ ∗ St X Y c 102
      ∗ ((St X Y c 104 ∗ sndPay X Y (.cw 2 3) c) -∗ wp frame (wpE (defs₀ (F := F)) 𝒱₀ (c : Thread nD τ) none) Set.univ (kk ⟨⟩) Q))
    ⊢ wp frame (wpE (defs₀ (F := F)) 𝒱₀ (c : Thread nD τ) none) Set.univ (k0_part66 (F := F) a0 ha0 a1 ha1 a2 ha2 comm hc gath hg parts hp cc0_scratch3 cc0_scratch4 cc0_scratch5 cc0_scratch6 cc0_scratch7 cc0_scratch8 c v8 v64 v67 >>= kk) Q := by
  rw [k0_part66_eq_skeleton]; unfold k0_part66_skel
  simp only [Prog.lift, Prog.bind_op, Prog.bind_ret, Prog.pure_eq_ret]
  iintro ⟨#HR, HSt, Hk⟩
  iapply (wait_snd X Y κ c 102 (.cw 2 2) rfl rfl rfl) $$ [HSt]
  · isplitr; · iexact HR
    iexact HSt
  iintro HSt
  iapply (wait_rcv X Y κ c 103 (.cw 2 2) rfl rfl rfl) $$ [HSt]
  · isplitr; · iexact HR
    iexact HSt
  iintro ⟨HSt, R2w⟩
  ihave R2w := (show rcvPay X Y (.cw 2 2) c ⊢ sndPay X Y (.cw 2 3) c from .rfl) $$ R2w
  iapply Hk
  isplitl [HSt]; · iexact HSt
  iexact R2w

theorem part67 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {v64 : BitVec 32} {kk : (Σ' (v1848 : BitVec 32), BitVec 32) → Prog (TpuEff nD τ sig (Elt F) Λ₀ .tc) α} {Q : α → sProp 𝕄} :
    iprop(records X Y κ ∗ St X Y c 104
      ∗ (∀ w0 : BitVec 32, ∀ w1 : BitVec 32, (St X Y c 106 ∗ rcvPay X Y (.cc 2 2) c) -∗ wp frame (wpE (defs₀ (F := F)) 𝒱₀ (c : Thread nD τ) none) Set.univ (kk ⟨w0, w1⟩) Q))
    ⊢ wp frame (wpE (defs₀ (F := F)) 𝒱₀ (c : Thread nD τ) none) Set.univ (k0_part67 (F := F) a0 ha0 a1 ha1 a2 ha2 comm hc gath hg parts hp cc0_scratch3 cc0_scratch4 cc0_scratch5 cc0_scratch6 cc0_scratch7 cc0_scratch8 c v8 v11 v48 v51 v64 >>= kk) Q := by
  rw [k0_part67_eq_skeleton]; unfold k0_part67_skel
  simp only [Prog.lift, Prog.bind_op, Prog.bind_ret, Prog.pure_eq_ret]
  iintro ⟨#HR, HSt, Hk⟩
  iapply (wait_snd X Y κ c 104 (.cc 2 2) rfl rfl rfl) $$ [HSt]
  · isplitr; · iexact HR
    iexact HSt
  iintro HSt
  iapply (wait_rcv X Y κ c 105 (.cc 2 2) rfl rfl rfl) $$ [HSt]
  · isplitr; · iexact HR
    iexact HSt
  iintro ⟨HSt, R2c⟩
  iapply Hk
  isplitl [HSt]; · iexact HSt
  iexact R2c

theorem part68 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v64 : BitVec 32} {v67 : BitVec 32} {v1848 : BitVec 32} {c4_i32_2013 : BitVec 32} {kk : (PUnit) → Prog (TpuEff nD τ sig (Elt F) Λ₀ .tc) α} {Q : α → sProp 𝕄} :
    iprop(records X Y κ ∗ St X Y c 106 ∗ sndPay X Y (.cw 2 3) c
      ∗ ((St X Y c 108) -∗ wp frame (wpE (defs₀ (F := F)) 𝒱₀ (c : Thread nD τ) none) Set.univ (kk ⟨⟩) Q))
    ⊢ wp frame (wpE (defs₀ (F := F)) 𝒱₀ (c : Thread nD τ) none) Set.univ (k0_part68 (F := F) a0 ha0 a1 ha1 a2 ha2 comm hc gath hg parts hp cc0_scratch3 cc0_scratch4 cc0_scratch5 cc0_scratch6 cc0_scratch7 cc0_scratch8 c v8 v64 v67 v1848 c4_i32_2013 >>= kk) Q := by
  rw [k0_part68_eq_skeleton]; unfold k0_part68_skel
  simp only [Prog.lift, Prog.bind_op, Prog.bind_ret, Prog.pure_eq_ret]
  iintro ⟨#HR, HSt, R2w, Hk⟩
  iapply (send_step X Y κ c 106 (.cw 2 3) rfl rfl (congrArg sq (slotA_congr (off_cw2 c 3) _ _)) (dev43 c) (congrArg sq (slotA_congr (off_cw2 c 3) _ _)) rfl rfl) $$ [HSt R2w]
  · isplitr; · iexact HR
    isplitl [HSt]; · iexact HSt
    iexact R2w
  iintro HSt
  iapply (wait_snd X Y κ c 107 (.cw 3 2) rfl rfl rfl) $$ [HSt]
  · isplitr; · iexact HR
    iexact HSt
  iintro HSt
  iapply Hk
  iexact HSt

theorem part69 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v11 : BitVec 32} {v48 : BitVec 32} {v51 : BitVec 32} {kk : (Σ' (v1899 : BitVec 32) (v1900 : BitVec 32) (v1901 : BitVec 1), BitVec 1) → Prog (TpuEff nD τ sig (Elt F) Λ₀ .tc) α} {Q : α → sProp 𝕄} :
    iprop(records X Y κ ∗ St X Y c 108
      ∗ (∀ w0 : BitVec 32, ∀ w1 : BitVec 32, ∀ w2 : BitVec 1, ∀ w3 : BitVec 1, (St X Y c 111 ∗ rcvPay X Y (.cw 3 2) c ∗ sndPay X Y (.cc 3 3) c) -∗ wp frame (wpE (defs₀ (F := F)) 𝒱₀ (c : Thread nD τ) none) Set.univ (kk ⟨w0, w1, w2, w3⟩) Q))
    ⊢ wp frame (wpE (defs₀ (F := F)) 𝒱₀ (c : Thread nD τ) none) Set.univ (k0_part69 (F := F) a0 ha0 a1 ha1 a2 ha2 comm hc gath hg parts hp cc0_scratch3 cc0_scratch4 cc0_scratch5 cc0_scratch6 cc0_scratch7 cc0_scratch8 c v8 v11 v48 v51 >>= kk) Q := by
  rw [k0_part69_eq_skeleton]; unfold k0_part69_skel
  simp only [Prog.lift, Prog.bind_op, Prog.bind_ret, Prog.pure_eq_ret]
  iintro ⟨#HR, HSt, Hk⟩
  iapply (wait_rcv X Y κ c 108 (.cw 3 2) rfl rfl rfl) $$ [HSt]
  · isplitr; · iexact HR
    iexact HSt
  iintro ⟨HSt, R3w⟩
  iapply (wait_snd X Y κ c 109 (.cc 3 2) rfl rfl rfl) $$ [HSt]
  · isplitr; · iexact HR
    iexact HSt
  iintro HSt
  iapply (wait_rcv X Y κ c 110 (.cc 3 2) rfl rfl rfl) $$ [HSt]
  · isplitr; · iexact HR
    iexact HSt
  iintro ⟨HSt, R3c⟩
  ihave R3c := (show rcvPay X Y (.cc 3 2) c ⊢ sndPay X Y (.cc 3 3) c from .rfl) $$ R3c
  iapply Hk
  isplitl [HSt]; · iexact HSt
  isplitl [R3w]; · iexact R3w
  iexact R3c

theorem part70 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v48 : BitVec 32} {v51 : BitVec 32} {v1899 : BitVec 32} {v1900 : BitVec 32} {v1901 : BitVec 1} {v1902 : BitVec 1} {kk : (BitVec 32) → Prog (TpuEff nD τ sig (Elt F) Λ₀ .tc) α} {Q : α → sProp 𝕄} :
    iprop(records X Y κ ∗ St X Y c 111 ∗ sndPay X Y (.cc 3 3) c
      ∗ (∀ w0 : BitVec 32, (St X Y c 113) -∗ wp frame (wpE (defs₀ (F := F)) 𝒱₀ (c : Thread nD τ) none) Set.univ (kk w0) Q))
    ⊢ wp frame (wpE (defs₀ (F := F)) 𝒱₀ (c : Thread nD τ) none) Set.univ (k0_part70 (F := F) a0 ha0 a1 ha1 a2 ha2 comm hc gath hg parts hp cc0_scratch3 cc0_scratch4 cc0_scratch5 cc0_scratch6 cc0_scratch7 cc0_scratch8 c v8 v48 v51 v1899 v1900 v1901 v1902 >>= kk) Q := by
  rw [k0_part70_eq_skeleton]; unfold k0_part70_skel
  simp only [Prog.lift, Prog.bind_op, Prog.bind_ret, Prog.pure_eq_ret]
  iintro ⟨#HR, HSt, R3c, Hk⟩
  iapply (send_step X Y κ c 111 (.cc 3 3) rfl rfl (congrArg sq (slotA_congr (off_cc3 c 3) _ _)) (dev44 c) (congrArg sq (slotA_congr (off_cc3 c 3) _ _)) rfl rfl) $$ [HSt R3c]
  · isplitr; · iexact HR
    isplitl [HSt]; · iexact HSt
    iexact R3c
  iintro HSt
  iapply (wait_snd X Y κ c 112 (.cw 0 3) rfl rfl rfl) $$ [HSt]
  · isplitr; · iexact HR
    iexact HSt
  iintro HSt
  iapply Hk
  iexact HSt

theorem part71 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v64 : BitVec 32} {v67 : BitVec 32} {c16_i32_2107 : BitVec 32} {kk : (PUnit) → Prog (TpuEff nD τ sig (Elt F) Λ₀ .tc) α} {Q : α → sProp 𝕄} :
    iprop(records X Y κ ∗ St X Y c 113 ∗ own c (cM 0 3) fullShare (acc X Y 0 2 (zl c)) ∗ rcvPay X Y (.cc 0 2) c ∗ anyO (F := F) a2 c 0 0 ∗ anyO (F := F) a2 c 0 1 ∗ anyO (F := F) a2 c 0 2 ∗ anyO (F := F) a2 c 0 3
      ∗ ((St X Y c 115 ∗ ownO a2 c 0 0 (dn (tot X Y 0 (atR c 0))) ∗ ownO a2 c 0 1 (dn (tot X Y 0 (atR c 1))) ∗ ownO a2 c 0 2 (dn (tot X Y 0 (atR c 2))) ∗ ownO a2 c 0 3 (dn (tot X Y 0 (atR c 3))) ∗ gat X Y c 0 0 ∗ gat X Y c 0 1 ∗ gat X Y c 0 2 ∗ gat X Y c 0 3 ∗ gat X Y c 0 4 ∗ gat X Y c 0 5 ∗ gat X Y c 0 6 ∗ gat X Y c 0 7 ∗ commDone (F := F) c 0) -∗ wp frame (wpE (defs₀ (F := F)) 𝒱₀ (c : Thread nD τ) none) Set.univ (kk ⟨⟩) Q))
    ⊢ wp frame (wpE (defs₀ (F := F)) 𝒱₀ (c : Thread nD τ) none) Set.univ (k0_part71 (F := F) a0 ha0 a1 ha1 a2 ha2 comm hc gath hg parts hp cc0_scratch3 cc0_scratch4 cc0_scratch5 cc0_scratch6 cc0_scratch7 cc0_scratch8 c v8 v64 v67 c16_i32_2107 >>= kk) Q := by
  rw [k0_part71_eq_skeleton]; unfold k0_part71_skel
  simp only [Prog.lift, Prog.bind_op, Prog.bind_ret, Prog.pure_eq_ret]
  iintro ⟨#HR, HSt, C03, R0c, O00, O01, O02, O03, Hk⟩
  iapply (wait_rcv X Y κ c 113 (.cw 0 3) rfl rfl rfl) $$ [HSt]
  · isplitr; · iexact HR
    iexact HSt
  iintro ⟨HSt, R0w⟩
  ihave HG := (take_column_even X Y c 0 114 rfl rfl) $$ [HSt C03 R0w R0c]
  · isplitl [HSt]; · iexact HSt
    isplitl [C03]; · iexact C03
    isplitl [R0w]; · iexact R0w
    iexact R0c
  icases HG with ⟨HSt, ⟨G00, G01, G02, G03, G04, G05, G06, G07⟩, D0⟩
  iapply (load_own c gath _ (fun _ => rfl) (m' := aM 0 0) rfl fullShare _) $$ G00; iintro G00
  ihave O00 := (show anyO (F := F) a2 c 0 0 ⊢ iprop(∃ v, ownO (F := F) a2 c 0 0 v) from .rfl) $$ O00
  icases O00 with ⟨%xO00, O00⟩
  iapply (load_own c a2 _ (fun _ => rfl) (m' := oM a2 0 0) rfl fullShare _) $$ O00; iintro O00
  iapply (store_own c a2 _ (fun _ => rfl) (m' := oM a2 0 0) rfl _ _) $$ O00; iintro O00
  ihave O00 := (show ownO a2 c 0 0 (k0_pay39 (tot X Y 0 (atR c 0))) ⊢ ownO a2 c 0 0 (dn (tot X Y 0 (atR c 0))) from .rfl) $$ O00
  iapply (load_own c gath _ (fun _ => rfl) (m' := aM 0 1) rfl fullShare _) $$ G01; iintro G01
  ihave O01 := (show anyO (F := F) a2 c 0 1 ⊢ iprop(∃ v, ownO (F := F) a2 c 0 1 v) from .rfl) $$ O01
  icases O01 with ⟨%xO01, O01⟩
  iapply (load_own c a2 _ (fun _ => rfl) (m' := oM a2 0 1) rfl fullShare _) $$ O01; iintro O01
  iapply (store_own c a2 _ (fun _ => rfl) (m' := oM a2 0 1) rfl _ _) $$ O01; iintro O01
  ihave O01 := (show ownO a2 c 0 1 (k0_pay40 (tot X Y 0 (atR c 1))) ⊢ ownO a2 c 0 1 (dn (tot X Y 0 (atR c 1))) from .rfl) $$ O01
  iapply (load_own c gath _ (fun _ => rfl) (m' := aM 0 2) rfl fullShare _) $$ G02; iintro G02
  ihave O02 := (show anyO (F := F) a2 c 0 2 ⊢ iprop(∃ v, ownO (F := F) a2 c 0 2 v) from .rfl) $$ O02
  icases O02 with ⟨%xO02, O02⟩
  iapply (load_own c a2 _ (fun _ => rfl) (m' := oM a2 0 2) rfl fullShare _) $$ O02; iintro O02
  iapply (store_own c a2 _ (fun _ => rfl) (m' := oM a2 0 2) rfl _ _) $$ O02; iintro O02
  ihave O02 := (show ownO a2 c 0 2 (k0_pay41 (tot X Y 0 (atR c 2))) ⊢ ownO a2 c 0 2 (dn (tot X Y 0 (atR c 2))) from .rfl) $$ O02
  iapply (load_own c gath _ (fun _ => rfl) (m' := aM 0 3) rfl fullShare _) $$ G03; iintro G03
  ihave O03 := (show anyO (F := F) a2 c 0 3 ⊢ iprop(∃ v, ownO (F := F) a2 c 0 3 v) from .rfl) $$ O03
  icases O03 with ⟨%xO03, O03⟩
  iapply (load_own c a2 _ (fun _ => rfl) (m' := oM a2 0 3) rfl fullShare _) $$ O03; iintro O03
  iapply (store_own c a2 _ (fun _ => rfl) (m' := oM a2 0 3) rfl _ _) $$ O03; iintro O03
  ihave O03 := (show ownO a2 c 0 3 (k0_pay42 (tot X Y 0 (atR c 3))) ⊢ ownO a2 c 0 3 (dn (tot X Y 0 (atR c 3))) from .rfl) $$ O03
  iapply Hk
  isplitl [HSt]; · iexact HSt
  isplitl [O00]; · iexact O00
  isplitl [O01]; · iexact O01
  isplitl [O02]; · iexact O02
  isplitl [O03]; · iexact O03
  isplitl [G00]; · iexact G00
  isplitl [G01]; · iexact G01
  isplitl [G02]; · iexact G02
  isplitl [G03]; · iexact G03
  isplitl [G04]; · iexact G04
  isplitl [G05]; · iexact G05
  isplitl [G06]; · iexact G06
  isplitl [G07]; · iexact G07
  iexact D0

theorem part72 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {kk : (PUnit) → Prog (TpuEff nD τ sig (Elt F) Λ₀ .tc) α} {Q : α → sProp 𝕄} :
    iprop(records X Y κ ∗ St X Y c 115 ∗ gat X Y c 0 4 ∗ anyO (F := F) a2 c 0 4 ∗ gat X Y c 0 5 ∗ anyO (F := F) a2 c 0 5 ∗ gat X Y c 0 6 ∗ anyO (F := F) a2 c 0 6 ∗ gat X Y c 0 7 ∗ anyO (F := F) a2 c 0 7
      ∗ ((St X Y c 116 ∗ gat X Y c 0 4 ∗ ownO a2 c 0 4 (dn (tot X Y 0 (atR c 4))) ∗ gat X Y c 0 5 ∗ ownO a2 c 0 5 (dn (tot X Y 0 (atR c 5))) ∗ gat X Y c 0 6 ∗ ownO a2 c 0 6 (dn (tot X Y 0 (atR c 6))) ∗ gat X Y c 0 7 ∗ ownO a2 c 0 7 (dn (tot X Y 0 (atR c 7)))) -∗ wp frame (wpE (defs₀ (F := F)) 𝒱₀ (c : Thread nD τ) none) Set.univ (kk ⟨⟩) Q))
    ⊢ wp frame (wpE (defs₀ (F := F)) 𝒱₀ (c : Thread nD τ) none) Set.univ (k0_part72 (F := F) a0 ha0 a1 ha1 a2 ha2 comm hc gath hg parts hp cc0_scratch3 cc0_scratch4 cc0_scratch5 cc0_scratch6 cc0_scratch7 cc0_scratch8 c >>= kk) Q := by
  rw [k0_part72_eq_skeleton]; unfold k0_part72_skel
  simp only [Prog.lift, Prog.bind_op, Prog.bind_ret, Prog.pure_eq_ret]
  iintro ⟨#HR, HSt, G04, O04, G05, O05, G06, O06, G07, O07, Hk⟩
  iapply (load_own c gath _ (fun _ => rfl) (m' := aM 0 4) rfl fullShare _) $$ G04; iintro G04
  ihave O04 := (show anyO (F := F) a2 c 0 4 ⊢ iprop(∃ v, ownO (F := F) a2 c 0 4 v) from .rfl) $$ O04
  icases O04 with ⟨%xO04, O04⟩
  iapply (load_own c a2 _ (fun _ => rfl) (m' := oM a2 0 4) rfl fullShare _) $$ O04; iintro O04
  iapply (store_own c a2 _ (fun _ => rfl) (m' := oM a2 0 4) rfl _ _) $$ O04; iintro O04
  ihave O04 := (show ownO a2 c 0 4 (k0_pay43 (tot X Y 0 (atR c 4))) ⊢ ownO a2 c 0 4 (dn (tot X Y 0 (atR c 4))) from .rfl) $$ O04
  iapply (load_own c gath _ (fun _ => rfl) (m' := aM 0 5) rfl fullShare _) $$ G05; iintro G05
  ihave O05 := (show anyO (F := F) a2 c 0 5 ⊢ iprop(∃ v, ownO (F := F) a2 c 0 5 v) from .rfl) $$ O05
  icases O05 with ⟨%xO05, O05⟩
  iapply (load_own c a2 _ (fun _ => rfl) (m' := oM a2 0 5) rfl fullShare _) $$ O05; iintro O05
  iapply (store_own c a2 _ (fun _ => rfl) (m' := oM a2 0 5) rfl _ _) $$ O05; iintro O05
  ihave O05 := (show ownO a2 c 0 5 (k0_pay44 (tot X Y 0 (atR c 5))) ⊢ ownO a2 c 0 5 (dn (tot X Y 0 (atR c 5))) from .rfl) $$ O05
  iapply (load_own c gath _ (fun _ => rfl) (m' := aM 0 6) rfl fullShare _) $$ G06; iintro G06
  ihave O06 := (show anyO (F := F) a2 c 0 6 ⊢ iprop(∃ v, ownO (F := F) a2 c 0 6 v) from .rfl) $$ O06
  icases O06 with ⟨%xO06, O06⟩
  iapply (load_own c a2 _ (fun _ => rfl) (m' := oM a2 0 6) rfl fullShare _) $$ O06; iintro O06
  iapply (store_own c a2 _ (fun _ => rfl) (m' := oM a2 0 6) rfl _ _) $$ O06; iintro O06
  ihave O06 := (show ownO a2 c 0 6 (k0_pay45 (tot X Y 0 (atR c 6))) ⊢ ownO a2 c 0 6 (dn (tot X Y 0 (atR c 6))) from .rfl) $$ O06
  iapply (load_own c gath _ (fun _ => rfl) (m' := aM 0 7) rfl fullShare _) $$ G07; iintro G07
  ihave O07 := (show anyO (F := F) a2 c 0 7 ⊢ iprop(∃ v, ownO (F := F) a2 c 0 7 v) from .rfl) $$ O07
  icases O07 with ⟨%xO07, O07⟩
  iapply (load_own c a2 _ (fun _ => rfl) (m' := oM a2 0 7) rfl fullShare _) $$ O07; iintro O07
  iapply (store_own c a2 _ (fun _ => rfl) (m' := oM a2 0 7) rfl _ _) $$ O07; iintro O07
  ihave O07 := (show ownO a2 c 0 7 (k0_pay46 (tot X Y 0 (atR c 7))) ⊢ ownO a2 c 0 7 (dn (tot X Y 0 (atR c 7))) from .rfl) $$ O07
  iapply (wait_snd X Y κ c 115 (.cc 1 3) rfl rfl rfl) $$ [HSt]
  · isplitr; · iexact HR
    iexact HSt
  iintro HSt
  iapply Hk
  isplitl [HSt]; · iexact HSt
  isplitl [G04]; · iexact G04
  isplitl [O04]; · iexact O04
  isplitl [G05]; · iexact G05
  isplitl [O05]; · iexact O05
  isplitl [G06]; · iexact G06
  isplitl [O06]; · iexact O06
  isplitl [G07]; · iexact G07
  iexact O07

theorem part73 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v48 : BitVec 32} {v51 : BitVec 32} {kk : (Vec F S1x1x256x128 .f32) → Prog (TpuEff nD τ sig (Elt F) Λ₀ .tc) α} {Q : α → sProp 𝕄} :
    iprop(records X Y κ ∗ St X Y c 116 ∗ own c (cM 1 3) fullShare (acc X Y 1 2 (zl c)) ∗ rcvPay X Y (.cw 1 2) c ∗ anyO (F := F) a2 c 1 0 ∗ anyO (F := F) a2 c 1 1 ∗ anyO (F := F) a2 c 1 2
      ∗ ((St X Y c 118 ∗ ownO a2 c 1 0 (dn (tot X Y 1 (atR c 0))) ∗ ownO a2 c 1 1 (dn (tot X Y 1 (atR c 1))) ∗ ownO a2 c 1 2 (dn (tot X Y 1 (atR c 2))) ∗ gat X Y c 1 0 ∗ gat X Y c 1 1 ∗ gat X Y c 1 2 ∗ gat X Y c 1 3 ∗ gat X Y c 1 4 ∗ gat X Y c 1 5 ∗ gat X Y c 1 6 ∗ gat X Y c 1 7 ∗ commDone (F := F) c 1) -∗ wp frame (wpE (defs₀ (F := F)) 𝒱₀ (c : Thread nD τ) none) Set.univ (kk (tot X Y 1 (atR c 3))) Q))
    ⊢ wp frame (wpE (defs₀ (F := F)) 𝒱₀ (c : Thread nD τ) none) Set.univ (k0_part73 (F := F) a0 ha0 a1 ha1 a2 ha2 comm hc gath hg parts hp cc0_scratch3 cc0_scratch4 cc0_scratch5 cc0_scratch6 cc0_scratch7 cc0_scratch8 c v8 v48 v51 >>= kk) Q := by
  rw [k0_part73_eq_skeleton]; unfold k0_part73_skel
  simp only [Prog.lift, Prog.bind_op, Prog.bind_ret, Prog.pure_eq_ret]
  iintro ⟨#HR, HSt, C13, R1w, O10, O11, O12, Hk⟩
  iapply (wait_rcv X Y κ c 116 (.cc 1 3) rfl rfl rfl) $$ [HSt]
  · isplitr; · iexact HR
    iexact HSt
  iintro ⟨HSt, R1c⟩
  ihave HG := (take_column_odd X Y c 1 117 rfl rfl) $$ [HSt C13 R1w R1c]
  · isplitl [HSt]; · iexact HSt
    isplitl [C13]; · iexact C13
    isplitl [R1w]; · iexact R1w
    iexact R1c
  icases HG with ⟨HSt, ⟨G10, G11, G12, G13, G14, G15, G16, G17⟩, D1⟩
  iapply (load_own c gath _ (fun _ => rfl) (m' := aM 1 0) rfl fullShare _) $$ G10; iintro G10
  ihave O10 := (show anyO (F := F) a2 c 1 0 ⊢ iprop(∃ v, ownO (F := F) a2 c 1 0 v) from .rfl) $$ O10
  icases O10 with ⟨%xO10, O10⟩
  iapply (load_own c a2 _ (fun _ => rfl) (m' := oM a2 1 0) rfl fullShare _) $$ O10; iintro O10
  iapply (store_own c a2 _ (fun _ => rfl) (m' := oM a2 1 0) rfl _ _) $$ O10; iintro O10
  ihave O10 := (show ownO a2 c 1 0 (k0_pay47 (tot X Y 1 (atR c 0))) ⊢ ownO a2 c 1 0 (dn (tot X Y 1 (atR c 0))) from .rfl) $$ O10
  iapply (load_own c gath _ (fun _ => rfl) (m' := aM 1 1) rfl fullShare _) $$ G11; iintro G11
  ihave O11 := (show anyO (F := F) a2 c 1 1 ⊢ iprop(∃ v, ownO (F := F) a2 c 1 1 v) from .rfl) $$ O11
  icases O11 with ⟨%xO11, O11⟩
  iapply (load_own c a2 _ (fun _ => rfl) (m' := oM a2 1 1) rfl fullShare _) $$ O11; iintro O11
  iapply (store_own c a2 _ (fun _ => rfl) (m' := oM a2 1 1) rfl _ _) $$ O11; iintro O11
  ihave O11 := (show ownO a2 c 1 1 (k0_pay48 (tot X Y 1 (atR c 1))) ⊢ ownO a2 c 1 1 (dn (tot X Y 1 (atR c 1))) from .rfl) $$ O11
  iapply (load_own c gath _ (fun _ => rfl) (m' := aM 1 2) rfl fullShare _) $$ G12; iintro G12
  ihave O12 := (show anyO (F := F) a2 c 1 2 ⊢ iprop(∃ v, ownO (F := F) a2 c 1 2 v) from .rfl) $$ O12
  icases O12 with ⟨%xO12, O12⟩
  iapply (load_own c a2 _ (fun _ => rfl) (m' := oM a2 1 2) rfl fullShare _) $$ O12; iintro O12
  iapply (store_own c a2 _ (fun _ => rfl) (m' := oM a2 1 2) rfl _ _) $$ O12; iintro O12
  ihave O12 := (show ownO a2 c 1 2 (k0_pay49 (tot X Y 1 (atR c 2))) ⊢ ownO a2 c 1 2 (dn (tot X Y 1 (atR c 2))) from .rfl) $$ O12
  iapply (load_own c gath _ (fun _ => rfl) (m' := aM 1 3) rfl fullShare _) $$ G13; iintro G13
  iapply Hk
  isplitl [HSt]; · iexact HSt
  isplitl [O10]; · iexact O10
  isplitl [O11]; · iexact O11
  isplitl [O12]; · iexact O12
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  iexact D1

theorem part74 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {kk : (PUnit) → Prog (TpuEff nD τ sig (Elt F) Λ₀ .tc) α} {Q : α → sProp 𝕄} :
    iprop(records X Y κ ∗ St X Y c 118 ∗ anyO (F := F) a2 c 1 3 ∗ gat X Y c 1 4 ∗ anyO (F := F) a2 c 1 4 ∗ gat X Y c 1 5 ∗ anyO (F := F) a2 c 1 5 ∗ gat X Y c 1 6 ∗ anyO (F := F) a2 c 1 6 ∗ gat X Y c 1 7 ∗ anyO (F := F) a2 c 1 7
      ∗ ((St X Y c 118 ∗ ownO a2 c 1 3 (dn (tot X Y 1 (atR c 3))) ∗ gat X Y c 1 4 ∗ ownO a2 c 1 4 (dn (tot X Y 1 (atR c 4))) ∗ gat X Y c 1 5 ∗ ownO a2 c 1 5 (dn (tot X Y 1 (atR c 5))) ∗ gat X Y c 1 6 ∗ ownO a2 c 1 6 (dn (tot X Y 1 (atR c 6))) ∗ gat X Y c 1 7 ∗ ownO a2 c 1 7 (dn (tot X Y 1 (atR c 7)))) -∗ wp frame (wpE (defs₀ (F := F)) 𝒱₀ (c : Thread nD τ) none) Set.univ (kk ⟨⟩) Q))
    ⊢ wp frame (wpE (defs₀ (F := F)) 𝒱₀ (c : Thread nD τ) none) Set.univ (k0_part74 (F := F) a0 ha0 a1 ha1 a2 ha2 comm hc gath hg parts hp cc0_scratch3 cc0_scratch4 cc0_scratch5 cc0_scratch6 cc0_scratch7 cc0_scratch8 c ((tot X Y 1 (atR c 3))) >>= kk) Q := by
  rw [k0_part74_eq_skeleton]; unfold k0_part74_skel
  simp only [Prog.lift, Prog.bind_op, Prog.bind_ret, Prog.pure_eq_ret]
  iintro ⟨#HR, HSt, O13, G14, O14, G15, O15, G16, O16, G17, O17, Hk⟩
  ihave O13 := (show anyO (F := F) a2 c 1 3 ⊢ iprop(∃ v, ownO (F := F) a2 c 1 3 v) from .rfl) $$ O13
  icases O13 with ⟨%xO13, O13⟩
  iapply (load_own c a2 _ (fun _ => rfl) (m' := oM a2 1 3) rfl fullShare _) $$ O13; iintro O13
  iapply (store_own c a2 _ (fun _ => rfl) (m' := oM a2 1 3) rfl _ _) $$ O13; iintro O13
  ihave O13 := (show ownO a2 c 1 3 (k0_pay50 ((tot X Y 1 (atR c 3)))) ⊢ ownO a2 c 1 3 (dn (tot X Y 1 (atR c 3))) from .rfl) $$ O13
  iapply (load_own c gath _ (fun _ => rfl) (m' := aM 1 4) rfl fullShare _) $$ G14; iintro G14
  ihave O14 := (show anyO (F := F) a2 c 1 4 ⊢ iprop(∃ v, ownO (F := F) a2 c 1 4 v) from .rfl) $$ O14
  icases O14 with ⟨%xO14, O14⟩
  iapply (load_own c a2 _ (fun _ => rfl) (m' := oM a2 1 4) rfl fullShare _) $$ O14; iintro O14
  iapply (store_own c a2 _ (fun _ => rfl) (m' := oM a2 1 4) rfl _ _) $$ O14; iintro O14
  ihave O14 := (show ownO a2 c 1 4 (k0_pay51 (tot X Y 1 (atR c 4))) ⊢ ownO a2 c 1 4 (dn (tot X Y 1 (atR c 4))) from .rfl) $$ O14
  iapply (load_own c gath _ (fun _ => rfl) (m' := aM 1 5) rfl fullShare _) $$ G15; iintro G15
  ihave O15 := (show anyO (F := F) a2 c 1 5 ⊢ iprop(∃ v, ownO (F := F) a2 c 1 5 v) from .rfl) $$ O15
  icases O15 with ⟨%xO15, O15⟩
  iapply (load_own c a2 _ (fun _ => rfl) (m' := oM a2 1 5) rfl fullShare _) $$ O15; iintro O15
  iapply (store_own c a2 _ (fun _ => rfl) (m' := oM a2 1 5) rfl _ _) $$ O15; iintro O15
  ihave O15 := (show ownO a2 c 1 5 (k0_pay52 (tot X Y 1 (atR c 5))) ⊢ ownO a2 c 1 5 (dn (tot X Y 1 (atR c 5))) from .rfl) $$ O15
  iapply (load_own c gath _ (fun _ => rfl) (m' := aM 1 6) rfl fullShare _) $$ G16; iintro G16
  ihave O16 := (show anyO (F := F) a2 c 1 6 ⊢ iprop(∃ v, ownO (F := F) a2 c 1 6 v) from .rfl) $$ O16
  icases O16 with ⟨%xO16, O16⟩
  iapply (load_own c a2 _ (fun _ => rfl) (m' := oM a2 1 6) rfl fullShare _) $$ O16; iintro O16
  iapply (store_own c a2 _ (fun _ => rfl) (m' := oM a2 1 6) rfl _ _) $$ O16; iintro O16
  ihave O16 := (show ownO a2 c 1 6 (k0_pay53 (tot X Y 1 (atR c 6))) ⊢ ownO a2 c 1 6 (dn (tot X Y 1 (atR c 6))) from .rfl) $$ O16
  iapply (load_own c gath _ (fun _ => rfl) (m' := aM 1 7) rfl fullShare _) $$ G17; iintro G17
  ihave O17 := (show anyO (F := F) a2 c 1 7 ⊢ iprop(∃ v, ownO (F := F) a2 c 1 7 v) from .rfl) $$ O17
  icases O17 with ⟨%xO17, O17⟩
  iapply (load_own c a2 _ (fun _ => rfl) (m' := oM a2 1 7) rfl fullShare _) $$ O17; iintro O17
  iapply (store_own c a2 _ (fun _ => rfl) (m' := oM a2 1 7) rfl _ _) $$ O17; iintro O17
  ihave O17 := (show ownO a2 c 1 7 (k0_pay54 (tot X Y 1 (atR c 7))) ⊢ ownO a2 c 1 7 (dn (tot X Y 1 (atR c 7))) from .rfl) $$ O17
  iapply Hk
  isplitl [HSt]; · iexact HSt
  isplitl [O13]; · iexact O13
  isplitl [G14]; · iexact G14
  isplitl [O14]; · iexact O14
  isplitl [G15]; · iexact G15
  isplitl [O15]; · iexact O15
  isplitl [G16]; · iexact G16
  isplitl [O16]; · iexact O16
  isplitl [G17]; · iexact G17
  iexact O17

theorem part75 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v64 : BitVec 32} {v67 : BitVec 32} {kk : (PUnit) → Prog (TpuEff nD τ sig (Elt F) Λ₀ .tc) α} {Q : α → sProp 𝕄} :
    iprop(records X Y κ ∗ St X Y c 118 ∗ own c (cM 2 3) fullShare (acc X Y 2 2 (zl c)) ∗ rcvPay X Y (.cc 2 2) c ∗ anyO (F := F) a2 c 2 0 ∗ anyO (F := F) a2 c 2 1 ∗ anyO (F := F) a2 c 2 2
      ∗ ((St X Y c 121 ∗ ownO a2 c 2 0 (dn (tot X Y 2 (atR c 0))) ∗ ownO a2 c 2 1 (dn (tot X Y 2 (atR c 1))) ∗ ownO a2 c 2 2 (dn (tot X Y 2 (atR c 2))) ∗ gat X Y c 2 0 ∗ gat X Y c 2 1 ∗ gat X Y c 2 2 ∗ gat X Y c 2 3 ∗ gat X Y c 2 4 ∗ gat X Y c 2 5 ∗ gat X Y c 2 6 ∗ gat X Y c 2 7 ∗ commDone (F := F) c 2) -∗ wp frame (wpE (defs₀ (F := F)) 𝒱₀ (c : Thread nD τ) none) Set.univ (kk ⟨⟩) Q))
    ⊢ wp frame (wpE (defs₀ (F := F)) 𝒱₀ (c : Thread nD τ) none) Set.univ (k0_part75 (F := F) a0 ha0 a1 ha1 a2 ha2 comm hc gath hg parts hp cc0_scratch3 cc0_scratch4 cc0_scratch5 cc0_scratch6 cc0_scratch7 cc0_scratch8 c v8 v64 v67 >>= kk) Q := by
  rw [k0_part75_eq_skeleton]; unfold k0_part75_skel
  simp only [Prog.lift, Prog.bind_op, Prog.bind_ret, Prog.pure_eq_ret]
  iintro ⟨#HR, HSt, C23, R2c, O20, O21, O22, Hk⟩
  iapply (wait_snd X Y κ c 118 (.cw 2 3) rfl rfl rfl) $$ [HSt]
  · isplitr; · iexact HR
    iexact HSt
  iintro HSt
  iapply (wait_rcv X Y κ c 119 (.cw 2 3) rfl rfl rfl) $$ [HSt]
  · isplitr; · iexact HR
    iexact HSt
  iintro ⟨HSt, R2w⟩
  ihave HG := (take_column_even X Y c 2 120 rfl rfl) $$ [HSt C23 R2w R2c]
  · isplitl [HSt]; · iexact HSt
    isplitl [C23]; · iexact C23
    isplitl [R2w]; · iexact R2w
    iexact R2c
  icases HG with ⟨HSt, ⟨G20, G21, G22, G23, G24, G25, G26, G27⟩, D2⟩
  iapply (load_own c gath _ (fun _ => rfl) (m' := aM 2 0) rfl fullShare _) $$ G20; iintro G20
  ihave O20 := (show anyO (F := F) a2 c 2 0 ⊢ iprop(∃ v, ownO (F := F) a2 c 2 0 v) from .rfl) $$ O20
  icases O20 with ⟨%xO20, O20⟩
  iapply (load_own c a2 _ (fun _ => rfl) (m' := oM a2 2 0) rfl fullShare _) $$ O20; iintro O20
  iapply (store_own c a2 _ (fun _ => rfl) (m' := oM a2 2 0) rfl _ _) $$ O20; iintro O20
  ihave O20 := (show ownO a2 c 2 0 (k0_pay55 (tot X Y 2 (atR c 0))) ⊢ ownO a2 c 2 0 (dn (tot X Y 2 (atR c 0))) from .rfl) $$ O20
  iapply (load_own c gath _ (fun _ => rfl) (m' := aM 2 1) rfl fullShare _) $$ G21; iintro G21
  ihave O21 := (show anyO (F := F) a2 c 2 1 ⊢ iprop(∃ v, ownO (F := F) a2 c 2 1 v) from .rfl) $$ O21
  icases O21 with ⟨%xO21, O21⟩
  iapply (load_own c a2 _ (fun _ => rfl) (m' := oM a2 2 1) rfl fullShare _) $$ O21; iintro O21
  iapply (store_own c a2 _ (fun _ => rfl) (m' := oM a2 2 1) rfl _ _) $$ O21; iintro O21
  ihave O21 := (show ownO a2 c 2 1 (k0_pay56 (tot X Y 2 (atR c 1))) ⊢ ownO a2 c 2 1 (dn (tot X Y 2 (atR c 1))) from .rfl) $$ O21
  iapply (load_own c gath _ (fun _ => rfl) (m' := aM 2 2) rfl fullShare _) $$ G22; iintro G22
  ihave O22 := (show anyO (F := F) a2 c 2 2 ⊢ iprop(∃ v, ownO (F := F) a2 c 2 2 v) from .rfl) $$ O22
  icases O22 with ⟨%xO22, O22⟩
  iapply (load_own c a2 _ (fun _ => rfl) (m' := oM a2 2 2) rfl fullShare _) $$ O22; iintro O22
  iapply (store_own c a2 _ (fun _ => rfl) (m' := oM a2 2 2) rfl _ _) $$ O22; iintro O22
  ihave O22 := (show ownO a2 c 2 2 (k0_pay57 (tot X Y 2 (atR c 2))) ⊢ ownO a2 c 2 2 (dn (tot X Y 2 (atR c 2))) from .rfl) $$ O22
  iapply Hk
  isplitl [HSt]; · iexact HSt
  isplitl [O20]; · iexact O20
  isplitl [O21]; · iexact O21
  isplitl [O22]; · iexact O22
  isplitl [G20]; · iexact G20
  isplitl [G21]; · iexact G21
  isplitl [G22]; · iexact G22
  isplitl [G23]; · iexact G23
  isplitl [G24]; · iexact G24
  isplitl [G25]; · iexact G25
  isplitl [G26]; · iexact G26
  isplitl [G27]; · iexact G27
  iexact D2

theorem part76 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {kk : (PUnit) → Prog (TpuEff nD τ sig (Elt F) Λ₀ .tc) α} {Q : α → sProp 𝕄} :
    iprop(records X Y κ ∗ St X Y c 121 ∗ gat X Y c 2 3 ∗ anyO (F := F) a2 c 2 3 ∗ gat X Y c 2 4 ∗ anyO (F := F) a2 c 2 4 ∗ gat X Y c 2 5 ∗ anyO (F := F) a2 c 2 5 ∗ gat X Y c 2 6 ∗ anyO (F := F) a2 c 2 6 ∗ gat X Y c 2 7 ∗ anyO (F := F) a2 c 2 7
      ∗ ((St X Y c 121 ∗ gat X Y c 2 3 ∗ ownO a2 c 2 3 (dn (tot X Y 2 (atR c 3))) ∗ gat X Y c 2 4 ∗ ownO a2 c 2 4 (dn (tot X Y 2 (atR c 4))) ∗ gat X Y c 2 5 ∗ ownO a2 c 2 5 (dn (tot X Y 2 (atR c 5))) ∗ gat X Y c 2 6 ∗ ownO a2 c 2 6 (dn (tot X Y 2 (atR c 6))) ∗ gat X Y c 2 7 ∗ ownO a2 c 2 7 (dn (tot X Y 2 (atR c 7)))) -∗ wp frame (wpE (defs₀ (F := F)) 𝒱₀ (c : Thread nD τ) none) Set.univ (kk ⟨⟩) Q))
    ⊢ wp frame (wpE (defs₀ (F := F)) 𝒱₀ (c : Thread nD τ) none) Set.univ (k0_part76 (F := F) a0 ha0 a1 ha1 a2 ha2 comm hc gath hg parts hp cc0_scratch3 cc0_scratch4 cc0_scratch5 cc0_scratch6 cc0_scratch7 cc0_scratch8  >>= kk) Q := by
  rw [k0_part76_eq_skeleton]; unfold k0_part76_skel
  simp only [Prog.lift, Prog.bind_op, Prog.bind_ret, Prog.pure_eq_ret]
  iintro ⟨#HR, HSt, G23, O23, G24, O24, G25, O25, G26, O26, G27, O27, Hk⟩
  iapply (load_own c gath _ (fun _ => rfl) (m' := aM 2 3) rfl fullShare _) $$ G23; iintro G23
  ihave O23 := (show anyO (F := F) a2 c 2 3 ⊢ iprop(∃ v, ownO (F := F) a2 c 2 3 v) from .rfl) $$ O23
  icases O23 with ⟨%xO23, O23⟩
  iapply (load_own c a2 _ (fun _ => rfl) (m' := oM a2 2 3) rfl fullShare _) $$ O23; iintro O23
  iapply (store_own c a2 _ (fun _ => rfl) (m' := oM a2 2 3) rfl _ _) $$ O23; iintro O23
  ihave O23 := (show ownO a2 c 2 3 (k0_pay58 (tot X Y 2 (atR c 3))) ⊢ ownO a2 c 2 3 (dn (tot X Y 2 (atR c 3))) from .rfl) $$ O23
  iapply (load_own c gath _ (fun _ => rfl) (m' := aM 2 4) rfl fullShare _) $$ G24; iintro G24
  ihave O24 := (show anyO (F := F) a2 c 2 4 ⊢ iprop(∃ v, ownO (F := F) a2 c 2 4 v) from .rfl) $$ O24
  icases O24 with ⟨%xO24, O24⟩
  iapply (load_own c a2 _ (fun _ => rfl) (m' := oM a2 2 4) rfl fullShare _) $$ O24; iintro O24
  iapply (store_own c a2 _ (fun _ => rfl) (m' := oM a2 2 4) rfl _ _) $$ O24; iintro O24
  ihave O24 := (show ownO a2 c 2 4 (k0_pay59 (tot X Y 2 (atR c 4))) ⊢ ownO a2 c 2 4 (dn (tot X Y 2 (atR c 4))) from .rfl) $$ O24
  iapply (load_own c gath _ (fun _ => rfl) (m' := aM 2 5) rfl fullShare _) $$ G25; iintro G25
  ihave O25 := (show anyO (F := F) a2 c 2 5 ⊢ iprop(∃ v, ownO (F := F) a2 c 2 5 v) from .rfl) $$ O25
  icases O25 with ⟨%xO25, O25⟩
  iapply (load_own c a2 _ (fun _ => rfl) (m' := oM a2 2 5) rfl fullShare _) $$ O25; iintro O25
  iapply (store_own c a2 _ (fun _ => rfl) (m' := oM a2 2 5) rfl _ _) $$ O25; iintro O25
  ihave O25 := (show ownO a2 c 2 5 (k0_pay60 (tot X Y 2 (atR c 5))) ⊢ ownO a2 c 2 5 (dn (tot X Y 2 (atR c 5))) from .rfl) $$ O25
  iapply (load_own c gath _ (fun _ => rfl) (m' := aM 2 6) rfl fullShare _) $$ G26; iintro G26
  ihave O26 := (show anyO (F := F) a2 c 2 6 ⊢ iprop(∃ v, ownO (F := F) a2 c 2 6 v) from .rfl) $$ O26
  icases O26 with ⟨%xO26, O26⟩
  iapply (load_own c a2 _ (fun _ => rfl) (m' := oM a2 2 6) rfl fullShare _) $$ O26; iintro O26
  iapply (store_own c a2 _ (fun _ => rfl) (m' := oM a2 2 6) rfl _ _) $$ O26; iintro O26
  ihave O26 := (show ownO a2 c 2 6 (k0_pay61 (tot X Y 2 (atR c 6))) ⊢ ownO a2 c 2 6 (dn (tot X Y 2 (atR c 6))) from .rfl) $$ O26
  iapply (load_own c gath _ (fun _ => rfl) (m' := aM 2 7) rfl fullShare _) $$ G27; iintro G27
  ihave O27 := (show anyO (F := F) a2 c 2 7 ⊢ iprop(∃ v, ownO (F := F) a2 c 2 7 v) from .rfl) $$ O27
  icases O27 with ⟨%xO27, O27⟩
  iapply (load_own c a2 _ (fun _ => rfl) (m' := oM a2 2 7) rfl fullShare _) $$ O27; iintro O27
  iapply (store_own c a2 _ (fun _ => rfl) (m' := oM a2 2 7) rfl _ _) $$ O27; iintro O27
  ihave O27 := (show ownO a2 c 2 7 (k0_pay62 (tot X Y 2 (atR c 7))) ⊢ ownO a2 c 2 7 (dn (tot X Y 2 (atR c 7))) from .rfl) $$ O27
  iapply Hk
  isplitl [HSt]; · iexact HSt
  isplitl [G23]; · iexact G23
  isplitl [O23]; · iexact O23
  isplitl [G24]; · iexact G24
  isplitl [O24]; · iexact O24
  isplitl [G25]; · iexact G25
  isplitl [O25]; · iexact O25
  isplitl [G26]; · iexact G26
  isplitl [O26]; · iexact O26
  isplitl [G27]; · iexact G27
  iexact O27

theorem part77 {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc : comm.IsWhole} {hg : gath.IsWhole} {hp : parts.IsWhole}
    {v8 : BitVec 32} {v48 : BitVec 32} {v51 : BitVec 32} {kk : (Vec F S1x1x256x128 .f32) → Prog (TpuEff nD τ sig (Elt F) Λ₀ .tc) α} {Q : α → sProp 𝕄} :
    iprop(records X Y κ ∗ St X Y c 121 ∗ own c (cM 3 3) fullShare (acc X Y 3 2 (zl c)) ∗ rcvPay X Y (.cw 3 2) c ∗ anyO (F := F) a2 c 3 0 ∗ anyO (F := F) a2 c 3 1
      ∗ ((St X Y c 124 ∗ ownO a2 c 3 0 (dn (tot X Y 3 (atR c 0))) ∗ ownO a2 c 3 1 (dn (tot X Y 3 (atR c 1))) ∗ gat X Y c 3 0 ∗ gat X Y c 3 1 ∗ gat X Y c 3 2 ∗ gat X Y c 3 3 ∗ gat X Y c 3 4 ∗ gat X Y c 3 5 ∗ gat X Y c 3 6 ∗ gat X Y c 3 7 ∗ commDone (F := F) c 3) -∗ wp frame (wpE (defs₀ (F := F)) 𝒱₀ (c : Thread nD τ) none) Set.univ (kk (tot X Y 3 (atR c 2))) Q))
    ⊢ wp frame (wpE (defs₀ (F := F)) 𝒱₀ (c : Thread nD τ) none) Set.univ (k0_part77 (F := F) a0 ha0 a1 ha1 a2 ha2 comm hc gath hg parts hp cc0_scratch3 cc0_scratch4 cc0_scratch5 cc0_scratch6 cc0_scratch7 cc0_scratch8 c v8 v48 v51 >>= kk) Q := by
  rw [k0_part77_eq_skeleton]; unfold k0_part77_skel
  simp only [Prog.lift, Prog.bind_op, Prog.bind_ret, Prog.pure_eq_ret]
  iintro ⟨#HR, HSt, C33, R3w, O30, O31, Hk⟩
  iapply (wait_snd X Y κ c 121 (.cc 3 3) rfl rfl rfl) $$ [HSt]
  · isplitr; · iexact HR
    iexact HSt
  iintro HSt
  iapply (wait_rcv X Y κ c 122 (.cc 3 3) rfl rfl rfl) $$ [HSt]
  · isplitr; · iexact HR
    iexact HSt
  iintro ⟨HSt, R3c⟩
  ihave HG := (take_column_odd X Y c 3 123 rfl rfl) $$ [HSt C33 R3w R3c]
  · isplitl [HSt]; · iexact HSt
    isplitl [C33]; · iexact C33
    isplitl [R3w]; · iexact R3w
    iexact R3c
  icases HG with ⟨HSt, ⟨G30, G31, G32, G33, G34, G35, G36, G37⟩, D3⟩
  iapply (load_own c gath _ (fun _ => rfl) (m' := aM 3 0) rfl fullShare _) $$ G30; iintro G30
  ihave O30 := (show anyO (F := F) a2 c 3 0 ⊢ iprop(∃ v, ownO (F := F) a2 c 3 0 v) from .rfl) $$ O30
  icases O30 with ⟨%xO30, O30⟩
  iapply (load_own c a2 _ (fun _ => rfl) (m' := oM a2 3 0) rfl fullShare _) $$ O30; iintro O30
  iapply (store_own c a2 _ (fun _ => rfl) (m' := oM a2 3 0) rfl _ _) $$ O30; iintro O30
  ihave O30 := (show ownO a2 c 3 0 (k0_pay63 (tot X Y 3 (atR c 0))) ⊢ ownO a2 c 3 0 (dn (tot X Y 3 (atR c 0))) from .rfl) $$ O30
  iapply (load_own c gath _ (fun _ => rfl) (m' := aM 3 1) rfl fullShare _) $$ G31; iintro G31
  ihave O31 := (show anyO (F := F) a2 c 3 1 ⊢ iprop(∃ v, ownO (F := F) a2 c 3 1 v) from .rfl) $$ O31
  icases O31 with ⟨%xO31, O31⟩
  iapply (load_own c a2 _ (fun _ => rfl) (m' := oM a2 3 1) rfl fullShare _) $$ O31; iintro O31
  iapply (store_own c a2 _ (fun _ => rfl) (m' := oM a2 3 1) rfl _ _) $$ O31; iintro O31
  ihave O31 := (show ownO a2 c 3 1 (k0_pay64 (tot X Y 3 (atR c 1))) ⊢ ownO a2 c 3 1 (dn (tot X Y 3 (atR c 1))) from .rfl) $$ O31
  iapply (load_own c gath _ (fun _ => rfl) (m' := aM 3 2) rfl fullShare _) $$ G32; iintro G32
  iapply Hk
  isplitl [HSt]; · iexact HSt
  isplitl [O30]; · iexact O30
  isplitl [O31]; · iexact O31
  isplitl [G30]; · iexact G30
  isplitl [G31]; · iexact G31
  isplitl [G32]; · iexact G32
  isplitl [G33]; · iexact G33
  isplitl [G34]; · iexact G34
  isplitl [G35]; · iexact G35
  isplitl [G36]; · iexact G36
  isplitl [G37]; · iexact G37
  iexact D3

end Cert.Proof.Ring
-- ==== Proof.Ring.Whole.lean ====
/- The whole body: its parts in their order. -/
module

public import proofs.«01_k».proof.Proof.Gen.KernelIdeal.Skeleton
public import proofs.«01_k».proof.Proof.Ring.Bar
public import proofs.«01_k».proof.Proof.Ring.PartsA
public import proofs.«01_k».proof.Proof.Ring.PartsB
public import proofs.«01_k».proof.Proof.Ring.PartsC
public import proofs.«01_k».proof.Proof.Ring.PartsD
public import proofs.«01_k».proof.Proof.Ring.PartsE

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .f32) (Y : Dev nD → Vec F S1024x512 .f32)
variable (κ : GSem nD τ sig → ℕ) (c : Dev nD)

/-- What the body starts from, but for the barrier and the result's blocks. -/
def beg (a0 : Memref sig .tc .vmem S4x256x1024 .f32) (a1 : Memref sig .tc .vmem S1024x512 .f32) : sProp 𝕄 :=
  iprop(hasX X a0 c ∗ hasY Y a1 c ∗ ownAny (F := F) c (cM 0 0) ∗ anyP (F := F) c 0 ∗ ownAny (F := F) c (aM 0 (rIx c)) ∗ ownAny (F := F) c (cM 1 0) ∗ anyP (F := F) c 1 ∗ ownAny (F := F) c (aM 1 (rIx c)) ∗ ownAny (F := F) c (cM 2 0) ∗ anyP (F := F) c 2 ∗ ownAny (F := F) c (aM 2 (rIx c)) ∗ ownAny (F := F) c (cM 3 0) ∗ anyP (F := F) c 3 ∗ ownAny (F := F) c (aM 3 (rIx c)))

/-- What is held after the parts up to number 60. -/
def mid (a0 : Memref sig .tc .vmem S4x256x1024 .f32) (a1 : Memref sig .tc .vmem S1024x512 .f32) : sProp 𝕄 :=
  iprop(hasY Y a1 c ∗ hasX X a0 c ∗ ownP c 0 (up3 (ctr X Y c 2 0)) ∗ own c (cM 0 3) fullShare (acc X Y 0 2 (zl c)) ∗ ownP c 1 (up3 (ctr X Y c 2 1)) ∗ own c (cM 1 3) fullShare (acc X Y 1 2 (zl c)) ∗ own c (cM 2 3) fullShare (acc X Y 2 2 (zl c)) ∗ ownP c 2 (up3 (ctr X Y c 2 2)) ∗ ownP c 3 (up3 (ctr X Y c 2 3)) ∗ own c (cM 3 3) fullShare (acc X Y 3 2 (zl c)) ∗ sndPay X Y (.cc 3 2) c)

/-- The result's blocks, at any contents. -/
def outs0 (a2 : Memref sig .tc .vmem S256x4096 .f32) : sProp 𝕄 :=
  iprop(anyO (F := F) a2 c 0 0 ∗ anyO (F := F) a2 c 0 1 ∗ anyO (F := F) a2 c 0 2 ∗ anyO (F := F) a2 c 0 3 ∗ anyO (F := F) a2 c 0 4 ∗ anyO (F := F) a2 c 0 5 ∗ anyO (F := F) a2 c 0 6 ∗ anyO (F := F) a2 c 0 7 ∗ anyO (F := F) a2 c 1 0 ∗ anyO (F := F) a2 c 1 1 ∗ anyO (F := F) a2 c 1 2 ∗ anyO (F := F) a2 c 1 3 ∗ anyO (F := F) a2 c 1 4 ∗ anyO (F := F) a2 c 1 5 ∗ anyO (F := F) a2 c 1 6 ∗ anyO (F := F) a2 c 1 7 ∗ anyO (F := F) a2 c 2 0 ∗ anyO (F := F) a2 c 2 1 ∗ anyO (F := F) a2 c 2 2 ∗ anyO (F := F) a2 c 2 3 ∗ anyO (F := F) a2 c 2 4 ∗ anyO (F := F) a2 c 2 5 ∗ anyO (F := F) a2 c 2 6 ∗ anyO (F := F) a2 c 2 7 ∗ anyO (F := F) a2 c 3 0 ∗ anyO (F := F) a2 c 3 1 ∗ anyO (F := F) a2 c 3 2 ∗ anyO (F := F) a2 c 3 3 ∗ anyO (F := F) a2 c 3 4 ∗ anyO (F := F) a2 c 3 5 ∗ anyO (F := F) a2 c 3 6 ∗ anyO (F := F) a2 c 3 7)

/-- The result's blocks, written. -/
def outs1 (a2 : Memref sig .tc .vmem S256x4096 .f32) : sProp 𝕄 :=
  iprop(ownO a2 c 0 0 (dn (tot X Y 0 (atR c 0))) ∗ ownO a2 c 0 1 (dn (tot X Y 0 (atR c 1))) ∗ ownO a2 c 0 2 (dn (tot X Y 0 (atR c 2))) ∗ ownO a2 c 0 3 (dn (tot X Y 0 (atR c 3))) ∗ ownO a2 c 0 4 (dn (tot X Y 0 (atR c 4))) ∗ ownO a2 c 0 5 (dn (tot X Y 0 (atR c 5))) ∗ ownO a2 c 0 6 (dn (tot X Y 0 (atR c 6))) ∗ ownO a2 c 0 7 (dn (tot X Y 0 (atR c 7))) ∗ ownO a2 c 1 0 (dn (tot X Y 1 (atR c 0))) ∗ ownO a2 c 1 1 (dn (tot X Y 1 (atR c 1))) ∗ ownO a2 c 1 2 (dn (tot X Y 1 (atR c 2))) ∗ ownO a2 c 1 3 (dn (tot X Y 1 (atR c 3))) ∗ ownO a2 c 1 4 (dn (tot X Y 1 (atR c 4))) ∗ ownO a2 c 1 5 (dn (tot X Y 1 (atR c 5))) ∗ ownO a2 c 1 6 (dn (tot X Y 1 (atR c 6))) ∗ ownO a2 c 1 7 (dn (tot X Y 1 (atR c 7))) ∗ ownO a2 c 2 0 (dn (tot X Y 2 (atR c 0))) ∗ ownO a2 c 2 1 (dn (tot X Y 2 (atR c 1))) ∗ ownO a2 c 2 2 (dn (tot X Y 2 (atR c 2))) ∗ ownO a2 c 2 3 (dn (tot X Y 2 (atR c 3))) ∗ ownO a2 c 2 4 (dn (tot X Y 2 (atR c 4))) ∗ ownO a2 c 2 5 (dn (tot X Y 2 (atR c 5))) ∗ ownO a2 c 2 6 (dn (tot X Y 2 (atR c 6))) ∗ ownO a2 c 2 7 (dn (tot X Y 2 (atR c 7))) ∗ ownO a2 c 3 0 (dn (tot X Y 3 (atR c 0))) ∗ ownO a2 c 3 1 (dn (tot X Y 3 (atR c 1))) ∗ ownO a2 c 3 2 (dn (tot X Y 3 (atR c 2))) ∗ ownO a2 c 3 3 (dn (tot X Y 3 (atR c 3))) ∗ ownO a2 c 3 4 (dn (tot X Y 3 (atR c 4))) ∗ ownO a2 c 3 5 (dn (tot X Y 3 (atR c 5))) ∗ ownO a2 c 3 6 (dn (tot X Y 3 (atR c 6))) ∗ ownO a2 c 3 7 (dn (tot X Y 3 (atR c 7))))

/-- The all-gather's slots at the end. -/
def gats : sProp 𝕄 :=
  iprop(gat X Y c 0 0 ∗ gat X Y c 0 1 ∗ gat X Y c 0 2 ∗ gat X Y c 0 3 ∗ gat X Y c 0 4 ∗ gat X Y c 0 5 ∗ gat X Y c 0 6 ∗ gat X Y c 0 7 ∗ gat X Y c 1 0 ∗ gat X Y c 1 1 ∗ gat X Y c 1 2 ∗ gat X Y c 1 3 ∗ gat X Y c 1 4 ∗ gat X Y c 1 5 ∗ gat X Y c 1 6 ∗ gat X Y c 1 7 ∗ gat X Y c 2 0 ∗ gat X Y c 2 1 ∗ gat X Y c 2 2 ∗ gat X Y c 2 3 ∗ gat X Y c 2 4 ∗ gat X Y c 2 5 ∗ gat X Y c 2 6 ∗ gat X Y c 2 7 ∗ gat X Y c 3 0 ∗ gat X Y c 3 1 ∗ gat X Y c 3 2 ∗ gat X Y c 3 3 ∗ gat X Y c 3 4 ∗ gat X Y c 3 5 ∗ gat X Y c 3 6 ∗ gat X Y c 3 7)

/-- The rest of what is held at the end: the operands, the partial products, the reduce-scatter's slots. -/
def rest (a0 : Memref sig .tc .vmem S4x256x1024 .f32) (a1 : Memref sig .tc .vmem S1024x512 .f32) : sProp 𝕄 :=
  iprop(hasY Y a1 c ∗ hasX X a0 c ∗ ownP c 0 (up3 (ctr X Y c 2 0)) ∗ ownP c 1 (up3 (ctr X Y c 2 1)) ∗ ownP c 2 (up3 (ctr X Y c 2 2)) ∗ ownP c 3 (up3 (ctr X Y c 2 3)) ∗ commDone (F := F) c 0 ∗ commDone (F := F) c 1 ∗ commDone (F := F) c 2 ∗ commDone (F := F) c 3)

variable {a0 : Memref sig .tc .vmem S4x256x1024 .f32} {ha0 : a0.IsWhole} {a1 : Memref sig .tc .vmem S1024x512 .f32} {ha1 : a1.IsWhole}
  {a2 : Memref sig .tc .vmem S256x4096 .f32} {ha2 : a2.IsWhole} {hc : comm.IsWhole} {hg : gath.IsWhole} {hp : parts.IsWhole}

theorem part78 {Q : _ → sProp 𝕄} :
    iprop(records X Y κ ∗ barPre (F := F) c ∗ beg X Y c a0 a1
      ∗ (∀ w1 : BitVec 32, ∀ w2 : BitVec 32, ∀ w3 : BitVec 32, ∀ w4 : BitVec 32, ∀ w5 : BitVec 32, ∀ w6 : BitVec 32,
        (St X Y c 91 ∗ atPos ER (barCell c) 1 ∅ 0 ∗ mid X Y c a0 a1) -∗ Q ⟨c, w1, w2, w3, w4, w5, w6⟩))
    ⊢ wp frame (wpE (defs₀ (F := F)) 𝒱₀ (c : Thread nD τ) none) Set.univ (k0_part78 (F := F) a0 ha0 a1 ha1 a2 ha2 comm hc gath hg parts hp cc0_scratch3 cc0_scratch4 cc0_scratch5 cc0_scratch6 cc0_scratch7 cc0_scratch8) Q := by
  rw [k0_part78_eq_skeleton]; unfold k0_part78_skel
  simp only [Prog.pure_eq_ret]
  unfold beg
  iintro ⟨#HR, HB, ⟨HX, HY, C00, P0, A0, C10, P1, A1, C20, P2, A2, C30, P3, A3⟩, Hk⟩
  iapply (part1 c)
  iintro %w1 %w2 %w3 %w4 %w5 %w6 %w7
  dsimp only
  iapply (part2 c)
  iintro %u1 %u2 %u3 %u4 %u5
  dsimp only
  iapply (part3 X Y κ c)
  isplitr; · iexact HR
  isplitl [HB]; · iexact HB
  iintro %t1 %t2 %t3 ⟨HSt, HA⟩
  dsimp only
  iapply (part4 X Y κ c)
  isplitr; · iexact HR
  isplitl [HSt]; · iexact HSt
  isplitl [HX]; · iexact HX
  isplitl [HY]; · iexact HY
  isplitl [C00]; · iexact C00
  iintro %w0 ⟨HSt, HX, HY⟩
  dsimp only
  iapply (part5 X Y κ c)
  isplitr; · iexact HR
  isplitl [HSt]; · iexact HSt
  isplitl [HX]; · iexact HX
  isplitl [HY]; · iexact HY
  isplitl [C10]; · iexact C10
  iintro ⟨HSt, HX, HY⟩
  dsimp only
  iapply (part6 X Y κ c)
  isplitr; · iexact HR
  isplitl [HSt]; · iexact HSt
  isplitl [C20]; · iexact C20
  isplitl [HX]; · iexact HX
  isplitl [HY]; · iexact HY
  isplitl [C30]; · iexact C30
  iintro ⟨HSt, HX, HY, C30⟩
  dsimp only
  iapply (part7 X Y κ c)
  isplitr; · iexact HR
  isplitl [HSt]; · iexact HSt
  isplitl [C30]; · iexact C30
  isplitl [HX]; · iexact HX
  isplitl [HY]; · iexact HY
  iintro %w0 ⟨HSt, HX, HY⟩
  dsimp only
  iapply (part8 X Y κ c)
  isplitr; · iexact HR
  isplitl [HSt]; · iexact HSt
  isplitl [P0]; · iexact P0
  isplitl [HX]; · iexact HX
  isplitl [HY]; · iexact HY
  isplitl [P1]; · iexact P1
  isplitl [P2]; · iexact P2
  isplitl [P3]; · iexact P3
  iintro %w1 ⟨HSt, P0, HX, HY, P1, P2, P3⟩
  dsimp only
  iapply (part9 X Y κ c)
  isplitr; · iexact HR
  isplitl [HSt]; · iexact HSt
  isplitl [P3]; · iexact P3
  iintro ⟨HSt, P3, C01⟩
  dsimp only
  iapply (part10 X Y κ c)
  isplitr; · iexact HR
  isplitl [HSt]; · iexact HSt
  isplitl [P0]; · iexact P0
  isplitl [C01]; · iexact C01
  iintro ⟨HSt, P0⟩
  dsimp only
  iapply (part11 X Y κ c)
  isplitr; · iexact HR
  isplitl [HSt]; · iexact HSt
  isplitl [P1]; · iexact P1
  iintro ⟨HSt, P1, C11⟩
  dsimp only
  iapply (part12 X Y κ c)
  isplitr; · iexact HR
  isplitl [HSt]; · iexact HSt
  isplitl [C11]; · iexact C11
  iintro %w0 %w1 HSt
  dsimp only
  iapply (part13 X Y κ c)
  isplitr; · iexact HR
  isplitl [HSt]; · iexact HSt
  isplitl [P2]; · iexact P2
  iintro ⟨HSt, P2, C21⟩
  dsimp only
  iapply (part14 X Y κ c)
  isplitr; · iexact HR
  isplitl [HSt]; · iexact HSt
  isplitl [C21]; · iexact C21
  iintro ⟨HSt, C31⟩
  dsimp only
  iapply (part15 X Y κ c)
  isplitr; · iexact HR
  isplitl [HSt]; · iexact HSt
  isplitl [P3]; · iexact P3
  isplitl [C31]; · iexact C31
  iintro %w0 %w1 %w2 %w3 %w4 ⟨HSt, P3⟩
  dsimp only
  iapply (part16 X Y κ c)
  isplitr; · iexact HR
  isplitl [HSt]; · iexact HSt
  isplitl [HX]; · iexact HX
  isplitl [HY]; · iexact HY
  isplitl [P0]; · iexact P0
  isplitl [P1]; · iexact P1
  isplitl [P2]; · iexact P2
  iintro ⟨HSt, HX, HY, P0, P1, P2⟩
  dsimp only
  iapply (part17 X Y κ c)
  isplitr; · iexact HR
  isplitl [HSt]; · iexact HSt
  isplitl [HX]; · iexact HX
  isplitl [HY]; · iexact HY
  isplitl [P3]; · iexact P3
  iintro ⟨HSt, HX, HY, P3⟩
  dsimp only
  iapply (part18 X Y κ c)
  isplitr; · iexact HR
  isplitl [HSt]; · iexact HSt
  isplitl [P0]; · iexact P0
  iintro ⟨HSt, P0⟩
  dsimp only
  iapply (part19 X Y κ c)
  isplitr; · iexact HR
  isplitl [HSt]; · iexact HSt
  isplitl [P1]; · iexact P1
  iintro ⟨HSt, P1, C12⟩
  dsimp only
  iapply (part20 X Y κ c)
  isplitr; · iexact HR
  isplitl [HSt]; · iexact HSt
  isplitl [C12]; · iexact C12
  iintro HSt
  dsimp only
  iapply (part21 X Y κ c)
  isplitr; · iexact HR
  isplitl [HSt]; · iexact HSt
  isplitl [P2]; · iexact P2
  iintro %w0 %w1 ⟨HSt, P2, C22⟩
  dsimp only
  iapply (part22 X Y κ c)
  isplitr; · iexact HR
  isplitl [HSt]; · iexact HSt
  isplitl [C22]; · iexact C22
  iintro HSt
  dsimp only
  iapply (part23 X Y κ c)
  isplitr; · iexact HR
  isplitl [HSt]; · iexact HSt
  isplitl [P3]; · iexact P3
  iintro %w0 %w1 ⟨HSt, P3⟩
  dsimp only
  iapply (part24 X Y κ c)
  isplitr; · iexact HR
  isplitl [HSt]; · iexact HSt
  isplitl [HX]; · iexact HX
  isplitl [HY]; · iexact HY
  isplitl [P0]; · iexact P0
  isplitl [P1]; · iexact P1
  iintro %w0 ⟨HSt, HX, HY, P0, P1⟩
  dsimp only
  iapply (part25 X Y κ c)
  isplitr; · iexact HR
  isplitl [HSt]; · iexact HSt
  isplitl [HY]; · iexact HY
  isplitl [P2]; · iexact P2
  isplitl [HX]; · iexact HX
  isplitl [P3]; · iexact P3
  iintro %w0 ⟨HSt, HY, P2, HX, P3⟩
  dsimp only
  iapply (part26 X Y κ c)
  isplitr; · iexact HR
  isplitl [HSt]; · iexact HSt
  isplitl [P0]; · iexact P0
  isplitl [A0]; · iexact A0
  iintro %w0 %w1 %w2 ⟨HSt, P0, C03, R0w, R0c⟩
  dsimp only
  iapply (part27 X Y κ c)
  isplitr; · iexact HR
  isplitl [HSt]; · iexact HSt
  isplitl [R0w]; · iexact R0w
  iintro %w0 %w1 HSt
  dsimp only
  iapply (part28 X Y κ c)
  isplitr; · iexact HR
  isplitl [HSt]; · iexact HSt
  isplitl [R0c]; · iexact R0c
  iintro HSt
  dsimp only
  iapply (part29 X Y κ c)
  isplitr; · iexact HR
  isplitl [HSt]; · iexact HSt
  isplitl [P1]; · iexact P1
  isplitl [A1]; · iexact A1
  iintro %w0 ⟨HSt, P1, C13, R1w, R1c⟩
  dsimp only
  iapply (part30 X Y κ c)
  isplitr; · iexact HR
  isplitl [HSt]; · iexact HSt
  isplitl [R1w]; · iexact R1w
  iintro HSt
  dsimp only
  iapply (part31 X Y κ c)
  isplitr; · iexact HR
  isplitl [HSt]; · iexact HSt
  isplitl [R1c]; · iexact R1c
  iintro ⟨HSt, C23⟩
  dsimp only
  iapply (part32 X Y κ c)
  isplitr; · iexact HR
  isplitl [HSt]; · iexact HSt
  isplitl [P2]; · iexact P2
  isplitl [A2]; · iexact A2
  iintro ⟨HSt, P2, R2w, R2c⟩
  dsimp only
  iapply (part33 X Y κ c)
  isplitr; · iexact HR
  isplitl [HSt]; · iexact HSt
  isplitl [R2w]; · iexact R2w
  isplitl [R2c]; · iexact R2c
  iintro HSt
  dsimp only
  iapply (part34 X Y κ c)
  isplitr; · iexact HR
  isplitl [HSt]; · iexact HSt
  isplitl [P3]; · iexact P3
  isplitl [A3]; · iexact A3
  iintro %w0 ⟨HSt, P3, C33, R3w, R3c⟩
  dsimp only
  iapply (part35 X Y κ c)
  isplitr; · iexact HR
  isplitl [HSt]; · iexact HSt
  isplitl [R3w]; · iexact R3w
  iintro %w0 %w1 %w2 %w3 HSt
  dsimp only
  iapply (part36 X Y κ c)
  isplitr; · iexact HR
  isplitl [HSt]; · iexact HSt
  isplitl [R3c]; · iexact R3c
  iintro %w0 HSt
  dsimp only
  iapply (part37 X Y κ c)
  isplitr; · iexact HR
  isplitl [HSt]; · iexact HSt
  iintro ⟨HSt, R0w⟩
  dsimp only
  iapply (part38 X Y κ c)
  isplitr; · iexact HR
  isplitl [HSt]; · iexact HSt
  isplitl [R0w]; · iexact R0w
  iintro %w0 %w1 %w2 %w3 ⟨HSt, R0c⟩
  dsimp only
  iapply (part39 X Y κ c)
  isplitr; · iexact HR
  isplitl [HSt]; · iexact HSt
  isplitl [R0c]; · iexact R0c
  iintro HSt
  dsimp only
  iapply (part40 X Y κ c)
  isplitr; · iexact HR
  isplitl [HSt]; · iexact HSt
  iintro ⟨HSt, R1w⟩
  dsimp only
  iapply (part41 X Y κ c)
  isplitr; · iexact HR
  isplitl [HSt]; · iexact HSt
  isplitl [R1w]; · iexact R1w
  iintro ⟨HSt, R1c⟩
  dsimp only
  iapply (part42 X Y κ c)
  isplitr; · iexact HR
  isplitl [HSt]; · iexact HSt
  isplitl [R1c]; · iexact R1c
  iintro HSt
  dsimp only
  iapply (part43 X Y κ c)
  isplitr; · iexact HR
  isplitl [HSt]; · iexact HSt
  iintro %w0 ⟨HSt, R2w⟩
  dsimp only
  iapply (part44 X Y κ c)
  isplitr; · iexact HR
  isplitl [HSt]; · iexact HSt
  iintro ⟨HSt, R2c⟩
  dsimp only
  iapply (part45 X Y κ c)
  isplitr; · iexact HR
  isplitl [HSt]; · iexact HSt
  isplitl [R2w]; · iexact R2w
  isplitl [R2c]; · iexact R2c
  iintro HSt
  dsimp only
  iapply (part46 X Y κ c)
  isplitr; · iexact HR
  isplitl [HSt]; · iexact HSt
  iintro ⟨HSt, R3w⟩
  dsimp only
  iapply (part47 X Y κ c)
  isplitr; · iexact HR
  isplitl [HSt]; · iexact HSt
  iintro ⟨HSt, R3c⟩
  dsimp only
  iapply (part48 X Y κ c)
  isplitr; · iexact HR
  isplitl [HSt]; · iexact HSt
  isplitl [R3w]; · iexact R3w
  isplitl [R3c]; · iexact R3c
  iintro HSt
  dsimp only
  iapply (part49 X Y κ c)
  isplitr; · iexact HR
  isplitl [HSt]; · iexact HSt
  iintro ⟨HSt, R0w⟩
  dsimp only
  iapply (part50 X Y κ c)
  isplitr; · iexact HR
  isplitl [HSt]; · iexact HSt
  iintro %w0 %w1 ⟨HSt, R0c⟩
  dsimp only
  iapply (part51 X Y κ c)
  isplitr; · iexact HR
  isplitl [HSt]; · iexact HSt
  isplitl [R0w]; · iexact R0w
  iintro HSt
  dsimp only
  iapply (part52 X Y κ c)
  isplitr; · iexact HR
  isplitl [HSt]; · iexact HSt
  isplitl [R0c]; · iexact R0c
  iintro ⟨HSt, R1w⟩
  dsimp only
  iapply (part53 X Y κ c)
  isplitr; · iexact HR
  isplitl [HSt]; · iexact HSt
  iintro ⟨HSt, R1c⟩
  dsimp only
  iapply (part54 X Y κ c)
  isplitr; · iexact HR
  isplitl [HSt]; · iexact HSt
  isplitl [R1w]; · iexact R1w
  iintro HSt
  dsimp only
  iapply (part55 X Y κ c)
  isplitr; · iexact HR
  isplitl [HSt]; · iexact HSt
  isplitl [R1c]; · iexact R1c
  iintro ⟨HSt, R2w⟩
  dsimp only
  iapply (part56 X Y κ c)
  isplitr; · iexact HR
  isplitl [HSt]; · iexact HSt
  iintro %w0 %w1 %w2 ⟨HSt, R2c⟩
  dsimp only
  iapply (part57 X Y κ c)
  isplitr; · iexact HR
  isplitl [HSt]; · iexact HSt
  isplitl [R2w]; · iexact R2w
  iintro %w0 %w1 HSt
  dsimp only
  iapply (part58 X Y κ c)
  isplitr; · iexact HR
  isplitl [HSt]; · iexact HSt
  isplitl [R2c]; · iexact R2c
  iintro HSt
  dsimp only
  iapply (part59 X Y κ c)
  isplitr; · iexact HR
  isplitl [HSt]; · iexact HSt
  iintro %w0 %w1 %w2 %w3 ⟨HSt, R3w, R3c⟩
  dsimp only
  iapply (part60 X Y κ c)
  isplitr; · iexact HR
  isplitl [HSt]; · iexact HSt
  isplitl [R3w]; · iexact R3w
  iintro HSt
  dsimp only
  rw [wp_ret]
  imodintro
  iapply Hk
  isplitl [HSt]; · iexact HSt
  isplitl [HA]; · iexact HA
  unfold mid
  isplitl [HY]; · iexact HY
  isplitl [HX]; · iexact HX
  isplitl [P0]; · iexact P0
  isplitl [C03]; · iexact C03
  isplitl [P1]; · iexact P1
  isplitl [C13]; · iexact C13
  isplitl [C23]; · iexact C23
  isplitl [P2]; · iexact P2
  isplitl [P3]; · iexact P3
  isplitl [C33]; · iexact C33
  iexact R3c

theorem run_body {Q : PUnit → sProp 𝕄} :
    iprop(records X Y κ ∗ barPre (F := F) c ∗ beg X Y c a0 a1 ∗ outs0 c a2
      ∗ ((St X Y c 124 ∗ atPos ER (barCell c) 1 ∅ 0 ∗ outs1 X Y c a2 ∗ gats X Y c ∗ rest X Y c a0 a1) -∗ Q ⟨⟩))
    ⊢ wp frame (wpE (defs₀ (F := F)) 𝒱₀ (c : Thread nD τ) none) Set.univ (cc0_body (F := F) a0 ha0 a1 ha1 a2 ha2 comm hc gath hg parts hp cc0_scratch3 cc0_scratch4 cc0_scratch5 cc0_scratch6 cc0_scratch7 cc0_scratch8) Q := by
  rw [cc0_body_eq_skeleton]; unfold cc0_body_skel
  rw [wp_bind]
  unfold outs0
  iintro ⟨#HR, HB, H0, ⟨O00, O01, O02, O03, O04, O05, O06, O07, O10, O11, O12, O13, O14, O15, O16, O17, O20, O21, O22, O23, O24, O25, O26, O27, O30, O31, O32, O33, O34, O35, O36, O37⟩, Hk⟩
  iapply (part78 X Y κ c)
  isplitr; · iexact HR
  isplitl [HB]; · iexact HB
  isplitl [H0]; · iexact H0
  iintro %w1 %w2 %w3 %w4 %w5 %w6 ⟨HSt, HA, HM⟩
  unfold mid
  icases HM with ⟨HY, HX, P0, C03, P1, C13, C23, P2, P3, C33, R3c⟩
  dsimp only
  rw [wp_bind, k0_part79_eq_skeleton]; unfold k0_part79_skel
  simp only [Prog.lift, Prog.bind_op, Prog.bind_ret, Prog.pure_eq_ret]
  iapply (part61 X Y κ c)
  isplitr; · iexact HR
  isplitl [HSt]; · iexact HSt
  isplitl [R3c]; · iexact R3c
  iintro HSt
  dsimp only
  iapply (part62 X Y κ c)
  isplitr; · iexact HR
  isplitl [HSt]; · iexact HSt
  iintro %w0 %w1 %w2 ⟨HSt, R0w, R0c⟩
  dsimp only
  iapply (part63 X Y κ c)
  isplitr; · iexact HR
  isplitl [HSt]; · iexact HSt
  isplitl [R0w]; · iexact R0w
  iintro HSt
  dsimp only
  iapply (part64 X Y κ c)
  isplitr; · iexact HR
  isplitl [HSt]; · iexact HSt
  iintro %w0 %w1 ⟨HSt, R1w⟩
  dsimp only
  iapply (part65 X Y κ c)
  isplitr; · iexact HR
  isplitl [HSt]; · iexact HSt
  iintro HSt
  dsimp only
  iapply (part66 X Y κ c)
  isplitr; · iexact HR
  isplitl [HSt]; · iexact HSt
  iintro ⟨HSt, R2w⟩
  dsimp only
  iapply (part67 X Y κ c)
  isplitr; · iexact HR
  isplitl [HSt]; · iexact HSt
  iintro %w0 %w1 ⟨HSt, R2c⟩
  dsimp only
  iapply (part68 X Y κ c)
  isplitr; · iexact HR
  isplitl [HSt]; · iexact HSt
  isplitl [R2w]; · iexact R2w
  iintro HSt
  dsimp only
  iapply (part69 X Y κ c)
  isplitr; · iexact HR
  isplitl [HSt]; · iexact HSt
  iintro %w0 %w1 %w2 %w3 ⟨HSt, R3w, R3c⟩
  dsimp only
  iapply (part70 X Y κ c)
  isplitr; · iexact HR
  isplitl [HSt]; · iexact HSt
  isplitl [R3c]; · iexact R3c
  iintro %w0 HSt
  dsimp only
  iapply (part71 X Y κ c)
  isplitr; · iexact HR
  isplitl [HSt]; · iexact HSt
  isplitl [C03]; · iexact C03
  isplitl [R0c]; · iexact R0c
  isplitl [O00]; · iexact O00
  isplitl [O01]; · iexact O01
  isplitl [O02]; · iexact O02
  isplitl [O03]; · iexact O03
  iintro ⟨HSt, O00, O01, O02, O03, G00, G01, G02, G03, G04, G05, G06, G07, D0⟩
  dsimp only
  iapply (part72 X Y κ c)
  isplitr; · iexact HR
  isplitl [HSt]; · iexact HSt
  isplitl [G04]; · iexact G04
  isplitl [O04]; · iexact O04
  isplitl [G05]; · iexact G05
  isplitl [O05]; · iexact O05
  isplitl [G06]; · iexact G06
  isplitl [O06]; · iexact O06
  isplitl [G07]; · iexact G07
  isplitl [O07]; · iexact O07
  iintro ⟨HSt, G04, O04, G05, O05, G06, O06, G07, O07⟩
  dsimp only
  iapply (part73 X Y κ c)
  isplitr; · iexact HR
  isplitl [HSt]; · iexact HSt
  isplitl [C13]; · iexact C13
  isplitl [R1w]; · iexact R1w
  isplitl [O10]; · iexact O10
  isplitl [O11]; · iexact O11
  isplitl [O12]; · iexact O12
  iintro ⟨HSt, O10, O11, O12, G10, G11, G12, G13, G14, G15, G16, G17, D1⟩
  dsimp only
  iapply (part74 X Y κ c)
  isplitr; · iexact HR
  isplitl [HSt]; · iexact HSt
  isplitl [O13]; · iexact O13
  isplitl [G14]; · iexact G14
  isplitl [O14]; · iexact O14
  isplitl [G15]; · iexact G15
  isplitl [O15]; · iexact O15
  isplitl [G16]; · iexact G16
  isplitl [O16]; · iexact O16
  isplitl [G17]; · iexact G17
  isplitl [O17]; · iexact O17
  iintro ⟨HSt, O13, G14, O14, G15, O15, G16, O16, G17, O17⟩
  dsimp only
  iapply (part75 X Y κ c)
  isplitr; · iexact HR
  isplitl [HSt]; · iexact HSt
  isplitl [C23]; · iexact C23
  isplitl [R2c]; · iexact R2c
  isplitl [O20]; · iexact O20
  isplitl [O21]; · iexact O21
  isplitl [O22]; · iexact O22
  iintro ⟨HSt, O20, O21, O22, G20, G21, G22, G23, G24, G25, G26, G27, D2⟩
  dsimp only
  iapply (part76 X Y κ c)
  isplitr; · iexact HR
  isplitl [HSt]; · iexact HSt
  isplitl [G23]; · iexact G23
  isplitl [O23]; · iexact O23
  isplitl [G24]; · iexact G24
  isplitl [O24]; · iexact O24
  isplitl [G25]; · iexact G25
  isplitl [O25]; · iexact O25
  isplitl [G26]; · iexact G26
  isplitl [O26]; · iexact O26
  isplitl [G27]; · iexact G27
  isplitl [O27]; · iexact O27
  iintro ⟨HSt, G23, O23, G24, O24, G25, O25, G26, O26, G27, O27⟩
  dsimp only
  iapply (part77 X Y κ c)
  isplitr; · iexact HR
  isplitl [HSt]; · iexact HSt
  isplitl [C33]; · iexact C33
  isplitl [R3w]; · iexact R3w
  isplitl [O30]; · iexact O30
  isplitl [O31]; · iexact O31
  iintro ⟨HSt, O30, O31, G30, G31, G32, G33, G34, G35, G36, G37, D3⟩
  dsimp only
  ihave O32 := (show anyO (F := F) a2 c 3 2 ⊢ iprop(∃ v, ownO (F := F) a2 c 3 2 v) from .rfl) $$ O32
  icases O32 with ⟨%xO32, O32⟩
  iapply (load_own c a2 _ (fun _ => rfl) (m' := oM a2 3 2) rfl fullShare _) $$ O32; iintro O32
  iapply (store_own c a2 _ (fun _ => rfl) (m' := oM a2 3 2) rfl _ _) $$ O32; iintro O32
  ihave O32 := (show ownO a2 c 3 2 (k0_pay65 (tot X Y 3 (atR c 2))) ⊢ ownO a2 c 3 2 (dn (tot X Y 3 (atR c 2))) from .rfl) $$ O32
  iapply (load_own c gath _ (fun _ => rfl) (m' := aM 3 3) rfl fullShare _) $$ G33; iintro G33
  ihave O33 := (show anyO (F := F) a2 c 3 3 ⊢ iprop(∃ v, ownO (F := F) a2 c 3 3 v) from .rfl) $$ O33
  icases O33 with ⟨%xO33, O33⟩
  iapply (load_own c a2 _ (fun _ => rfl) (m' := oM a2 3 3) rfl fullShare _) $$ O33; iintro O33
  iapply (store_own c a2 _ (fun _ => rfl) (m' := oM a2 3 3) rfl _ _) $$ O33; iintro O33
  ihave O33 := (show ownO a2 c 3 3 (k0_pay66 (tot X Y 3 (atR c 3))) ⊢ ownO a2 c 3 3 (dn (tot X Y 3 (atR c 3))) from .rfl) $$ O33
  iapply (load_own c gath _ (fun _ => rfl) (m' := aM 3 4) rfl fullShare _) $$ G34; iintro G34
  ihave O34 := (show anyO (F := F) a2 c 3 4 ⊢ iprop(∃ v, ownO (F := F) a2 c 3 4 v) from .rfl) $$ O34
  icases O34 with ⟨%xO34, O34⟩
  iapply (load_own c a2 _ (fun _ => rfl) (m' := oM a2 3 4) rfl fullShare _) $$ O34; iintro O34
  iapply (store_own c a2 _ (fun _ => rfl) (m' := oM a2 3 4) rfl _ _) $$ O34; iintro O34
  ihave O34 := (show ownO a2 c 3 4 (k0_pay67 (tot X Y 3 (atR c 4))) ⊢ ownO a2 c 3 4 (dn (tot X Y 3 (atR c 4))) from .rfl) $$ O34
  iapply (load_own c gath _ (fun _ => rfl) (m' := aM 3 5) rfl fullShare _) $$ G35; iintro G35
  ihave O35 := (show anyO (F := F) a2 c 3 5 ⊢ iprop(∃ v, ownO (F := F) a2 c 3 5 v) from .rfl) $$ O35
  icases O35 with ⟨%xO35, O35⟩
  iapply (load_own c a2 _ (fun _ => rfl) (m' := oM a2 3 5) rfl fullShare _) $$ O35; iintro O35
  iapply (store_own c a2 _ (fun _ => rfl) (m' := oM a2 3 5) rfl _ _) $$ O35; iintro O35
  ihave O35 := (show ownO a2 c 3 5 (k0_pay68 (tot X Y 3 (atR c 5))) ⊢ ownO a2 c 3 5 (dn (tot X Y 3 (atR c 5))) from .rfl) $$ O35
  iapply (load_own c gath _ (fun _ => rfl) (m' := aM 3 6) rfl fullShare _) $$ G36; iintro G36
  rw [wp_ret]
  imodintro
  ihave O36 := (show anyO (F := F) a2 c 3 6 ⊢ iprop(∃ v, ownO (F := F) a2 c 3 6 v) from .rfl) $$ O36
  icases O36 with ⟨%xO36, O36⟩
  iapply (load_own c a2 _ (fun _ => rfl) (m' := oM a2 3 6) rfl fullShare _) $$ O36; iintro O36
  iapply (store_own c a2 _ (fun _ => rfl) (m' := oM a2 3 6) rfl _ _) $$ O36; iintro O36
  ihave O36 := (show ownO a2 c 3 6 (k0_pay69 (tot X Y 3 (atR c 6))) ⊢ ownO a2 c 3 6 (dn (tot X Y 3 (atR c 6))) from .rfl) $$ O36
  iapply (load_own c gath _ (fun _ => rfl) (m' := aM 3 7) rfl fullShare _) $$ G37; iintro G37
  ihave O37 := (show anyO (F := F) a2 c 3 7 ⊢ iprop(∃ v, ownO (F := F) a2 c 3 7 v) from .rfl) $$ O37
  icases O37 with ⟨%xO37, O37⟩
  iapply (load_own c a2 _ (fun _ => rfl) (m' := oM a2 3 7) rfl fullShare _) $$ O37; iintro O37
  iapply (store_own c a2 _ (fun _ => rfl) (m' := oM a2 3 7) rfl _ _) $$ O37; iintro O37
  ihave O37 := (show ownO a2 c 3 7 (k0_pay1 (tot X Y 3 (atR c 7))) ⊢ ownO a2 c 3 7 (dn (tot X Y 3 (atR c 7))) from .rfl) $$ O37
  rw [wp_ret]
  imodintro
  iapply Hk
  isplitl [HSt]; · iexact HSt
  isplitl [HA]; · iexact HA
  isplitl [O00 O01 O02 O03 O04 O05 O06 O07 O10 O11 O12 O13 O14 O15 O16 O17 O20 O21 O22 O23 O24 O25 O26 O27 O30 O31 O32 O33 O34 O35 O36 O37]
  · unfold outs1
    isplitl [O00]; · iexact O00
    isplitl [O01]; · iexact O01
    isplitl [O02]; · iexact O02
    isplitl [O03]; · iexact O03
    isplitl [O04]; · iexact O04
    isplitl [O05]; · iexact O05
    isplitl [O06]; · iexact O06
    isplitl [O07]; · iexact O07
    isplitl [O10]; · iexact O10
    isplitl [O11]; · iexact O11
    isplitl [O12]; · iexact O12
    isplitl [O13]; · iexact O13
    isplitl [O14]; · iexact O14
    isplitl [O15]; · iexact O15
    isplitl [O16]; · iexact O16
    isplitl [O17]; · iexact O17
    isplitl [O20]; · iexact O20
    isplitl [O21]; · iexact O21
    isplitl [O22]; · iexact O22
    isplitl [O23]; · iexact O23
    isplitl [O24]; · iexact O24
    isplitl [O25]; · iexact O25
    isplitl [O26]; · iexact O26
    isplitl [O27]; · iexact O27
    isplitl [O30]; · iexact O30
    isplitl [O31]; · iexact O31
    isplitl [O32]; · iexact O32
    isplitl [O33]; · iexact O33
    isplitl [O34]; · iexact O34
    isplitl [O35]; · iexact O35
    isplitl [O36]; · iexact O36
    iexact O37

  isplitl [G00 G01 G02 G03 G04 G05 G06 G07 G10 G11 G12 G13 G14 G15 G16 G17 G20 G21 G22 G23 G24 G25 G26 G27 G30 G31 G32 G33 G34 G35 G36 G37]
  · unfold gats
    isplitl [G00]; · iexact G00
    isplitl [G01]; · iexact G01
    isplitl [G02]; · iexact G02
    isplitl [G03]; · iexact G03
    isplitl [G04]; · iexact G04
    isplitl [G05]; · iexact G05
    isplitl [G06]; · iexact G06
    isplitl [G07]; · iexact G07
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G20]; · iexact G20
    isplitl [G21]; · iexact G21
    isplitl [G22]; · iexact G22
    isplitl [G23]; · iexact G23
    isplitl [G24]; · iexact G24
    isplitl [G25]; · iexact G25
    isplitl [G26]; · iexact G26
    isplitl [G27]; · iexact G27
    isplitl [G30]; · iexact G30
    isplitl [G31]; · iexact G31
    isplitl [G32]; · iexact G32
    isplitl [G33]; · iexact G33
    isplitl [G34]; · iexact G34
    isplitl [G35]; · iexact G35
    isplitl [G36]; · iexact G36
    iexact G37

  unfold rest
  isplitl [HY]; · iexact HY
  isplitl [HX]; · iexact HX
  isplitl [P0]; · iexact P0
  isplitl [P1]; · iexact P1
  isplitl [P2]; · iexact P2
  isplitl [P3]; · iexact P3
  isplitl [D0]; · iexact D0
  isplitl [D1]; · iexact D1
  isplitl [D2]; · iexact D2
  iexact D3

end Cert.Proof.Ring
-- ==== Proof.Ring.Slots.lean ====
/- The buffers cut into slots, and put together again. -/
module

public import proofs.«01_k».proof.Proof.Ring.Whole
public import Idealize.SL.ProofMode.BigOp

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A buffer and a family of rectangles that fills it -/

section Any

variable (c : Dev nD) {sh : Shape} (m : Memref sig .tc .vmem sh .f32) {T : Type} [Fintype T] [DecidableEq T] (r : T → Rect sh)
  (hr : ∀ t a, (r t).stride a = 1) (hd : ∀ t t', t ≠ t' → Disjoint (r t).set (r t').set)
  (hcov : (Finset.univ : Finset T).biUnion (fun t => (r t).set) = Finset.univ)
include hd hcov

/-- A part of device `c`'s buffer at a value. -/
abbrev piece (t : T) (v : (r t).shape.Idx → Elt F .f32) : sProp 𝕄 :=
  owns (Ix := Unit) (Name := ℕ) (U := UU) (Lvl := ℕ) (c : Thread nD τ) (m.slice (r t) (hr t)) fullShare v

theorem cut (X : sh.Idx → Elt F .f32) :
    (owns (Ix := Unit) (Name := ℕ) (U := UU) (Lvl := ℕ) (c : Thread nD τ) m fullShare X : sProp 𝕄)
      ⊢ bigSep Finset.univ fun t => iprop(∃ v, piece c m r hr t v) :=
  (owns_rects (c : Thread nD τ) m fullShare r hr hd hcov X).trans
    (bigSep_mono fun t _ => exists_intro (Φ := fun v => piece (F := F) c m r hr t v) _)

theorem glued (v : (t : T) → (r t).shape.Idx → Elt F .f32) :
    (bigSep Finset.univ fun t => piece c m r hr t (v t))
      ⊢ (owns (Ix := Unit) (Name := ℕ) (U := UU) (Lvl := ℕ) (c : Thread nD τ) m fullShare (Rect.glue r hcov v) : sProp 𝕄) := by
  haveI : ∀ e, Nonempty (Elt F e) := fun e => Elt.nonempty F e
  have e : ∀ t, v t = fun y => Rect.glue r hcov v ((r t).emb y) := fun t => funext fun y => (Rect.glue_emb r hcov hd v t y).symm
  have e' : (bigSep Finset.univ fun t => piece (F := F) c m r hr t (v t))
      = bigSep Finset.univ fun t => piece (F := F) c m r hr t (fun y => Rect.glue r hcov v ((r t).emb y)) :=
    bigSep_congr fun t _ => congrArg (piece (F := F) c m r hr t) (e t)
  rw [e']
  exact owns_of_rects (c : Thread nD τ) m fullShare r hr hd hcov (Rect.glue r hcov v)

theorem glued_any :
    (bigSep Finset.univ fun t => iprop(∃ v, piece c m r hr t v))
      ⊢ (iprop(∃ X, owns (Ix := Unit) (Name := ℕ) (U := UU) (Lvl := ℕ) (c : Thread nD τ) m fullShare X) : sProp 𝕄) := by
  haveI : ∀ e, Nonempty (Elt F e) := fun e => Elt.nonempty F e
  haveI : ∀ t, Nonempty ((r t).shape.Idx → Elt F .f32) := fun t => inferInstance
  refine (bigSep_exists_pi (Y := fun t => (r t).shape.Idx → Elt F .f32) Finset.univ fun t v => piece (F := F) c m r hr t v).trans ?_
  iintro ⟨%v, H⟩
  iexists (Rect.glue r hcov v)
  iapply (glued c m r hr hd hcov v); iexact H

end Any

/-! ## The four buffers -/

abbrev rC (t : Fin 4 × Fin 4) : Rect S4x4x256x128 := Rect.unit (s := S4x4x256x128) ![t.1.val, t.2.val, 0, 0] S1x1x256x128.size (inbC t.1 t.2)
abbrev rA (t : Fin 4 × Fin 8) : Rect S4x8x256x128 := Rect.unit (s := S4x8x256x128) (off4 t.1.val t.2) S1x1x256x128.size (inbA t.1 t.2)
abbrev rP (k : Fin 4) : Rect S4x256x128 := Rect.unit (s := S4x256x128) (pOff k) S1x256x128.size (inbP k)
abbrev rO (t : Fin 4 × Fin 8) : Rect S256x4096 := Rect.unit (s := S256x4096) (oOff t.1 t.2) S256x128.size (inbO t.1 t.2)

theorem pair_ne {α β : Type} {a b : α × β} (h : a ≠ b) : a.1 ≠ b.1 ∨ a.2 ≠ b.2 := by
  by_contra hn
  have hn' := not_or.mp hn
  exact h (Prod.ext (not_not.mp hn'.1) (not_not.mp hn'.2))

theorem rC_disjoint (t t' : Fin 4 × Fin 4) (h : t ≠ t') : Disjoint (rC t).set (rC t').set := by
  rcases pair_ne h with h | h
  · have h' : t.1.val ≠ t'.1.val := fun e => h (Fin.ext e)
    exact Rect.unit_disjoint (s := S4x4x256x128) 0 (by simp; omega)
  · have h' : t.2.val ≠ t'.2.val := fun e => h (Fin.ext e)
    exact Rect.unit_disjoint (s := S4x4x256x128) 1 (by simp; omega)
theorem rA_disjoint (t t' : Fin 4 × Fin 8) (h : t ≠ t') : Disjoint (rA t).set (rA t').set := by
  rcases pair_ne h with h | h
  · have h' : t.1.val ≠ t'.1.val := fun e => h (Fin.ext e)
    exact Rect.unit_disjoint (s := S4x8x256x128) 0 (by simp; omega)
  · have h' : t.2.val ≠ t'.2.val := fun e => h (Fin.ext e)
    exact Rect.unit_disjoint (s := S4x8x256x128) 1 (by simp; omega)
theorem rP_disjoint (t t' : Fin 4) (h : t ≠ t') : Disjoint (rP t).set (rP t').set := by
  have h' : t.val ≠ t'.val := fun e => h (Fin.ext e)
  exact Rect.unit_disjoint (s := S4x256x128) 0 (by simp; omega)
theorem rO_disjoint (t t' : Fin 4 × Fin 8) (h : t ≠ t') : Disjoint (rO t).set (rO t').set := by
  have h' : t.1.val ≠ t'.1.val ∨ t.2.val ≠ t'.2.val := (pair_ne h).imp (fun h e => h (Fin.ext e)) (fun h e => h (Fin.ext e))
  exact Rect.unit_disjoint (s := S256x4096) 1 (by simp; omega)

theorem rC_cover : (Finset.univ : Finset (Fin 4 × Fin 4)).biUnion (fun t => (rC t).set) = Finset.univ := by
  ext i
  simp only [Finset.mem_biUnion, Finset.mem_univ, true_and, iff_true]
  have h0 : (i 0).val < 4 := (i 0).isLt
  have h1 : (i 1).val < 4 := (i 1).isLt
  have h2 : (i 2).val < 256 := (i 2).isLt
  have h3 : (i 3).val < 128 := (i 3).isLt
  refine ⟨(⟨(i 0).val, h0⟩, ⟨(i 1).val, h1⟩), Rect.mem_set_unit.mpr fun a => ?_⟩
  fin_cases a <;> simp <;> omega
theorem rA_cover : (Finset.univ : Finset (Fin 4 × Fin 8)).biUnion (fun t => (rA t).set) = Finset.univ := by
  ext i
  simp only [Finset.mem_biUnion, Finset.mem_univ, true_and, iff_true]
  have h0 : (i 0).val < 4 := (i 0).isLt
  have h1 : (i 1).val < 8 := (i 1).isLt
  have h2 : (i 2).val < 256 := (i 2).isLt
  have h3 : (i 3).val < 128 := (i 3).isLt
  refine ⟨(⟨(i 0).val, h0⟩, ⟨(i 1).val, h1⟩), Rect.mem_set_unit.mpr fun a => ?_⟩
  fin_cases a <;> simp <;> omega
theorem rP_cover : (Finset.univ : Finset (Fin 4)).biUnion (fun t => (rP t).set) = Finset.univ := by
  ext i
  simp only [Finset.mem_biUnion, Finset.mem_univ, true_and, iff_true]
  have h0 : (i 0).val < 4 := (i 0).isLt
  have h2 : (i 1).val < 256 := (i 1).isLt
  have h3 : (i 2).val < 128 := (i 2).isLt
  refine ⟨⟨(i 0).val, h0⟩, Rect.mem_set_unit.mpr fun a => ?_⟩
  fin_cases a <;> simp <;> omega

/-- The strip and the place of a column of the result. -/
def stripOf (n : ℕ) : Fin 4 := ⟨n / 128 % 4, by omega⟩
def placeOf (n : ℕ) : Fin 8 := ⟨n / 512 % 8, by omega⟩

theorem rO_mem (i : S256x4096.Idx) : i ∈ (rO (stripOf (i 1).val, placeOf (i 1).val)).set := by
  have h2 : (i 0).val < 256 := (i 0).isLt
  have h3 : (i 1).val < 4096 := (i 1).isLt
  refine Rect.mem_set_unit.mpr fun a => ?_
  fin_cases a <;> simp [stripOf, placeOf] <;> omega
theorem rO_cover : (Finset.univ : Finset (Fin 4 × Fin 8)).biUnion (fun t => (rO t).set) = Finset.univ := by
  ext i
  simp only [Finset.mem_biUnion, Finset.mem_univ, true_and, iff_true]
  exact ⟨_, rO_mem i⟩

end Cert.Proof.Ring
-- ==== Proof.Ring.Scratch.lean ====
/- The scratch buffers and the result as the slots the body works on. -/
module

public import proofs.«01_k».proof.Proof.Ring.Slots
public import Idealize.SL.ProofMode.BigOp

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .f32) (Y : Dev nD → Vec F S1024x512 .f32) (c : Dev nD)

/-- A scratch buffer at some contents. -/
abbrev anyBuf (b : Ref sig .tc) : sProp 𝕄 := iprop(∃ f : Buf (Elt F) ((c : Thread nD τ).loc b), ((c : Thread nD τ).loc b) ↦{fullShare} f)

theorem comm_cut : anyBuf (F := F) c cc0_scratch0 ⊢ bigSep Finset.univ fun k : Fin 4 => bigSep Finset.univ fun s : Fin 4 => ownAny (F := F) c (cM k s) := by
  iintro ⟨%f, H⟩
  ihave H := (Entails.of_eq (owns_whole (c : Thread nD τ) cc0_scratch0 fullShare f).symm) $$ H
  iapply ((cut c comm rC (fun _ _ => rfl) rC_disjoint rC_cover f).trans
    (Entails.of_eq (bigSep_univ_prod (fun t : Fin 4 × Fin 4 => ownAny (F := F) c (cM t.1 t.2))))) $$ H
theorem gath_cut : anyBuf (F := F) c cc0_scratch1 ⊢ bigSep Finset.univ fun k : Fin 4 => bigSep Finset.univ fun j : Fin 8 => ownAny (F := F) c (aM k j) := by
  iintro ⟨%f, H⟩
  ihave H := (Entails.of_eq (owns_whole (c : Thread nD τ) cc0_scratch1 fullShare f).symm) $$ H
  iapply ((cut c gath rA (fun _ _ => rfl) rA_disjoint rA_cover f).trans
    (Entails.of_eq (bigSep_univ_prod (fun t : Fin 4 × Fin 8 => ownAny (F := F) c (aM t.1 t.2))))) $$ H
theorem parts_cut : anyBuf (F := F) c cc0_scratch2 ⊢ iprop(anyP (F := F) c 0 ∗ anyP (F := F) c 1 ∗ anyP (F := F) c 2 ∗ anyP (F := F) c 3) := by
  iintro ⟨%f, H⟩
  ihave H := (Entails.of_eq (owns_whole (c : Thread nD τ) cc0_scratch2 fullShare f).symm) $$ H
  iapply ((cut c parts rP (fun _ _ => rfl) rP_disjoint rP_cover f).trans (Entails.of_eq (fin4 (fun k : Fin 4 => anyP (F := F) c k)))) $$ H

/-- Pairs of a strip and a place, one by one. -/
theorem pairs (Φ : Fin 4 × Fin 8 → sProp 𝕄) : bigSep Finset.univ Φ
    = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7) ∗ Φ (3, 0) ∗ Φ (3, 1) ∗ Φ (3, 2) ∗ Φ (3, 3) ∗ Φ (3, 4) ∗ Φ (3, 5) ∗ Φ (3, 6) ∗ Φ (3, 7)) := by
  rw [bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7)] (by decide +kernel) (by decide +kernel) Φ]
  simp only [bigSepL_cons_cons, bigSepL_singleton]
  rfl

theorem out_cut (a2 : Memref sig .tc .vmem S256x4096 .f32) (Z : Vec F S256x4096 .f32) :
    (owns (Ix := Unit) (Name := ℕ) (U := UU) (Lvl := ℕ) (c : Thread nD τ) a2 fullShare Z : sProp 𝕄) ⊢ outs0 c a2 :=
  (cut c a2 rO (fun _ _ => rfl) rO_disjoint rO_cover Z).trans (Entails.of_eq (pairs fun t => anyO (F := F) a2 c t.1 t.2))

/-- The whole result of a device. -/
def outV (c : Dev nD) : Vec F S256x4096 .f32 :=
  Rect.glue rO rO_cover (fun t => dn (tot X Y t.1 (atR c t.2)))

theorem out_join (a2 : Memref sig .tc .vmem S256x4096 .f32) :
    outs1 X Y c a2 ⊢ (owns (Ix := Unit) (Name := ℕ) (U := UU) (Lvl := ℕ) (c : Thread nD τ) a2 fullShare (outV X Y c) : sProp 𝕄) :=
  (Entails.of_eq (pairs fun t => ownO a2 c t.1 t.2 (dn (tot X Y t.1 (atR c t.2)))).symm).trans
    (glued c a2 rO (fun _ _ => rfl) rO_disjoint rO_cover _)

theorem gath_join : gats X Y c ⊢ anyBuf (F := F) c cc0_scratch1 := by
  refine (Entails.of_eq (pairs fun t => gat X Y c t.1 t.2).symm).trans ?_
  refine (glued c gath rA (fun _ _ => rfl) rA_disjoint rA_cover (fun t => tot X Y t.1 (atR c t.2))).trans ?_
  rw [owns_whole]
  iintro H; iexists _; iexact H

theorem comm_join : iprop(commDone (F := F) c 0 ∗ commDone (F := F) c 1 ∗ commDone (F := F) c 2 ∗ commDone (F := F) c 3) ⊢ anyBuf (F := F) c cc0_scratch0 := by
  have e : iprop(commDone (F := F) c 0 ∗ commDone (F := F) c 1 ∗ commDone (F := F) c 2 ∗ commDone (F := F) c 3)
      = bigSep Finset.univ fun t : Fin 4 × Fin 4 => ownAny (F := F) c (cM t.1 t.2) := by
    rw [bigSep_univ_prod, fin4]
    simp only [fin4]
    rfl
  rw [e]
  refine (glued_any c comm rC (fun _ _ => rfl) rC_disjoint rC_cover).trans ?_
  iintro ⟨%f, H⟩
  iexists f
  iapply (Entails.of_eq (owns_whole (c : Thread nD τ) cc0_scratch0 fullShare f)) $$ H

theorem parts_join (v : Fin 4 → Vec F S1x256x128 .f32) : iprop(ownP c 0 (v 0) ∗ ownP c 1 (v 1) ∗ ownP c 2 (v 2) ∗ ownP c 3 (v 3)) ⊢ anyBuf (F := F) c cc0_scratch2 := by
  refine (Entails.of_eq (fin4 (fun k : Fin 4 => ownP c k (v k))).symm).trans ?_
  refine (glued c parts rP (fun _ _ => rfl) rP_disjoint rP_cover v).trans ?_
  rw [owns_whole]
  iintro H; iexists _; iexact H

/-! ## The landing slots -/

theorem round (r : Fin 8) (P : Fin 8 → sProp 𝕄) : bigSep Finset.univ P
    = iprop(P r ∗ P (r + 1) ∗ P (r + 2) ∗ P (r + 3) ∗ P (r + 4) ∗ P (r + 5) ∗ P (r + 6) ∗ P (r + 7)) := by
  rw [bigSep_univ_equiv (Equiv.addLeft r) P, bigSep_fin8]
  show (iprop(P (r + 0) ∗ _) : sProp 𝕄) = _
  rw [add_zero]; rfl

/-- A landing slot at some contents. -/
abbrev land (l : Lk) : sProp 𝕄 := ownAny (F := F) c (inM l c)

theorem land_cw (k : Fin 4) (h : Fin 4) (b : Fin 8) (hb : h.val + 1 + b.val = 8) : land (F := F) c (.cw k h) = ownAny (F := F) c (aM k (rIx c + b)) := by
  show ownAny (F := F) c (aM k (rIx c - ⟨h.val + 1, by omega⟩)) = _
  rw [turn _ _ b hb]

theorem lands_even_eq (k : Fin 4) (hk : k.val % 2 = 0) : (bigSep (colLinks k) fun l => land (F := F) c l)
    = iprop(land (F := F) c (.rs k 0) ∗ land (F := F) c (.rs k 1) ∗ land (F := F) c (.rs k 2) ∗ land (F := F) c (.cw k 0) ∗ land (F := F) c (.cw k 1) ∗ land (F := F) c (.cw k 2) ∗ land (F := F) c (.cw k 3) ∗ land (F := F) c (.cc k 2) ∗ land (F := F) c (.cc k 1) ∗ land (F := F) c (.cc k 0)) := by
  rw [bigSep_eq_bigSepL_of_eq (S := colLinks k) [.rs k 0, .rs k 1, .rs k 2, .cw k 0, .cw k 1, .cw k 2, .cw k 3, .cc k 2, .cc k 1, .cc k 0]
    (by revert k; decide +kernel) (by revert k; decide +kernel)]
  simp only [bigSepL_cons_cons, bigSepL_singleton]
  rfl

theorem lands_even (k : Fin 4) (hk : k.val % 2 = 0) :
    iprop((bigSep Finset.univ fun s : Fin 4 => ownAny (F := F) c (cM k s)) ∗ bigSep Finset.univ fun j : Fin 8 => ownAny (F := F) c (aM k j))
      ⊢ iprop(ownAny (F := F) c (cM k 0) ∗ ownAny (F := F) c (aM k (rIx c)) ∗ bigSep (colLinks k) fun l => land (F := F) c l) := by
  rw [fin4, round (rIx c), lands_even_eq c k hk]
  rw [land_cw c k 0 7 rfl, land_cw c k 1 6 rfl, land_cw c k 2 5 rfl, land_cw c k 3 4 rfl]
  iintro ⟨⟨C0, C1, C2, C3⟩, A0, A1, A2, A3, A4, A5, A6, A7⟩
  isplitl [C0]; · iexact C0
  isplitl [A0]; · iexact A0
  isplitl [C1]; · iexact C1
  isplitl [C2]; · iexact C2
  isplitl [C3]; · iexact C3
  isplitl [A7]; · iexact A7
  isplitl [A6]; · iexact A6
  isplitl [A5]; · iexact A5
  isplitl [A4]; · iexact A4
  isplitl [A3]; · iexact A3
  isplitl [A2]; · iexact A2
  iexact A1

theorem lands_odd_eq (k : Fin 4) (hk : k.val % 2 = 1) : (bigSep (colLinks k) fun l => land (F := F) c l)
    = iprop(land (F := F) c (.rs k 0) ∗ land (F := F) c (.rs k 1) ∗ land (F := F) c (.rs k 2) ∗ land (F := F) c (.cw k 0) ∗ land (F := F) c (.cw k 1) ∗ land (F := F) c (.cw k 2) ∗ land (F := F) c (.cc k 3) ∗ land (F := F) c (.cc k 2) ∗ land (F := F) c (.cc k 1) ∗ land (F := F) c (.cc k 0)) := by
  rw [bigSep_eq_bigSepL_of_eq (S := colLinks k) [.rs k 0, .rs k 1, .rs k 2, .cw k 0, .cw k 1, .cw k 2, .cc k 3, .cc k 2, .cc k 1, .cc k 0]
    (by revert k; decide +kernel) (by revert k; decide +kernel)]
  simp only [bigSepL_cons_cons, bigSepL_singleton]
  rfl

theorem lands_odd (k : Fin 4) (hk : k.val % 2 = 1) :
    iprop((bigSep Finset.univ fun s : Fin 4 => ownAny (F := F) c (cM k s)) ∗ bigSep Finset.univ fun j : Fin 8 => ownAny (F := F) c (aM k j))
      ⊢ iprop(ownAny (F := F) c (cM k 0) ∗ ownAny (F := F) c (aM k (rIx c)) ∗ bigSep (colLinks k) fun l => land (F := F) c l) := by
  rw [fin4, round (rIx c), lands_odd_eq c k hk]
  rw [land_cw c k 0 7 rfl, land_cw c k 1 6 rfl, land_cw c k 2 5 rfl]
  iintro ⟨⟨C0, C1, C2, C3⟩, A0, A1, A2, A3, A4, A5, A6, A7⟩
  isplitl [C0]; · iexact C0
  isplitl [A0]; · iexact A0
  isplitl [C1]; · iexact C1
  isplitl [C2]; · iexact C2
  isplitl [C3]; · iexact C3
  isplitl [A7]; · iexact A7
  isplitl [A6]; · iexact A6
  isplitl [A5]; · iexact A5
  isplitl [A4]; · iexact A4
  isplitl [A3]; · iexact A3
  isplitl [A2]; · iexact A2
  iexact A1

/-- The transfers, strip by strip. -/
theorem by_col (Φ : Lk → sProp 𝕄) : bigSep links Φ
    = iprop(bigSep (colLinks 0) Φ ∗ bigSep (colLinks 1) Φ ∗ bigSep (colLinks 2) Φ ∗ bigSep (colLinks 3) Φ) := by
  have h : links = colLinks 0 ∪ (colLinks 1 ∪ (colLinks 2 ∪ colLinks 3)) := by decide +kernel
  have d0 : Disjoint (colLinks 0) (colLinks 1 ∪ (colLinks 2 ∪ colLinks 3)) := by decide +kernel
  have d1 : Disjoint (colLinks 1) (colLinks 2 ∪ colLinks 3) := by decide +kernel
  have d2 : Disjoint (colLinks 2) (colLinks 3) := by decide +kernel
  rw [h, bigSep_union d0, bigSep_union d1, bigSep_union d2]
  rfl

/-- The three scratch buffers as what the body starts from, the landing slots apart. -/
theorem scratch_cut (a0 : Memref sig .tc .vmem S4x256x1024 .f32) (a1 : Memref sig .tc .vmem S1024x512 .f32) :
    iprop(hasX X a0 c ∗ hasY Y a1 c ∗ anyBuf (F := F) c cc0_scratch0 ∗ anyBuf (F := F) c cc0_scratch1 ∗ anyBuf (F := F) c cc0_scratch2)
      ⊢ iprop(beg X Y c a0 a1 ∗ bigSep links fun l => land (F := F) c l) := by
  rw [by_col]
  unfold beg
  iintro ⟨HX, HY, H0, H1, H2⟩
  ihave H0 := (comm_cut (F := F) c) $$ H0
  ihave H1 := (gath_cut (F := F) c) $$ H1
  ihave H2 := (parts_cut (F := F) c) $$ H2
  ihave H0 := (Entails.of_eq (fin4 fun k : Fin 4 => bigSep Finset.univ fun s : Fin 4 => ownAny (F := F) c (cM k s))) $$ H0
  ihave H1 := (Entails.of_eq (fin4 fun k : Fin 4 => bigSep Finset.univ fun j : Fin 8 => ownAny (F := F) c (aM k j))) $$ H1
  icases H0 with ⟨C0, C1, C2, C3⟩
  icases H1 with ⟨A0, A1, A2, A3⟩
  icases H2 with ⟨P0, P1, P2, P3⟩
  ihave K0 := (lands_even (F := F) c 0 rfl) $$ [C0 A0]
  · isplitl [C0]; · iexact C0
    iexact A0
  ihave K1 := (lands_odd (F := F) c 1 rfl) $$ [C1 A1]
  · isplitl [C1]; · iexact C1
    iexact A1
  ihave K2 := (lands_even (F := F) c 2 rfl) $$ [C2 A2]
  · isplitl [C2]; · iexact C2
    iexact A2
  ihave K3 := (lands_odd (F := F) c 3 rfl) $$ [C3 A3]
  · isplitl [C3]; · iexact C3
    iexact A3
  icases K0 with ⟨C0, A0, L0⟩
  icases K1 with ⟨C1, A1, L1⟩
  icases K2 with ⟨C2, A2, L2⟩
  icases K3 with ⟨C3, A3, L3⟩
  isplitl [HX HY C0 C1 C2 C3 A0 A1 A2 A3 P0 P1 P2 P3]
  · isplitl [HX]; · iexact HX
    isplitl [HY]; · iexact HY
    isplitl [C0]; · iexact C0
    isplitl [P0]; · iexact P0
    isplitl [A0]; · iexact A0
    isplitl [C1]; · iexact C1
    isplitl [P1]; · iexact P1
    isplitl [A1]; · iexact A1
    isplitl [C2]; · iexact C2
    isplitl [P2]; · iexact P2
    isplitl [A2]; · iexact A2
    isplitl [C3]; · iexact C3
    isplitl [P3]; · iexact P3
    iexact A3
  isplitl [L0]; · iexact L0
  isplitl [L1]; · iexact L1
  isplitl [L2]; · iexact L2
  iexact L3

/-- What the body ends with as the operands and the scratch buffers. -/
theorem scratch_join (a0 : Memref sig .tc .vmem S4x256x1024 .f32) (a1 : Memref sig .tc .vmem S1024x512 .f32) :
    iprop(gats X Y c ∗ rest X Y c a0 a1)
      ⊢ iprop(hasX X a0 c ∗ hasY Y a1 c ∗ anyBuf (F := F) c cc0_scratch0 ∗ anyBuf (F := F) c cc0_scratch1 ∗ anyBuf (F := F) c cc0_scratch2) := by
  unfold rest
  iintro ⟨HG, HY, HX, P0, P1, P2, P3, D0, D1, D2, D3⟩
  isplitl [HX]; · iexact HX
  isplitl [HY]; · iexact HY
  isplitl [D0 D1 D2 D3]
  · iapply (comm_join (F := F) c)
    isplitl [D0]; · iexact D0
    isplitl [D1]; · iexact D1
    isplitl [D2]; · iexact D2
    iexact D3
  isplitl [HG]; · iapply (gath_join X Y c); iexact HG
  iapply (parts_join c (fun k => up3 (ctr X Y c 2 k)))
  isplitl [P0]; · iexact P0
  isplitl [P1]; · iexact P1
  isplitl [P2]; · iexact P2
  iexact P3

end Cert.Proof.Ring
-- ==== Proof.Ring.Cells.lean ====
/- The semaphores of the kernel made ready on entry, and handed back at zero on exit. -/
module

public import proofs.«01_k».proof.Proof.Ring.Scratch
public import Idealize.SL.ProofMode.BigOp

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S4x256x1024 .f32) (Y : Dev nD → Vec F S1024x512 .f32) (κ : GSem nD τ sig → ℕ) (c : Dev nD)

/-- The tokens of the payments device `c` makes. -/
def dues : sProp 𝕄 :=
  iprop((bigSep Finset.univ fun d : Fin 4 => dutyTok ER (barCell (nb d c)) 0 d)
    ∗ bigSep links fun l => iprop(dutyTok ER (sndCell l c) 0 0 ∗ dutyTok ER (rcvCell l (dstD l c)) 0 0))
/-- The credit it waits with. -/
def crds : sProp 𝕄 := iprop(cred (tallyAt (barCell c) () 4) ∗ bigSep links fun l => cred (tallyAt (rcvCell l c) () N))

abbrev kCell (k : Bool × Lk) (c : Dev nD) : GSem nD τ sig := ((c : Thread nD τ), osem k)

/-- What device `c` brings to the kernel. -/
def brought : sProp 𝕄 :=
  iprop(records X Y κ ∗ atPos ER (barCell c) 0 ∅ 0 ∗ dues (F := F) c ∗ crds (F := F) c ∗ bigSep Finset.univ fun k : Bool × Lk => openTok ER (kCell k c))
/-- The same, the kernel's semaphores opened. -/
def opened : sProp 𝕄 :=
  iprop(records X Y κ ∗ atPos ER (barCell c) 0 ∅ 0 ∗ dues (F := F) c ∗ crds (F := F) c
    ∗ bigSep Finset.univ fun k : Bool × Lk => iprop(atPos ER (kCell k c) 0 ∅ 0 ∗ reached ER (kCell k c) 0))

theorem open_one (k : Bool × Lk) : iprop(records X Y κ ∗ (openTok ER (kCell k c) ∗ semVal (kCell k c) 0))
    ⊢ (|={Set.univ}=> iprop(atPos ER (kCell k c) 0 ∅ 0 ∗ reached ER (kCell k c) 0) : sProp 𝕄) := by
  iintro ⟨#HR, Ho, Hs⟩
  ihave #I := (inv_at X Y κ (sc_mem k c)) $$ HR
  iapply (Rounds.cell_open ER (sched X Y) (g := kCell k c) (Set.mem_univ (κ (kCell k c))))
  isplitr; · iexact I
  isplitl [Ho]; · iexact Ho
  iexact Hs

theorem open_all : iprop(brought X Y κ c ∗ Pipeline.ownSems0 osem c) ⊢ (|={Set.univ}=> opened X Y κ c : sProp 𝕄) := by
  unfold brought opened Pipeline.ownSems0
  iintro ⟨⟨#HR, HA, HD, HC, HO⟩, HS⟩
  imod (show iprop(records X Y κ ∗ ((bigSep Finset.univ fun k : Bool × Lk => openTok ER (kCell k c)) ∗ bigSep Finset.univ fun k : Bool × Lk => semVal (kCell k c) 0))
      ⊢ (|={Set.univ}=> bigSep Finset.univ fun k : Bool × Lk => iprop(atPos ER (kCell k c) 0 ∅ 0 ∗ reached ER (kCell k c) 0) : sProp 𝕄) from by
    rw [← bigSep_sep']
    exact (bigSep_with_persistent fun k _ => open_one X Y κ c k).trans (bigSep_fupd _ _)) $$ [HO HS] with HK
  · isplitr; · iexact HR
    isplitl [HO]; · iexact HO
    iexact HS
  imodintro
  isplitr; · iexact HR
  isplitl [HA]; · iexact HA
  isplitl [HD]; · iexact HD
  isplitl [HC]; · iexact HC
  iexact HK

/-- The semaphores of the transfers, the ones the program does not make apart. -/
abbrev idleLinks : Finset Lk := Finset.univ.filter fun l => ¬ l.used = true

theorem by_kind (Φ : Bool × Lk → sProp 𝕄) : bigSep Finset.univ Φ
    = iprop((bigSep links fun l => iprop(Φ (false, l) ∗ Φ (true, l))) ∗ bigSep idleLinks fun l => iprop(Φ (false, l) ∗ Φ (true, l))) := by
  rw [bigSep_univ_prod, bigSep_univ_eq_bigSepL [false, true] (by decide) (by decide) (fun b : Bool => bigSep Finset.univ fun l : Lk => Φ (b, l))]
  simp only [bigSepL_cons_cons, bigSepL_singleton]
  refine .trans ?_ (bigSep_filter_split Finset.univ (fun l : Lk => l.used = true) (Φ := fun l => iprop(Φ (false, l) ∗ Φ (true, l))))
  exact (bigSep_sep' (Finset.univ : Finset Lk) (fun l => Φ (false, l)) (fun l => Φ (true, l))).symm

/-- The positions on the semaphores no transfer uses. -/
def idle : sProp 𝕄 := bigSep idleLinks fun l => iprop(atPos ER (sndCell l c) 0 ∅ 0 ∗ atPos ER (rcvCell l c) 0 ∅ 0)

/-- On entry: what the body asks for of the barrier and the transfers. -/
theorem enter : iprop(opened X Y κ c ∗ (∃ W, owes (c : Thread nD τ) (owedB c) W) ∗ bigSep links fun l => land (F := F) c l)
    ⊢ iprop(records X Y κ ∗ barPre (F := F) c ∗ idle (F := F) c) := by
  have h1 : iprop((bigSep links fun l => iprop(dutyTok ER (sndCell l c) 0 0 ∗ dutyTok ER (rcvCell l (dstD l c)) 0 0))
        ∗ (bigSep links fun l => cred (tallyAt (rcvCell l c) () N))
        ∗ (bigSep links fun l => iprop((atPos ER (sndCell l c) 0 ∅ 0 ∗ reached ER (sndCell l c) 0) ∗ (atPos ER (rcvCell l c) 0 ∅ 0 ∗ reached ER (rcvCell l c) 0)))
        ∗ bigSep links fun l => land (F := F) c l)
      ⊢ (iprop((bigSep links fun l => linkTok (F := F) c l) ∗ bigSep links fun l => inAny (F := F) l c) : sProp 𝕄) := by
    rw [← bigSep_sep', ← bigSep_sep', ← bigSep_sep', ← bigSep_sep']
    refine bigSep_mono fun l _ => ?_
    unfold linkTok inAny
    show (iprop((_ ∗ _) ∗ _ ∗ ((_ ∗ _) ∗ (_ ∗ _)) ∗ _) : sProp 𝕄) ⊢ iprop(((_ ∗ _ ∗ _) ∗ _ ∗ _ ∗ _) ∗ (_ ∗ _))
    iintro ⟨⟨D1, D2⟩, Cr, ⟨⟨P1, R1⟩, P2, R2⟩, HL⟩
    isplitl [D1 D2 R1 P1 P2 Cr]
    · isplitl [D1 D2 R1]
      · isplitl [D1]; · iexact D1
        isplitl [D2]; · iexact D2
        iexact R1
      isplitl [P1]; · iexact P1
      isplitl [P2]; · iexact P2
      iexact Cr
    isplitl [HL]; · iexact HL
    iexact R2
  have h2 : (bigSep idleLinks fun l => iprop((atPos ER (sndCell l c) 0 ∅ 0 ∗ reached ER (sndCell l c) 0) ∗ (atPos ER (rcvCell l c) 0 ∅ 0 ∗ reached ER (rcvCell l c) 0)))
      ⊢ idle (F := F) c := by
    unfold idle
    refine bigSep_mono fun l _ => ?_
    show (iprop((_ ∗ _) ∗ (_ ∗ _)) : sProp 𝕄) ⊢ iprop(_ ∗ _)
    iintro ⟨⟨P1, -⟩, P2, -⟩
    isplitl [P1]; · iexact P1
    iexact P2
  unfold opened barPre dues crds
  rw [by_kind (F := F) (fun k => iprop(atPos ER (kCell k c) 0 ∅ 0 ∗ reached ER (kCell k c) 0))]
  iintro ⟨⟨#HR, HA, ⟨HD, HE⟩, ⟨HB, HC⟩, ⟨HU, HI⟩⟩, HO, HL⟩
  isplitr; · iexact HR
  isplitr [HI]
  · isplitl [HO]; · iexact HO
    isplitl [HD]; · iexact HD
    isplitl [HB]; · iexact HB
    isplitl [HA]; · iexact HA
    iapply h1
    isplitl [HE]; · iexact HE
    isplitl [HC]; · iexact HC
    isplitl [HU]; · iexact HU
    iexact HL
  iapply h2; iexact HI

/-! ## On exit -/

theorem close_at (R : ℕ) (g : GSem nD τ sig) (hg : g ∈ (barCells ∪ scCells : Finset (GSem nD τ sig))) (hR : ∀ r, R ≤ r → (sched X Y).duties g r = ∅) :
    iprop(records X Y κ ∗ atPos ER g R ∅ 0) ⊢ (|={Set.univ}=> semVal g 0 : sProp 𝕄) := by
  iintro ⟨#HR, HA⟩
  ihave #I := (inv_at X Y κ hg) $$ HR
  iapply (Rounds.cell_close ER (sched X Y) (Set.mem_univ (κ g)) id hR)
  isplitr; · iexact I
  iexact HA

theorem duties_idle (k : Bool × Lk) (hk : ¬ k.2.used = true) : ∀ r, 0 ≤ r → (sched X Y).duties (kCell k c) r = ∅ := by
  intro r _
  have h : decodeN (semOf k).val = some k := decode_semOf k
  dsimp only [sched]
  split
  · rw [h]; dsimp only [dutD]; rw [if_neg hk]
  · rfl

theorem close_pair (R : ℕ) (l : Lk) (hR : ∀ b r, R ≤ r → (sched X Y).duties (kCell (b, l) c) r = ∅) :
    iprop(records X Y κ ∗ (atPos ER (sndCell l c) R ∅ 0 ∗ atPos ER (rcvCell l c) R ∅ 0))
      ⊢ (|={Set.univ}=> iprop(semVal (kCell (false, l) c) 0 ∗ semVal (kCell (true, l) c) 0) : sProp 𝕄) := by
  iintro ⟨#HR, H1, H2⟩
  imod (close_at X Y κ R (kCell (false, l) c) (sc_mem (false, l) c) (hR false)) $$ [H1] with S1
  · isplitr; · iexact HR
    iexact H1
  imod (close_at X Y κ R (kCell (true, l) c) (sc_mem (true, l) c) (hR true)) $$ [H2] with S2
  · isplitr; · iexact HR
    iexact H2
  imodintro
  isplitl [S1]; · iexact S1
  iexact S2

theorem status_end (l : Lk) (hl : l.used = true) : l.status 124 = 4 := by revert l; decide +kernel
theorem owed_end : owed c 124 = 0 := by
  unfold owed
  rw [show links.filter (fun l => 124 ≤ l.tS) = ∅ from by decide +kernel, Finset.sum_empty]

theorem leave : iprop(records X Y κ ∗ St X Y c 124 ∗ atPos ER (barCell c) 1 ∅ 0 ∗ idle (F := F) c)
    ⊢ (|={Set.univ}=> iprop((∃ W, owes (c : Thread nD τ) (0 : CellTallies nD τ sig Unit) W) ∗ semVal (barCell c) 0 ∗ Pipeline.ownSems0 osem c) : sProp 𝕄) := by
  have h1 : iprop(records X Y κ ∗ bigSep links fun l => linkAt X Y c l (l.status 124))
      ⊢ (|={Set.univ}=> bigSep links fun l => iprop(semVal (kCell (false, l) c) 0 ∗ semVal (kCell (true, l) c) 0) : sProp 𝕄) := by
    refine (bigSep_with_persistent fun l hl => ?_).trans (bigSep_fupd _ _)
    rw [status_end l (Finset.mem_filter.mp hl).2, linkAt_4]
    exact close_pair X Y κ c 1 l fun b => duties_later X Y _
  have h2 : iprop(records X Y κ ∗ idle (F := F) c)
      ⊢ (|={Set.univ}=> bigSep idleLinks fun l => iprop(semVal (kCell (false, l) c) 0 ∗ semVal (kCell (true, l) c) 0) : sProp 𝕄) := by
    unfold idle
    exact (bigSep_with_persistent fun l hl => close_pair X Y κ c 0 l fun b => duties_idle X Y c (b, l) (Finset.mem_filter.mp hl).2).trans (bigSep_fupd _ _)
  unfold St Pipeline.ownSems0
  rw [owed_end, by_kind (F := F) (fun k => semVal ((c.tc : Thread nD τ), osem k) 0)]
  iintro ⟨#HR, ⟨HO, HK⟩, HB, HI⟩
  imod h1 $$ [HK] with HK
  · isplitr; · iexact HR
    iexact HK
  imod h2 $$ [HI] with HI
  · isplitr; · iexact HR
    iexact HI
  imod (close_at X Y κ 1 (barCell c) (bar_mem c) (duties_later X Y _)) $$ [HB] with HB
  · isplitr; · iexact HR
    iexact HB
  imodintro
  isplitl [HO]; · iexact HO
  isplitl [HB]; · iexact HB
  isplitl [HK]; · iexact HK
  iexact HI

end Cert.Proof.Ring
-- ==== Proof.Ring.Deal.lean ====
/- What the launch deals to each device: the tokens of its payments and the credit of its waits. -/
module

public import proofs.«01_k».proof.Proof.Ring.Cells
public import Idealize.SL.ProofMode.BigOp

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Two orders of dealing out the same things. -/
theorem deal_swap {I J : Type} [DecidableEq J] (s : Finset I) (t : Finset J) (Φ : I → J → sProp 𝕄) :
    (bigSep s fun i => bigSep t fun j => Φ i j) = bigSep t fun j => bigSep s fun i => Φ i j := by
  induction t using Finset.induction_on with
  | empty =>
    rw [bigSep_empty]
    exact (bigSep_congr fun _ _ => bigSep_empty).trans (bigSep_emp_const s)
  | insert j t hj ih =>
    rw [bigSep_insert hj, ← ih]
    exact (bigSep_congr fun i _ => bigSep_insert hj).trans (bigSep_sep' s (fun i => Φ i j) fun i => bigSep t fun j => Φ i j)

/-! ## The tokens -/

/-- Every payment there is: the four on each barrier, one on each semaphore of a transfer. -/
def payAt : Dev nD × (Fin 4 ⊕ (Bool × Lk)) → GSem nD τ sig × ℕ × Fin 4
  | (c, .inl d) => (barCell c, 0, d)
  | (c, .inr k) => (kCell k c, 0, 0)

theorem payAt_inj : Function.Injective payAt := by
  rintro ⟨c, d | k⟩ ⟨c', d' | k'⟩ h
  · have h1 := congrArg (fun t : GSem nD τ sig × ℕ × Fin 4 => t.1.1.1) h
    have h2 := congrArg (fun t : GSem nD τ sig × ℕ × Fin 4 => t.2.2) h
    dsimp only [payAt] at h1 h2
    exact Prod.ext h1 (congrArg Sum.inl h2)
  · exact absurd (congrArg (fun t : GSem nD τ sig × ℕ × Fin 4 => t.1.2) h).symm (osem_ne_bar k')
  · exact absurd (congrArg (fun t : GSem nD τ sig × ℕ × Fin 4 => t.1.2) h) (osem_ne_bar k)
  · have h1 := congrArg (fun t : GSem nD τ sig × ℕ × Fin 4 => t.1.1.1) h
    have h2 := congrArg (fun t : GSem nD τ sig × ℕ × Fin 4 => t.1.2) h
    exact Prod.ext h1 (congrArg Sum.inr (osem_inj h2))

def allToks : Finset (GSem nD τ sig × ℕ × Fin 4) := Finset.univ.map ⟨payAt, payAt_inj⟩

theorem nb_bij (d : Fin 4) : Function.Bijective (nb d) := by revert d; decide +kernel
def nbE (d : Fin 4) : Dev nD ≃ Dev nD := Equiv.ofBijective (nb d) (nb_bij d)

/-- Each token goes to the device that pays with it. -/
theorem toks_dealt : bigSep allToks (fun x => (dutyTok ER x.1 x.2.1 x.2.2 : sProp 𝕄)) ⊢ bigSep Finset.univ fun c : Dev nD => dues (F := F) c := by
  unfold allToks dues
  rw [bigSep_map, bigSep_univ_prod, bigSep_sep']
  have hsum : (bigSep Finset.univ fun c : Dev nD => bigSep Finset.univ fun i : Fin 4 ⊕ (Bool × Lk) =>
        (dutyTok ER (payAt (c, i)).1 (payAt (c, i)).2.1 (payAt (c, i)).2.2 : sProp 𝕄))
      = iprop((bigSep Finset.univ fun c : Dev nD => bigSep Finset.univ fun d : Fin 4 => dutyTok ER (barCell c) 0 d)
        ∗ bigSep Finset.univ fun c : Dev nD => bigSep Finset.univ fun k : Bool × Lk => dutyTok ER (kCell k c) 0 0) := by
    rw [← bigSep_sep']
    exact bigSep_congr fun c _ => bigSep_univ_sum _
  have hbar : (bigSep Finset.univ fun c : Dev nD => bigSep Finset.univ fun d : Fin 4 => (dutyTok ER (barCell c) 0 d : sProp 𝕄))
      = bigSep Finset.univ fun c : Dev nD => bigSep Finset.univ fun d : Fin 4 => dutyTok ER (barCell (nb d c)) 0 d := by
    rw [deal_swap, deal_swap Finset.univ Finset.univ fun (c : Dev nD) (d : Fin 4) => (dutyTok ER (barCell (nb d c)) 0 d : sProp 𝕄)]
    exact bigSep_congr fun d _ => bigSep_univ_equiv (nbE d) fun c => (dutyTok ER (barCell c) 0 d : sProp 𝕄)
  have hk : (bigSep Finset.univ fun c : Dev nD => bigSep Finset.univ fun k : Bool × Lk => (dutyTok ER (kCell k c) 0 0 : sProp 𝕄))
      ⊢ bigSep Finset.univ fun c : Dev nD => bigSep links fun l => iprop(dutyTok ER (sndCell l c) 0 0 ∗ dutyTok ER (rcvCell l c) 0 0) := by
    refine bigSep_mono fun c _ => ?_
    rw [by_kind (F := F) fun k => dutyTok ER (kCell k c) 0 0]
    show (iprop((bigSep links fun l => iprop(dutyTok ER (sndCell l c) 0 0 ∗ dutyTok ER (rcvCell l c) 0 0)) ∗ _) : sProp 𝕄) ⊢ _
    iintro ⟨H, -⟩; iexact H
  have hl : (bigSep Finset.univ fun c : Dev nD => bigSep links fun l => (iprop(dutyTok ER (sndCell l c) 0 0 ∗ dutyTok ER (rcvCell l c) 0 0) : sProp 𝕄))
      = bigSep Finset.univ fun c : Dev nD => bigSep links fun l => iprop(dutyTok ER (sndCell l c) 0 0 ∗ dutyTok ER (rcvCell l (dstD l c)) 0 0) := by
    rw [deal_swap, deal_swap Finset.univ links fun (c : Dev nD) (l : Lk) => (iprop(dutyTok ER (sndCell l c) 0 0 ∗ dutyTok ER (rcvCell l (dstD l c)) 0 0) : sProp 𝕄)]
    refine bigSep_congr fun l _ => ?_
    rw [bigSep_sep', bigSep_sep', bigSep_univ_equiv (along l) fun c => (dutyTok ER (rcvCell l c) 0 0 : sProp 𝕄)]
    rfl
  refine (show (bigSep Finset.univ fun c : Dev nD => bigSep Finset.univ fun i : Fin 4 ⊕ (Bool × Lk) =>
        (dutyTok ER (payAt (c, i)).1 (payAt (c, i)).2.1 (payAt (c, i)).2.2 : sProp 𝕄)) ⊢ _ from ?_)
  rw [hsum, hbar, ← hl]
  exact BI.sep_mono (BI.Entails.refl _) hk

/-! ## The credit -/

theorem owed_bar (d c : Dev nD) : owed d 0 (barCell c) () = 0 := by
  rcases Nat.eq_zero_or_pos (owed d 0 (barCell c) ()) with h | h
  · exact h
  · obtain ⟨l, -, hg⟩ := owed_pos h
    exact absurd (congrArg Prod.snd hg).symm (osem_ne_bar (true, l))

theorem owed_rcv (d c : Dev nD) (l : Lk) (hl : l ∈ links) : owed d 0 (rcvCell l c) () = if d = srcD l c then N else 0 := by
  unfold owed
  rw [Finset.sum_apply, Finsupp.finsetSum_apply, Finset.sum_eq_single l]
  · rw [tallyAt_apply]
    by_cases h : d = srcD l c
    · rw [if_pos h, if_pos ⟨by rw [h, dstD_srcD], rfl⟩]
    · rw [if_neg h, if_neg]
      rintro ⟨hg, -⟩
      apply h
      have : c = dstD l d := congrArg (fun g : GSem nD τ sig => g.1.1) hg
      rw [this, srcD_dstD]
  · intro l' _ hne
    rw [tallyAt_apply, if_neg]
    rintro ⟨hg, -⟩
    exact hne (congrArg Prod.snd (osem_inj (a₁ := (true, l)) (a₂ := (true, l')) (congrArg Prod.snd hg))).symm
  · intro h
    exact absurd (Finset.mem_filter.mpr ⟨hl, Nat.zero_le _⟩) h

theorem unit_bar (k : Fin 4) (d c : Dev nD) : (tallyAt (barCell (nb k d)) () 1 : CellTallies nD τ sig Unit) (barCell c) () = if d = (nbE k).symm c then 1 else 0 := by
  rw [tallyAt_apply]
  by_cases h : d = (nbE k).symm c
  · rw [if_pos h, if_pos ⟨by rw [show nb k d = nbE k d from rfl, h, Equiv.apply_symm_apply], rfl⟩]
  · rw [if_neg h, if_neg]
    rintro ⟨hg, -⟩
    apply h
    have : c = nbE k d := congrArg (fun g : GSem nD τ sig => g.1.1) hg
    rw [this, Equiv.symm_apply_apply]

theorem unit_rcv (k : Fin 4) (d c : Dev nD) (l : Lk) : (tallyAt (barCell (nb k d)) () 1 : CellTallies nD τ sig Unit) (rcvCell l c) () = 0 := by
  rw [tallyAt_apply, if_neg]
  rintro ⟨hg, -⟩
  exact osem_ne_bar (true, l) (congrArg Prod.snd hg)

theorem owedB_bar (d c : Dev nD) : owedB d (barCell c) ()
    = (if d = (nbE 3).symm c then 1 else 0) + (if d = (nbE 2).symm c then 1 else 0) + (if d = (nbE 1).symm c then 1 else 0) + (if d = (nbE 0).symm c then 1 else 0) := by
  unfold owedB
  simp only [Pi.add_apply, Finsupp.add_apply]
  rw [owed_bar, unit_bar, unit_bar, unit_bar, unit_bar, zero_add]

theorem owedB_rcv (d c : Dev nD) (l : Lk) (hl : l ∈ links) : owedB d (rcvCell l c) () = if d = srcD l c then N else 0 := by
  unfold owedB
  simp only [Pi.add_apply, Finsupp.add_apply]
  rw [unit_rcv, unit_rcv, unit_rcv, unit_rcv, owed_rcv d c l hl, add_zero, add_zero, add_zero, add_zero]

theorem launch_bar (c : Dev nD) :
    tallyOn (barCell c) (launchCredit (Pipeline.owing owedB) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owedB_bar d c]
  simp only [Finset.sum_add_distrib, Finset.sum_ite_eq', Finset.mem_univ, if_true]

theorem launch_rcv (c : Dev nD) (l : Lk) (hl : l ∈ links) :
    tallyOn (rcvCell l c) (launchCredit (Pipeline.owing owedB) 0 (rcvCell l c)) = (tallyAt (rcvCell l c) () N : CellTallies nD τ sig Unit) := by
  unfold tallyAt; refine congrArg _ (Finsupp.ext fun u => ?_); cases u
  rw [Pipeline.launchCredit_owing, Finsupp.single_eq_same, Finset.sum_congr rfl fun d _ => owedB_rcv d c l hl, Finset.sum_ite_eq' Finset.univ (srcD l c) fun _ => N,
    if_pos (Finset.mem_univ _)]

def rcvE : Lk ↪ SemLoc sig := ⟨fun l => osem (true, l), fun _ _ h => congrArg Prod.snd (osem_inj h)⟩

theorem creds_dealt (c : Dev nD) : (Pipeline.launchCred owedB c : sProp 𝕄) ⊢ crds (F := F) c := by
  unfold Pipeline.launchCred crds
  rw [bigSep_univ_at _ (SemLoc.reg barS), launch_bar]
  refine sep_mono_right ?_
  refine (bigSep_subset (t := links.map rcvE) ?_).trans ?_
  · intro sm hsm
    obtain ⟨l, -, rfl⟩ := Finset.mem_map.mp hsm
    exact Finset.mem_erase.mpr ⟨osem_ne_bar (true, l), Finset.mem_univ _⟩
  · rw [bigSep_map]
    refine bigSep_mono fun l hl => ?_
    exact Entails.of_eq (congrArg (fun u => (cred u : sProp 𝕄)) (launch_rcv c l hl))

end Cert.Proof.Ring
-- ==== Proof.Ring.Region.lean ====
/- The kernel as one region of the program. -/
module

public import proofs.«01_k».proof.Proof.Ring.Deal
public import Idealize.SL.ProofMode.BigOp
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The two operands of the kernel on device `c`, as the host program makes them. -/
def opX (c : Dev nD) : Vec F S4x256x1024 .f32 := V3 m c main_v18
def opY (c : Dev nD) : Vec F S1024x512 .f32 := V3 m c main_v16
/-- The result of the kernel on device `c`. -/
def res (c : Dev nD) : Vec F S256x4096 .f32 := outV (opX m) (opY m) c

/-- The buffers of device `c` after the kernel. -/
def VE (c : Dev nD) : Valuation τ sig (Elt F) := Function.update (V3 m c) main_v19 (res m c)

abbrev scratch (c : Dev nD) : sProp 𝕄 := iprop(anyBuf (F := F) c cc0_scratch0 ∗ anyBuf (F := F) c cc0_scratch1 ∗ anyBuf (F := F) c cc0_scratch2)
abbrev prng (c : Dev nD) : sProp 𝕄 := iprop(∃ r, prngReg c r)

def Tk (c : Dev nD) : sProp 𝕄 := iprop(∃ κ, brought (opX m) (opY m) κ c)
def Xk (c : Dev nD) : sProp 𝕄 := iprop(∃ κ, opened (opX m) (opY m) κ c)
def Yk (c : Dev nD) : sProp 𝕄 := semVal (barCell c) 0

/-- The region's data: the operands stay, the result ends as `res`. -/
def dat (c : Dev nD) : Dat τ (Elt F) Unit ℕ UU ℕ cfg0 c where
  A w := V3 m c (Pipeline.arrRef spec0 w)
  after w _ := match w with
    | ⟨0, _⟩ => opX m c
    | ⟨1, _⟩ => opY m c
    | ⟨2, _⟩ => res m c
  Φ t := if t.val = 0 then iprop(Xk m c ∗ scratch (F := F) c ∗ prng (F := F) c)
    else iprop(Yk (F := F) c ∗ Pipeline.ownSems0 osem c ∗ scratch (F := F) c ∗ prng (F := F) c)
  q _ := fullShare
  owed t := if t.val = 0 then owedB c else 0

def pdats : (p : Fin 1) → (c : Dev nD) → Dat τ (Elt F) Unit ℕ UU ℕ (Pipeline.pin (pcfgs (F := F)) adm p) c
  | 0 => dat m

theorem before_X (c : Dev nD) (d) : (dat m c).before 0 t0_0 d = opX m c := by
  unfold Dat.before; rw [if_pos (by decide)]
  refine (show (dat m c).fetched 0 t0_0 d = (fun j => opX m c (((cfg0.win 0).blk t0_0).view.emb j)) from rfl).trans
    (funext fun j => congrArg (opX m c) ?_)
  funext a
  apply Fin.ext
  blk_simp
  fin_cases a <;> simp <;> decide
theorem before_Y (c : Dev nD) (d) : (dat m c).before 1 t0_0 d = opY m c := by
  unfold Dat.before; rw [if_pos (by decide)]
  refine (show (dat m c).fetched 1 t0_0 d = (fun j => opY m c (((cfg0.win 1).blk t0_0).view.emb j)) from rfl).trans
    (funext fun j => congrArg (opY m c) ?_)
  funext a
  apply Fin.ext
  blk_simp
  fin_cases a <;> simp <;> decide

theorem arr_X (c : Dev nD) (n) : (dat m c).arrAt 0 n = V3 m c main_v18 := (dat m c).arrAt_in 0 rfl n
theorem arr_Y (c : Dev nD) (n) : (dat m c).arrAt 1 n = V3 m c main_v16 := (dat m c).arrAt_in 1 rfl n
theorem arr_res (c : Dev nD) : (dat m c).arrAt 2 cfg0.N = res m c := by
  refine (dat m c).arrAt_eq_of_after_last 2 t0_0 (by decide) _ fun j => ?_
  blk_simp
  rfl

theorem owed_first (c : Dev nD) : (dat m c).owed t0_0.castSucc = owedB c := by
  show (if (t0_0.castSucc : Fin (cfg0.N + 1)).val = 0 then owedB c else 0) = owedB c; exact if_pos rfl
theorem owed_last (c : Dev nD) : (dat m c).owed t0_0.succ = 0 := by
  show (if (t0_0.succ : Fin (cfg0.N + 1)).val = 0 then owedB c else 0) = 0; exact if_neg (by decide)

theorem owesAt_in (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
theorem owesAt_out (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- The body with its semaphores opened and closed around it. -/
theorem run_closed (c : Dev nD) {a0 : Memref sig .tc .vmem S4x256x1024 .f32} {ha0 : a0.IsWhole} {a1 : Memref sig .tc .vmem S1024x512 .f32} {ha1 : a1.IsWhole}
    {a2 : Memref sig .tc .vmem S256x4096 .f32} {ha2 : a2.IsWhole} {hc hg hp} {Q : PUnit → sProp 𝕄} (Z : Vec F S256x4096 .f32) :
    iprop(Xk m c ∗ scratch (F := F) c ∗ (∃ W, owes (c : Thread nD τ) (owedB c) W)
        ∗ hasX (opX m) a0 c ∗ hasY (opY m) a1 c ∗ owns (c : Thread nD τ) a2 fullShare Z
        ∗ ((semVal (barCell c) 0 ∗ Pipeline.ownSems0 osem c ∗ scratch (F := F) c ∗ (∃ W, owes (c : Thread nD τ) (0 : CellTallies nD τ sig Unit) W)
            ∗ hasX (opX m) a0 c ∗ hasY (opY m) a1 c ∗ owns (c : Thread nD τ) a2 fullShare (res m c)) -∗ Q ⟨⟩))
      ⊢ wp frame (wpE (defs₀ (F := F)) 𝒱₀ (c : Thread nD τ) none) Set.univ
        (cc0_body (F := F) a0 ha0 a1 ha1 a2 ha2 comm hc gath hg parts hp cc0_scratch3 cc0_scratch4 cc0_scratch5 cc0_scratch6 cc0_scratch7 cc0_scratch8) Q := by
  unfold Xk
  iintro ⟨⟨%κ, HX⟩, ⟨S0, S1, S2⟩, HO, H0, H1, H2, Hk⟩
  ihave HB := (scratch_cut (opX m) (opY m) c a0 a1) $$ [H0 H1 S0 S1 S2]
  · isplitl [H0]; · iexact H0
    isplitl [H1]; · iexact H1
    isplitl [S0]; · iexact S0
    isplitl [S1]; · iexact S1
    iexact S2
  icases HB with ⟨HB, HL⟩
  ihave HE := (enter (opX m) (opY m) κ c) $$ [HX HO HL]
  · isplitl [HX]; · iexact HX
    isplitl [HO]; · iexact HO
    iexact HL
  icases HE with ⟨#HR, HP, HI⟩
  iapply wp_fupd
  iapply (run_body (opX m) (opY m) κ c)
  isplitr; · iexact HR
  isplitl [HP]; · iexact HP
  isplitl [HB]; · iexact HB
  isplitl [H2]; · iapply (out_cut c a2 Z); iexact H2
  iintro ⟨HS, HA, HU, HG, HT⟩
  imod (leave (opX m) (opY m) κ c) $$ [HS HA HI] with ⟨HO, HV, HN⟩
  · isplitr; · iexact HR
    isplitl [HS]; · iexact HS
    isplitl [HA]; · iexact HA
    iexact HI
  ihave HJ := (scratch_join (opX m) (opY m) c a0 a1) $$ [HG HT]
  · isplitl [HG]; · iexact HG
    iexact HT
  icases HJ with ⟨H0, H1, S0, S1, S2⟩
  ihave H2 := (out_join (opX m) (opY m) c a2) $$ HU
  imodintro
  iapply Hk
  isplitl [HV]; · iexact HV
  isplitl [HN]; · iexact HN
  isplitl [S0 S1 S2]
  · isplitl [S0]; · iexact S0
    isplitl [S1]; · iexact S1
    iexact S2
  isplitl [HO]; · iexact HO
  isplitl [H0]; · iexact H0
  isplitl [H1]; · iexact H1
  iexact H2

theorem body_ok (c : Dev nD) : BodyObligation (dat m c) (defs₀ (F := F)) 𝒱₀ () Set.univ := fun t => by
  obtain rfl := fin_N0 t
  rw [bigSep_W0, bigSep_W0]
  rw [show (dat m c).Φ t0_0.castSucc = iprop(Xk m c ∗ scratch (F := F) c ∗ prng (F := F) c) from rfl,
    show (dat m c).Φ t0_0.succ = iprop(Yk (F := F) c ∗ Pipeline.ownSems0 osem c ∗ scratch (F := F) c ∗ prng (F := F) c) from rfl]
  iintro ⟨⟨HX, HS, HP⟩, HO, ⟨%d0, H0⟩, ⟨%d1, H1⟩, ⟨%d2, H2⟩⟩
  ihave HO := (owesAt_out m c _ (owedB c) (owed_first m c)) $$ HO
  ihave H0 := (Entails.of_eq (congrArg (fun v => (owns (c : Thread nD τ) ((cfg0.win 0).stage (cfg0.slots t0_0 0)) fullShare v : sProp 𝕄)) (before_X m c d0))) $$ H0
  ihave H1 := (Entails.of_eq (congrArg (fun v => (owns (c : Thread nD τ) ((cfg0.win 1).stage (cfg0.slots t0_0 1)) fullShare v : sProp 𝕄)) (before_Y m c d1))) $$ H1
  iapply (run_closed m c (a0 := win0_0.stage (cfg0.slots t0_0 0)) (ha0 := hstage0_0 0) (a1 := win0_1.stage (cfg0.slots t0_0 1)) (ha1 := hstage0_1 0)
    (a2 := win0_2.stage (cfg0.slots t0_0 2)) (ha2 := hstage0_2 0) ((dat m c).before 2 t0_0 d2))
  isplitl [HX]; · iexact HX
  isplitl [HS]; · iexact HS
  isplitl [HO]; · iexact HO
  isplitl [H0]; · iexact H0
  isplitl [H1]; · iexact H1
  isplitl [H2]; · iexact H2
  unfold Yk
  iintro ⟨HV, HN, HS, ⟨%W, HO⟩, H0, H1, H2⟩
  isplitl [HV HN HS HP]
  · isplitl [HV]; · iexact HV
    isplitl [HN]; · iexact HN
    isplitl [HS]; · iexact HS
    iexact HP
  isplitl [HO]; · iapply (owesAt_in m c t0_0.succ 0 (owed_last m c) W); iexact HO
  isplitl [H0]; · iexact H0
  isplitl [H1]; · iexact H1
  iexact H2

end Cert.Proof.Ring
-- ==== Proof.Ring.Run.lean ====
/- The run of the whole program: it ends, with the arguments kept, the result in place and every semaphore at zero. -/
module

public import proofs.«01_k».proof.Proof.Ring.Region
public import Idealize.ShloMosaic.Adequacy
public import Idealize.ShloMosaic.Init
public import Idealize.SL.ProofMode.BigOp
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

noncomputable section

namespace Cert.Proof.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

local notation "ℝ𝕊" => Pipeline.RegionSeg (pcfgs (F := F)) adm (pdats m) () defs₀ 𝒱₀ L lv

/-! ## The region -/

theorem VE_res (c : Dev nD) : VE m c main_v19 = res m c := Function.update_self ..
theorem VE_ne (c : Dev nD) (b : DevRef τ sig) (h : b ≠ Proc.devRef .tc main_v19) : VE m c b = V3 m c b := Function.update_of_ne h ..

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem open_ok (c : Dev nD) : iprop(Tk m c ∗ Pipeline.ownSems0 osem c ∗ levAts L lv) ⊢ (|={Set.univ}=> Xk m c : sProp 𝕄) := by
  unfold Tk Xk
  iintro ⟨⟨%κ, HB⟩, HN, -⟩
  imod (open_all (opX m) (opY m) κ c) $$ [HB HN] with HO
  · isplitl [HB]; · iexact HB
    iexact HN
  imodintro
  iexists κ; iexact HO

theorem in_ok (c : Dev nD) : iprop(Pipeline.scopedRest (Pipeline.pin (pcfgs (F := F)) adm 0).spec c ∗ (∃ r, prngReg c r) ∗ StableHlo.held (c.tc : Thread nD τ) ∅ (V3 m c) ∗ Xk m c)
    ⊢ (pdats m 0 c).Φ 0 := by
  rw [show (pdats m 0 c).Φ 0 = iprop(Xk m c ∗ scratch (F := F) c ∗ prng (F := F) c) from rfl,
    show (Pipeline.scopedRest (Pipeline.pin (pcfgs (F := F)) adm 0).spec c : sProp 𝕄) = scratch (F := F) c from scopedRest0_eq c]
  iintro ⟨HS, HP, -, HX⟩
  isplitl [HX]; · iexact HX
  isplitl [HS]; · iexact HS
  iexact HP

theorem out_ok (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (VE m c) ∗ Pipeline.ownSems0 osem c ∗ Yk (F := F) c) := by
  rw [show (pdats m 0 c).Φ (Fin.last _) = iprop(Yk (F := F) c ∗ Pipeline.ownSems0 osem c ∗ scratch (F := F) c ∗ prng (F := F) c) from rfl,
    show (Pipeline.scopedRest (Pipeline.pin (pcfgs (F := F)) adm 0).spec c : sProp 𝕄) = scratch (F := F) c from scopedRest0_eq c]
  unfold StableHlo.held
  rw [BI.bigSep_empty]
  iintro ⟨HY, HN, HS, HP⟩
  isplitl [HS]; · iexact HS
  isplitl [HP]; · iexact HP
  isplitr; · iempintro
  isplitl [HN]; · iexact HN
  iexact HY

theorem owedB_pos {c : Dev nD} {g : GSem nD τ sig} {u : Unit} (h : 0 < owedB c g u) : (∃ l c', g = rcvCell l c') ∨ ∃ c', g = barCell c' := by
  unfold owedB at h
  simp only [Pi.add_apply, Finsupp.add_apply] at h
  have unit (k : Fin 4) (hk : 0 < (tallyAt (barCell (nb k c)) () 1 : CellTallies nD τ sig Unit) g u) : ∃ c', g = barCell c' := by
    rw [tallyAt_apply] at hk
    split at hk
    · next hg => exact ⟨_, hg.1⟩
    · exact absurd hk (Nat.lt_irrefl 0)
  rcases Nat.add_pos_iff_pos_or_pos.mp h with h | h
  · rcases Nat.add_pos_iff_pos_or_pos.mp h with h | h
    · rcases Nat.add_pos_iff_pos_or_pos.mp h with h | h
      · rcases Nat.add_pos_iff_pos_or_pos.mp h with h | h
        · obtain ⟨l, -, hg⟩ := owed_pos h
          exact .inl ⟨l, _, hg⟩
        · exact .inr (unit 3 h)
      · exact .inr (unit 2 h)
    · exact .inr (unit 1 h)
  · exact .inr (unit 0 h)

theorem cut_ok (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owedB c else 0 := rfl
  rw [e] at h
  split at h
  · rcases owedB_pos h with ⟨l, c', rfl⟩ | ⟨c', rfl⟩
    · exact ⟨by rw [L_tc]; exact Finset.mem_singleton_self _, by rw [lv_rcv]; omega⟩
    · exact ⟨by rw [L_tc]; exact Finset.mem_singleton_self _, by rw [lv_bar]; omega⟩
  · exact absurd h (Nat.lt_irrefl 0)

abbrev arrs : Finset (DevRef τ sig) := Pipeline.arrRefs (τ := τ) (pcfgs (F := F) 0).spec
abbrev others : Finset (DevRef τ sig) := Pipeline.ucRefs τ sig \ arrs (F := F)

theorem arrs_eq : arrs (F := F) = {Proc.devRef .tc main_v18, Proc.devRef .tc main_v16, Proc.devRef .tc main_v19} := by
  show Pipeline.arrRefs (τ := τ) spec0 = _
  decide

set_option backward.isDefEq.respectTransparency.types false in
def reg : ℝ𝕊 0 :=
  Pipeline.RegionSeg.ofTalk (pcfgs (F := F)) adm (pdats m) () defs₀ 𝒱₀ L lv 0 osem (by decide +kernel : Pipeline.OwnSemFacts spec0 osem)
    ∅ (others (F := F)) (Finset.empty_subset _) kit rfl (fun c => (body_ok m c).loose)
    (fun _ => 0) owedB (fun c => (owed_first m c).trans (zero_add _).symm) (fun c => owed_last m c) (fun _ => rfl) (fun c w => (pdats m 0 c).share_full (fun _ => rfl) w)
    (fun c => V3 m c) (VE m) (fun c b hb => VE_ne m c b fun h => (Finset.mem_sdiff.mp (Finset.mem_sdiff.mp hb).1).2 (by rw [arrs_eq, h]; simp))
    (Tk m) (Yk (F := F)) (Xk m) (Yk (F := F)) (open_ok m) (in_ok m) (out_ok m)
    (fun c => by iintro H; imodintro; iexact H)
    (fun _ => 0)
    ⟨fun c w s => by rw [L_tc]; exact Finset.mem_singleton_self _, fun c w s => by fin_cases w <;> fin_cases s <;> exact Nat.le_of_eq (by rfl), fun c t g i h => cut_ok m c t g i h⟩
    (fun _ => iprop(emp))
    (fun c w => by fin_cases w <;> rfl)
    (fun c w => by
      fin_cases w
      · exact (arr_X m c _).trans (VE_ne m c _ (by decide)).symm
      · exact (arr_Y m c _).trans (VE_ne m c _ (by decide)).symm
      · exact (arr_res m c).trans (VE_res m c).symm)

/-- What rides beside the buffers up to the kernel, and after it. -/
def ride : Fin 2 → Dev nD → sProp 𝕄
  | 0, c => iprop(prng (F := F) c ∗ Tk m c ∗ ∃ W, owes (c : Thread nD τ) (owedB c) W)
  | 1, c => iprop(semVal (barCell c) 0 ∗ ∃ W, owes (c : Thread nD τ) (0 : CellTallies nD τ sig Unit) W)

theorem reg_pre (c : Dev nD) : iprop(StableHlo.held (c : Thread nD τ) (Pipeline.ucRefs τ sig) (V3 m c) ∗ ride m 0 c) ⊢ (reg m).pre c := by
  show _ ⊢ iprop(StableHlo.held (c.tc : Thread nD τ) (arrs (F := F)) (V3 m c) ∗ (∃ r, prngReg c r)
    ∗ (StableHlo.held (c.tc : Thread nD τ) (others (F := F)) (V3 m c) ∗ emp) ∗ Tk m c ∗ ∃ Wd, owes (c : Thread nD τ) (0 + owedB c) Wd)
  rw [StableHlo.held_sub_split (c : Thread nD τ) (show arrs (F := F) ⊆ Pipeline.ucRefs τ sig from by rw [arrs_eq]; decide) (V3 m c), zero_add]
  show iprop((_ ∗ _) ∗ prng (F := F) c ∗ Tk m c ∗ ∃ W, owes (c : Thread nD τ) (owedB c) W) ⊢ _
  iintro ⟨⟨HA, HR⟩, HP, HT, HO⟩
  isplitl [HA]; · iexact HA
  isplitl [HP]; · iexact HP
  isplitl [HR]
  · isplitl [HR]; · iexact HR
    iempintro
  isplitl [HT]; · iexact HT
  iexact HO

theorem reg_post (c : Dev nD) : (reg m).post c ⊢ iprop(StableHlo.held (c : Thread nD τ) (Pipeline.ucRefs τ sig) (VE m c) ∗ ride m 1 c) := by
  show iprop(StableHlo.held (c.tc : Thread nD τ) (arrs (F := F)) (VE m c) ∗ (∃ r, prngReg c r)
    ∗ (StableHlo.held (c.tc : Thread nD τ) (others (F := F)) (VE m c) ∗ emp) ∗ Yk (F := F) c ∗ ∃ Wd, owes (c : Thread nD τ) (0 : CellTallies nD τ sig Unit) Wd) ⊢ _
  rw [StableHlo.held_sub_split (c : Thread nD τ) (show arrs (F := F) ⊆ Pipeline.ucRefs τ sig from by rw [arrs_eq]; decide) (VE m c)]
  show _ ⊢ iprop((_ ∗ _) ∗ semVal (barCell c) 0 ∗ ∃ W, owes (c : Thread nD τ) (0 : CellTallies nD τ sig Unit) W)
  unfold Yk
  iintro ⟨HA, -, ⟨HR, -⟩, HY, HO⟩
  isplitl [HA HR]
  · isplitl [HA]; · iexact HA
    iexact HR
  isplitl [HY]; · iexact HY
  iexact HO

/-! ## The launch -/

theorem disjoint_cells : Disjoint barCells scCells := by
  rw [Finset.disjoint_left]
  intro g hb hs
  obtain ⟨c, -, rfl⟩ := Finset.mem_map.mp hb
  obtain ⟨⟨d, k⟩, -, h⟩ := Finset.mem_map.mp hs
  exact osem_ne_bar k (congrArg Prod.snd h)

theorem zip {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm

def u₀ : UU :=
  (initOf (Pipeline.cells cfgs cellOf_inj) (Pipeline.launchToks cfgs cellOf_inj), launchOf barCells scCells allToks)

/-- A resource of the whole machine, kept on one device until it is dealt. -/
def kept (R : sProp 𝕄) (c : Dev nD) : sProp 𝕄 := if c = 0 then R else iprop(emp)
theorem all_kept (R : sProp 𝕄) : bigSep Finset.univ (kept R) = R := by
  rw [bigSep_univ_at _ (0 : Dev nD), bigSep_congr (s := Finset.univ.erase 0) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

def G : Dev nD → sProp 𝕄 := kept (BI.own (ER (launchOf barCells scCells allToks)))

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem launch : iprop((bigSep Finset.univ fun c : Dev nD => iprop(unscopedSems0 c ∗ owes (c : Thread nD τ) (owedB c) ∅ ∗ Pipeline.launchCred owedB c ∗ prngReg c (ρ c) ∗ G (F := F) c)) ∗ levAts L lv)
    ⊢ (|={Set.univ}=> bigSep Finset.univ (ride m 0) : sProp 𝕄) := by
  have hv : bigSep Finset.univ (fun c : Dev nD => (unscopedSems0 c : sProp 𝕄)) ⊢ bigSep barCells (fun g => (semVal g 0 : sProp 𝕄)) :=
    (bigSep_mono fun c _ => Entails.of_eq (sems_eq c)).trans
      (Entails.of_eq (bigSep_map (s := Finset.univ) barEmb (Φ := fun g : GSem nD τ sig => (semVal g 0 : sProp 𝕄))).symm)
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Bool × Lk => openTok ER (kCell k c)) :=
    Entails.of_eq (by rw [bigSep_map, bigSep_univ_prod]; rfl)
  have hone (κ : GSem nD τ sig → ℕ) (c : Dev nD) : iprop(records (opX m) (opY m) κ ∗ (((atPos ER (barCell c) 0 ∅ 0 ∗ bigSep Finset.univ fun k : Bool × Lk => openTok ER (kCell k c)) ∗ dues (F := F) c)
        ∗ (owes (c : Thread nD τ) (owedB c) ∅ ∗ crds (F := F) c ∗ prngReg c (ρ c))))
      ⊢ ride m 0 c := by
    show _ ⊢ iprop(prng (F := F) c ∗ Tk m c ∗ ∃ W, owes (c : Thread nD τ) (owedB c) W)
    unfold Tk brought
    iintro ⟨#HR, ⟨⟨HA, HN⟩, HD⟩, HO, HC, HP⟩
    isplitl [HP]; · iexists (ρ c); iexact HP
    isplitr [HO]
    · iexists κ
      isplitr; · iexact HR
      isplitl [HA]; · iexact HA
      isplitl [HD]; · iexact HD
      isplitl [HC]; · iexact HC
      iexact HN
    iexists ∅; iexact HO
  have hsplit : (bigSep Finset.univ fun c : Dev nD => iprop(unscopedSems0 c ∗ owes (c : Thread nD τ) (owedB c) ∅ ∗ Pipeline.launchCred owedB c ∗ prngReg c (ρ c) ∗ G (F := F) c))
      ⊢ (iprop((bigSep Finset.univ fun c : Dev nD => unscopedSems0 c)
        ∗ (bigSep Finset.univ fun c : Dev nD => iprop(owes (c : Thread nD τ) (owedB c) ∅ ∗ crds (F := F) c ∗ prngReg c (ρ c)))
        ∗ bigSep Finset.univ (G (F := F))) : sProp 𝕄) := by
    rw [← bigSep_sep', ← bigSep_sep']
    refine bigSep_mono fun c _ => ?_
    show (iprop(_ ∗ _ ∗ _ ∗ _ ∗ _) : sProp 𝕄) ⊢ iprop(_ ∗ (_ ∗ _ ∗ _) ∗ _)
    iintro ⟨HS, HO, HC, HP, HG⟩
    ihave HC := (creds_dealt (F := F) c) $$ HC
    isplitl [HS]; · iexact HS
    isplitr [HG]
    · isplitl [HO]; · iexact HO
      isplitl [HC]; · iexact HC
      iexact HP
    iexact HG
  iintro ⟨H, #HL⟩
  ihave H := hsplit $$ H
  icases H with ⟨HS, HB, HG⟩
  ihave Hu := (show bigSep Finset.univ (G (F := F)) ⊢ BI.own (ER (launchOf barCells scCells allToks)) from
    Entails.of_eq (all_kept (F := F) (BI.own (ER (launchOf barCells scCells allToks))))) $$ HG
  imod (Rounds.fund_launch ER (sched (opX m) (opY m)) disjoint_cells (fun g _ h => h) allToks) $$ [HS Hu] with ⟨%κ, -, #HI, #Hr, HA, HN, HT⟩
  · isplitl [HS]
    · iapply hv $$ HS
    · iexact Hu
  imodintro
  iapply (bigSep_with_persistent (R := records (opX m) (opY m) κ) fun c _ => hone κ c)
  isplitr
  · unfold records
    isplitr; · iexact HI
    isplitr; · iexact Hr
    iexact HL
  iapply zip
  isplitr [HB]
  · iapply zip
    isplitr [HT]
    · iapply zip
      isplitl [HA]; · iapply hat $$ HA
      iapply hopen $$ HN
    iapply (toks_dealt (F := F)) $$ HT
  iexact HB

/-! ## The run -/

theorem bar_only : ∀ sm : SemLoc sig, sm.isScoped .tc = false → sm = .reg barS := by decide +kernel

theorem VE_arg0 (c : Dev nD) : VE m c main_arg0 = m ((c : Thread nD τ).loc main_arg0) :=
  (VE_ne m c _ (by decide)).trans <| (V3_of m c main_arg0 (by decide)).trans <| (V2_of m c main_arg0 (by decide)).trans <| (V1_of m c main_arg0 (by decide)).trans rfl
theorem VE_arg1 (c : Dev nD) : VE m c main_arg1 = m ((c : Thread nD τ).loc main_arg1) :=
  (VE_ne m c _ (by decide)).trans <| (V3_of m c main_arg1 (by decide)).trans <| (V2_of m c main_arg1 (by decide)).trans <| (V1_of m c main_arg1 (by decide)).trans rfl

theorem held_ref (r : Ref sig .tc) (h : ¬ (Proc.devRef (τ := τ) .tc r).isScoped) : (Proc.devRef .tc r : DevRef τ sig) ∈ Pipeline.ucRefs τ sig :=
  Finset.mem_filter.mpr ⟨StableHlo.devRef_mem_tcRefs r, h⟩

set_option backward.isDefEq.respectTransparency.types false in
/-- Every run ends; then each argument is as it was, the result holds `res`, and every semaphore is at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v19) = res m c) ∧ r.2.sem = fun _ => 0) := by
  refine Pipeline.θ_run_regions_kit_dev_sems (pcfgs (F := F)) adm (pdats m) () cellOf_inj EP defs₀ 𝒱₀ L lv m ρ main
    (segs m 𝒱₀ L lv (ride m) () (pdats m) (reg m))
    (fun c Q => by
      rewrite [main_chain c, Seg.run_eq_chain,
        show (segs m 𝒱₀ L lv (ride m) () (pdats m) (reg m) c).map Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Seg.pipes_host, Seg.pipes_region, Seg.pipes_nil]; decide) owedB L_of_ne (G (F := F)) u₀
    (by
      unfold u₀ G
      iintro Hu
      ihave H := (ownU_pair _ _) $$ Hu
      icases H with ⟨HP, HX⟩
      imodintro
      isplitl [HP]; · iexact HP
      rw [all_kept]; iexact HX)
    (T₀ := fun c => iprop(StableHlo.held (c : Thread nD τ) (Pipeline.ucRefs τ sig) (V0 m c) ∗ ride m 0 c))
    (Tₙ := fun c => iprop(StableHlo.held (c : Thread nD τ) (Pipeline.ucRefs τ sig) (VE m c) ∗ semVal (barCell c) 0))
    (hch := fun c => ⟨.rfl, .rfl, .rfl, reg_pre m c, (reg_post m c).trans (by
      show iprop(_ ∗ semVal (barCell c) 0 ∗ ∃ W, owes (c : Thread nD τ) (0 : CellTallies nD τ sig Unit) W) ⊢ _
      iintro ⟨HH, HB, HO⟩
      isplitr [HO]
      · isplitl [HH]; · iexact HH
        iexact HB
      iexact HO)⟩)
    (hinit := ?_) (QY := fun c s => (s.mem ((c.tc : Thread nD τ).loc main_arg0) = m ((c.tc : Thread nD τ).loc main_arg0)
      ∧ s.mem ((c.tc : Thread nD τ).loc main_arg1) = m ((c.tc : Thread nD τ).loc main_arg1) ∧ s.mem ((c.tc : Thread nD τ).loc main_v19) = res m c) ∧ s.sem (barCell c) = 0)
    (hfin := fun c s' => ?_) (hQ := fun s h hs => ⟨fun c => (h c).1, sem_eq_zero hs fun c sm hsm => by
      obtain rfl := bar_only sm hsm
      exact (h c).2⟩)
  · have hsplit : (bigSep Finset.univ fun c : Dev nD => iprop(unscopedBufs c (fun b => m ((c.tc : Thread nD τ).loc b)) ∗ unscopedSems0 c
          ∗ owes (c.tc : Thread nD τ) (owedB c) ∅ ∗ Pipeline.launchCred owedB c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owedB c) ∅ ∗ Pipeline.launchCred owedB c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, HL⟩
    ihave H := hsplit $$ H
    icases H with ⟨HH, HR⟩
    imod (launch m ρ) $$ [HR HL] with HE
    · isplitl [HR]; · iexact HR
      iexact HL
    imodintro
    rw [bigSep_sep']
    isplitl [HH]; · iexact HH
    iexact HE
  · unfold StableHlo.held
    iintro ⟨⟨HH, HB⟩, HSI⟩
    icombine HSI HB gives %hb
    ihave HR := (pointsTo_read_all (Pipeline.ucRefs τ sig) (fun b => ((c : Thread nD τ).1, b)) (VE m c) s') $$ [HH HSI]
    · isplitl [HH] <;> iassumption
    icases HR with ⟨%h, HSI⟩
    imodintro
    isplitr
    · ipureintro
      exact ⟨⟨(h (Proc.devRef .tc main_arg0) (held_ref _ (by decide))).trans (VE_arg0 m c),
        (h (Proc.devRef .tc main_arg1) (held_ref _ (by decide))).trans (VE_arg1 m c),
        (h (Proc.devRef .tc main_v19) (held_ref _ (by decide))).trans (VE_res m c)⟩, by simpa using hb⟩
    · iexact HSI

end Cert.Proof.Ring
-- ==== Proof.Ring.Same.lean ====
/- The kernel at its bits and the idealized kernel are the same text: their body tables are equal. -/
module

public import proofs.«01_k».proof.Proof.Gen.Kernel
public import proofs.«01_k».proof.Proof.Gen.KernelIdeal
public import Idealize.ShloMosaic.PureOps.BitExact

@[expose] public section

noncomputable section

namespace Cert.Proof.Ring

open Idealize.ShloMosaic

theorem body_same : Cert.Kernel.cc0_body (F := Bits) = Cert.KernelIdeal.cc0_body (F := Bits) := rfl

theorem bodies_same : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | 0, (t, s) =>
    show Cert.Kernel.cc0_body (F := Bits) _ _ _ _ _ _ _ _ _ _ _ _ _ _ _ _ _ _ = Cert.KernelIdeal.cc0_body (F := Bits) _ _ _ _ _ _ _ _ _ _ _ _ _ _ _ _ _ _
    rw [body_same]

theorem defs_same : Cert.Kernel.defs (F := Bits) = Cert.KernelIdeal.defs (F := Bits) :=
  congrArg (Pipeline.defs Cert.KernelIdeal.pcfgs) bodies_same

end Cert.Proof.Ring
-- ==== Proof.Ring.Host.lean ====
/- The operands the kernel is handed, in terms of the program's arguments: the transposed block of x cut in four, and a strip of dy. -/
module

public import proofs.«01_k».proof.Proof.Ring.Mesh
public import proofs.«01_k».proof.Proof.Gen.KernelIdeal.Regions
public import Idealize.ShloMosaic.Lib.StableHlo.Run
public import Idealize.ShloMosaic.Lib.DynamicIndex
public import Idealize.ShloMosaic.Lib.Pipeline.Value
public import Idealize.ShloMosaic.Lib.ValueIdx

@[expose] public section

noncomputable section

namespace Cert.Proof.Ring

open Idealize.ShloMosaic Idealize.ShloMosaic.TcCoe Idealize.ShloMosaic.StableHlo Idealize.ShloMosaic.ValueIdx
open Cert.KernelIdeal Cert.KernelIdeal.Gen

variable {F : FTy → Type} [FloatOps F]
variable (m : (ℓ : Loc nD τ sig) → Buf (Elt F) ℓ)

theorem V2_arg (c : Dev nD) (r : Ref sig .tc) (h0 : r ∉ hostOps0_W) (h1 : r ∉ hostOps0_1_W) : V2 m c r = m ((c : Thread nD τ).loc r) :=
  (V2_of m c r h1).trans <| (V1_of m c r h0).trans rfl

/-- The left operand: the device's block of x, transposed and cut in four along its rows. -/
theorem V3_v18 (c : Dev nD) : V3 m c main_v18 = shapeCast S4x256x1024 (transpose S1024x1024 [1, 0] (m ((c : Thread nD τ).loc main_arg0)) transposes_S1024x1024_S1024x1024_1_0) shapeCasts_S1024x1024_S4x256x1024 := by
  rw [← V2_arg m c main_arg0 (by decide) (by decide)]
  show after hostOps0_2 (V2 m c) main_v18 = _
  generalize V2 m c = V
  after_results
  rfl

/-- The column at which the device's strip of dy starts, as the program computes it. -/
def startW (c : Dev nD) : IVec S_ 32 :=
  let r : IVec S_ 32 := select (cmpi .eq (Host.remui (Host.divui (constantI S_ 32 c.word) (constantI S_ 32 16#32)) (constantI S_ 32 2#32)) (constantI S_ 32 0#32))
    (Host.remui (Host.divui (constantI S_ 32 c.word) (constantI S_ 32 4#32)) (constantI S_ 32 4#32))
    (subi (constantI S_ 32 7#32) (Host.remui (Host.divui (constantI S_ 32 c.word) (constantI S_ 32 4#32)) (constantI S_ 32 4#32)))
  let o : IVec S_ 32 := muli r (constantI S_ 32 512#32)
  select (cmpi .slt o (constantI S_ 32 0#32)) (addi o (constantI S_ 32 4096#32)) o

theorem startW_val : ∀ c : Dev nD, (startW c (Shape.Idx.first h_S_)).toInt = ((512 * (rIx c).val : ℕ) : ℤ) := by decide +kernel

theorem strip_fits (r : Fin 8) : S1024x4096.Slices ![0, 512 * r.val] S1024x512 := by revert r; decide

/-- The right operand: the columns of the device's strip of dy. -/
theorem V3_v16 (c : Dev nD) : V3 m c main_v16 = extractStridedSlice S1024x512 ![0, 512 * (rIx c).val] (m ((c : Thread nD τ).loc main_arg1)) (strip_fits (rIx c)) := by
  rw [← V2_arg m c main_arg1 (by decide) (by decide)]
  show after hostOps0_2 (V2 m c) main_v16 = _
  simp only [after_cons, after_nil]
  rw [reshape_result_ne, unary_result_ne, unaryIndexed_result]
  rotate_left
  · decide
  · decide
  refine (Host.dynamicSlice_eq_extractStridedSlice _ _ _ ![0, 512 * (rIx c).val] _ (strip_fits (rIx c)) fun a => ?_).trans ?_
  · fin_cases a
    · refine congrArg (fun w : IVec S_ 32 => (w (Shape.Idx.first h_S_)).toInt) (a₂ := constantI S_ 32 0#32) ?_
      show after (hostOps0_2.take 8) (V2 m c) main_c_8 = _
      generalize V2 m c = V
      simp only [List.take]
      after_results
    · refine (congrArg (fun w : IVec S_ 32 => (w (Shape.Idx.first h_S_)).toInt) ?_).trans (startW_val c)
      show after (hostOps0_2.take 8) (V2 m c) main_v15 = _
      simp only [List.take]
      after_results
      rfl
  · rfl

end Cert.Proof.Ring
-- ==== Proof.Ring.Value.lean ====
/- The value of the kernel at the ideal numbers: at each index a device's result is the whole contraction,
   so it is that device's block of rows of the reference's product. -/
module

public import proofs.«01_k».proof.Proof.Ring.Region
public import proofs.«01_k».proof.Proof.Ring.Host
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.ValueLayout
public import Idealize.ShloMosaic.Lib.Pointwise.Reshape
public import Mathlib.Algebra.BigOperators.Fin
public import Mathlib.Tactic.Abel

@[expose] public section

noncomputable section

namespace Cert.Proof.Ring

open Idealize.ShloMosaic hiding ix2 ix3 eq_ix2 addf_apply
open Idealize.ShloMosaic.TcCoe Idealize.ShloMosaic.ValueIdx
open Cert.KernelIdeal Cert.KernelIdeal.Gen
open scoped BigOperators

/-! ## The ring: where the four partial sums come from -/

theorem zIx_zl (c : Dev nD) : zIx (zl c) = zIx c - 1 := by revert c; decide +kernel
theorem zl_two (c : Dev nD) : zl (zl c) = atZ c (zIx c - 2) := by revert c; decide +kernel
theorem zl_three (c : Dev nD) : zl (zl (zl c)) = atZ c (zIx c - 3) := by revert c; decide +kernel
theorem atZ_self (c : Dev nD) : atZ c (zIx c - 0) = c := by revert c; decide +kernel
theorem zIx_atZ (c : Dev nD) (z : Fin 4) : zIx (atZ c z) = z := by revert c z; decide +kernel
theorem rIx_atZ (c : Dev nD) (z : Fin 4) : rIx (atZ c z) = rIx c := by revert c z; decide +kernel
theorem zIx_atR (c : Dev nD) (o : Fin 8) : zIx (atR c o) = zIx c := by revert c o; decide +kernel
theorem rIx_atR (c : Dev nD) (o : Fin 8) : rIx (atR c o) = o := by revert c o; decide +kernel

/-- Going round the ring from any place sums over the ring. -/
theorem sum_ring {M : Type} [AddCommMonoid M] (z : Fin 4) (f : Fin 4 → M) : f (z - 3) + f (z - 2) + f (z - 1) + f (z - 0) = ∑ w, f w := by
  rw [← Equiv.sum_comp (Equiv.subLeft z) f, Fin.sum_univ_four]
  simp only [Equiv.subLeft_apply]
  abel

/-! ## The operands of one product -/

theorem xRd_at {x : Vec Ideal S4x256x1024 .f32} {o : Fin 3 → ℕ} (h) (w : Fin 4) (ho : o = ![w.val, 0, 0]) (i : Fin 256) (q : Fin 1024) :
    xRd o h x (ix3 (0 : Fin 1) i q) = x (ix3 w i q) := by
  subst ho
  refine congrArg x (funext fun a => Fin.ext ?_)
  match a with
  | ⟨0, _⟩ => show w.val + 1 * 0 = w.val; omega
  | ⟨1, _⟩ => show 0 + 1 * i.val = i.val; omega
  | ⟨2, _⟩ => show 0 + 1 * q.val = q.val; omega

/-- A column of a strip, in the device's part of dy. -/
def inPart (k : Fin 4) (q : Fin 128) : Fin 512 := ⟨128 * k.val + q.val, by omega⟩

theorem yOff_eq (k : Fin 4) : yOff k = ![0, 128 * k.val] := by
  revert k; decide

theorem yRd_at {y : Vec Ideal S1024x512 .f32} (k : Fin 4) (u : Fin 1024) (q : Fin 128) :
    yRd (yOff k) (yOff_inb k) y (ix2 u q) = y (ix2 u (inPart k q)) := by
  refine congrArg y (funext fun a => Fin.ext ?_)
  match a with
  | ⟨0, _⟩ =>
    show yOff k 0 + 1 * u.val = u.val
    rw [yOff_eq]; show 0 + 1 * u.val = u.val; omega
  | ⟨1, _⟩ =>
    show yOff k 1 + 1 * q.val = 128 * k.val + q.val
    rw [yOff_eq]; show 128 * k.val + 1 * q.val = _; omega

theorem mm_at (a : FVec Ideal S1x256x1024 .f32) (b : FVec Ideal S1024x128 .f32) (i : Fin 256) (q : Fin 128) :
    mm a b (ix2 i q) = ∑ u : Fin 1024, a (ix3 (0 : Fin 1) i u) * b (ix2 u q) := by
  have hd : dot_S256x1024_S1024x128_S256x128_1_0_0_1_n_n = DotDims.plain 256 1024 128 := rfl
  unfold mm
  rw [hd]
  refine (Ideal.matmul_plain_apply none _ _ _ i q).trans ?_
  have h0 : (constant S256x128 .f32 0x00000000#32 : FVec Ideal S256x128 .f32) (ix2 i q) = 0 := Ideal.ofBits_zero_f32
  rw [h0, zero_add]
  refine Finset.sum_congr rfl fun u _ => ?_
  rw [shapeCast_self]
  exact congrArg (· * _) (shapeCast_1ab_ab_apply _ _ i u)

variable (X : Dev nD → Vec Ideal S4x256x1024 .f32) (Y : Dev nD → Vec Ideal S1024x512 .f32)

/-- The product a device forms for row block `w` and strip `k`, at one index. -/
def part (d : Dev nD) (w : Fin 4) (k : Fin 4) (i : Fin 256) (q : Fin 128) : Ideal .f32 :=
  ∑ u : Fin 1024, X d (ix3 w i u) * Y d (ix2 u (inPart k q))

theorem ctr0_at (c : Dev nD) (k : Fin 4) (i : Fin 256) (q : Fin 128) : ctr0 X Y c k (ix2 i q) = part X Y c (zIx c - 1) k i q := by
  refine (mm_at _ _ i q).trans (Finset.sum_congr rfl fun u _ => ?_)
  rw [xRd_at _ (zIx c - 1) (off_first c), yRd_at]

theorem ctr_at (c : Dev nD) (s : Fin 3) (k : Fin 4) (i : Fin 256) (q : Fin 128) :
    ctr X Y c s k (ix2 i q) = part X Y c (zIx c + 2 - ⟨s.val, by omega⟩) k i q := by
  refine (mm_at _ _ i q).trans (Finset.sum_congr rfl fun u _ => ?_)
  rw [xRd_at _ _ (off_step c s), yRd_at]

theorem dn_up (v : FVec Ideal S256x128 .f32) : dn (up v) = v := shapeCast_shapeCast _ _ _
theorem dn3_up3 (v : FVec Ideal S256x128 .f32) : dn3 (up3 v) = v := shapeCast_shapeCast _ _ _
theorem dn_up34 (v : FVec Ideal S256x128 .f32) : dn (up34 (up3 v)) = v := by
  unfold dn up34 up3
  rw [shapeCast_comp, shapeCast_comp]
  exact shapeCast_self _ _

/-- A summed strip, at one index: the sum over the ring of the products for the device's own row block. -/
theorem tot_at (k : Fin 4) (c : Dev nD) (i : Fin 256) (q : Fin 128) :
    dn (tot X Y k c) (ix2 i q) = ∑ z : Fin 4, part X Y (atZ c z) (zIx c) k i q := by
  have b0 : zIx (zl (zl (zl c))) - 1 = zIx c := by revert c; decide +kernel
  have b1 : zIx (zl (zl c)) + 2 - 0 = zIx c := by revert c; decide +kernel
  have b2 : zIx (zl c) + 2 - 1 = zIx c := by revert c; decide +kernel
  have b3 : zIx c + 2 - 2 = zIx c := by revert c; decide +kernel
  have h : dn (tot X Y k c) = addf (addf (addf (ctr0 X Y (zl (zl (zl c))) k) (ctr X Y (zl (zl c)) 0 k)) (ctr X Y (zl c) 1 k)) (ctr X Y c 2 k) := by
    unfold tot
    rw [dn_up34, dn3_up3]
    unfold acc
    rw [dn_up, dn3_up3]
    unfold acc
    rw [dn_up, dn3_up3]
    unfold acc
    rw [dn_up]
    rfl
  rw [h, addf_apply, addf_apply, addf_apply, ctr0_at, ctr_at, ctr_at, ctr_at, ← sum_ring (zIx c), atZ_self, ← zl_two, ← zl_three]
  show part X Y (zl (zl (zl c))) (zIx (zl (zl (zl c))) - 1) k i q + part X Y (zl (zl c)) (zIx (zl (zl c)) + 2 - 0) k i q
    + part X Y (zl c) (zIx (zl c) + 2 - 1) k i q + part X Y c (zIx c + 2 - 2) k i q = _
  rw [b0, b1, b2, b3]
  rfl

/-- A device's result at one index: the strip the column falls in, as the device at that place of the other ring summed it. -/
theorem out_at (c : Dev nD) (i : Fin 256) (n : Fin 4096) :
    outV X Y c (ix2 i n) = dn (tot X Y (stripOf n.val) (atR c (placeOf n.val))) (ix2 i ⟨n.val % 128, Nat.mod_lt _ (by decide)⟩) := by
  have hi : (ix2 i n : S256x4096.Idx) = (rO (stripOf n.val, placeOf n.val)).emb (ix2 i (⟨n.val % 128, Nat.mod_lt _ (by decide)⟩ : Fin 128)) := by
    refine funext fun a => Fin.ext ?_
    match a with
    | ⟨0, _⟩ => show i.val = 0 + 1 * i.val; omega
    | ⟨1, _⟩ => show n.val = 512 * (n.val / 512 % 8) + 128 * (n.val / 128 % 4) + 1 * (n.val % 128); omega
  rw [hi]
  exact Rect.glue_emb rO rO_cover rO_disjoint _ (stripOf n.val, placeOf n.val) _

/-! ## The program's arguments, and the reference -/

/-- A sum over the whole contraction, split in the four parts the ring's devices hold. -/
theorem sum_parts {M : Type} [AddCommMonoid M] (f : Fin 4096 → M) :
    ∑ t, f t = ∑ z : Fin 4, ∑ u : Fin 1024, f ⟨1024 * z.val + u.val, by omega⟩ := by
  rw [← Fintype.sum_prod_type' (fun (z : Fin 4) (u : Fin 1024) => f ⟨1024 * z.val + u.val, by omega⟩)]
  refine (Equiv.sum_comp (finProdFinEquiv (m := 4) (n := 1024)) f).symm.trans (Finset.sum_congr rfl fun p _ => congrArg f (Fin.ext ?_))
  show p.2.val + 1024 * p.1.val = 1024 * p.1.val + p.2.val
  omega

theorem part_of (c : Dev nD) : Layout.meshLin [2, 4, 4] c.val [2] = (zIx c).val := by revert c; decide +kernel

/-- An index of a device's rows, in the whole array. -/
def rowOf (b : ℕ) (c : Dev nD) (i : Fin b) : Fin (4 * b) := ⟨(zIx c).val * b + i.val, by
  have := (zIx c).isLt
  have h1 : ((zIx c).val + 1) * b ≤ 4 * b := Nat.mul_le_mul_right _ this
  have h2 : ((zIx c).val + 1) * b = (zIx c).val * b + b := Nat.succ_mul _ _
  have := i.isLt
  omega⟩

/-- A device's block of rows, at one index. -/
theorem block_at {α : Type} {b n : ℕ} (v : (⟨2, ![4 * b, n]⟩ : Shape).Idx → α) (h) (c : Dev nD) (i : Fin b) (j : Fin n) :
    Layout.blockN ⟨2, ![b, n]⟩ ⟨2, ![4 * b, n]⟩ (Layout.meshBlock [2, 4, 4] ![[2], []] c) v h (ix2 i j) = v (ix2 (rowOf b c i) j) := by
  refine congrArg v (funext fun a => Fin.ext ?_)
  match a with
  | ⟨0, _⟩ =>
    show Layout.meshLin [2, 4, 4] c.val [2] * b + i.val = (zIx c).val * b + i.val
    rw [part_of]
  | ⟨1, _⟩ => show 0 * n + j.val = j.val; omega

variable (m : (ℓ : Loc nD τ sig) → Buf (Elt Ideal) ℓ)

theorem opX_at (c : Dev nD) (w : Fin 4) (i : Fin 256) (u : Fin 1024) :
    opX m c (ix3 w i u) = m ((c : Thread nD τ).loc main_arg0) (ix2 u (⟨256 * w.val + i.val, by omega⟩ : Fin 1024)) := by
  unfold opX
  rw [V3_v18]
  refine (shapeCast_apply _ _ _ (ix2 (⟨256 * w.val + i.val, by omega⟩ : Fin 1024) u) ?_).trans ?_
  · rw [Shape.rowMajor_val_two, Shape.rowMajor_val_three]
    show (256 * w.val + i.val) * 1024 + u.val = (w.val * 256 + i.val) * 1024 + u.val
    omega
  · exact transpose_apply _ _ _ _ _ fun b => match b with
      | ⟨0, _⟩ => rfl
      | ⟨1, _⟩ => rfl

theorem opY_at (c : Dev nD) (u : Fin 1024) (n : Fin 512) :
    opY m c (ix2 u n) = m ((c : Thread nD τ).loc main_arg1) (ix2 u (⟨512 * (rIx c).val + n.val, by omega⟩ : Fin 4096)) := by
  unfold opY
  rw [V3_v16]
  refine extractStridedSlice_apply _ _ _ _ _ fun a => ?_
  match a with
  | ⟨0, _⟩ => show u.val = 0 + u.val; omega
  | ⟨1, _⟩ => rfl

/-- The reference's product. -/
abbrev refV (A : FVec Ideal Cert.ReferenceIdeal.S4096x1024 .f32) (B : FVec Ideal Cert.ReferenceIdeal.S4096x4096 .f32) : FVec Ideal Cert.ReferenceIdeal.S1024x4096 .f32 :=
  Host.dotGeneral Cert.ReferenceIdeal.dot_S1024x4096_S4096x4096_S1024x4096_1_0_0_1_n_n none
    (transpose Cert.ReferenceIdeal.S1024x4096 [1, 0] A Cert.ReferenceIdeal.Gen.transposes_S4096x1024_S1024x4096_1_0) B

theorem refV_at (A : FVec Ideal Cert.ReferenceIdeal.S4096x1024 .f32) (B : FVec Ideal Cert.ReferenceIdeal.S4096x4096 .f32) (r : Fin 1024) (n : Fin 4096) :
    refV A B (ix2 r n) = ∑ t : Fin 4096, A (ix2 t r) * B (ix2 t n) := by
  have hd : Cert.ReferenceIdeal.dot_S1024x4096_S4096x4096_S1024x4096_1_0_0_1_n_n = DotDims.plain 1024 4096 4096 := rfl
  unfold refV
  rw [hd]
  refine (StackMember.dotGeneral_plain_apply none _ B r n).trans (Finset.sum_congr rfl fun t _ => congrArg (· * _) ?_)
  exact transpose_apply _ _ _ _ _ fun b => match b with
    | ⟨0, _⟩ => rfl
    | ⟨1, _⟩ => rfl

/-- Where every device's arguments are its blocks of two arrays, its result is its block of the reference's product of them. -/
theorem res_eq (A : FVec Ideal Cert.ReferenceIdeal.S4096x1024 .f32) (B : FVec Ideal Cert.ReferenceIdeal.S4096x4096 .f32)
    (hA : ∀ c : Dev nD, m ((c : Thread nD τ).loc main_arg0) = Layout.blockN ⟨2, ![1024, 1024]⟩ ⟨2, ![4096, 1024]⟩ (Layout.meshBlock [2, 4, 4] ![[2], []] c) A)
    (hB : ∀ c : Dev nD, m ((c : Thread nD τ).loc main_arg1) = Layout.blockN ⟨2, ![1024, 4096]⟩ ⟨2, ![4096, 4096]⟩ (Layout.meshBlock [2, 4, 4] ![[2], []] c) B)
    (c : Dev nD) : res m c = Layout.blockN ⟨2, ![256, 4096]⟩ ⟨2, ![1024, 4096]⟩ (Layout.meshBlock [2, 4, 4] ![[2], []] c) (refV A B) := by
  funext j
  obtain ⟨i, n, rfl⟩ : ∃ (i : Fin 256) (n : Fin 4096), j = ix2 i n := ⟨j 0, j 1, eq_ix2 j⟩
  refine (out_at (opX m) (opY m) c i n).trans ?_
  rw [tot_at]
  refine Eq.trans ?_ (block_at (b := 256) (n := 4096) (refV A B) _ c i n).symm
  refine Eq.trans ?_ (refV_at A B (rowOf 256 c i) n).symm
  rw [sum_parts]
  refine Finset.sum_congr rfl fun z _ => Finset.sum_congr rfl fun u _ => ?_
  rw [opX_at, opY_at, hA, hB]
  refine congrArg₂ (· * ·) ((block_at (b := 1024) (n := 1024) A _ _ u _).trans (congrArg A ?_)) ((block_at (b := 1024) (n := 4096) B _ _ u _).trans (congrArg B ?_))
  · refine funext fun a => Fin.ext ?_
    match a with
    | ⟨0, _⟩ =>
      show (zIx (atZ (atR c (placeOf n.val)) z)).val * 1024 + u.val = 1024 * z.val + u.val
      rw [zIx_atZ]; omega
    | ⟨1, _⟩ =>
      show 256 * (zIx (atR c (placeOf n.val))).val + i.val = (zIx c).val * 256 + i.val
      rw [zIx_atR]; omega
  · refine funext fun a => Fin.ext ?_
    match a with
    | ⟨0, _⟩ =>
      show (zIx (atZ (atR c (placeOf n.val)) z)).val * 1024 + u.val = 1024 * z.val + u.val
      rw [zIx_atZ]; omega
    | ⟨1, _⟩ =>
      show 512 * (rIx (atZ (atR c (placeOf n.val)) z)).val + (128 * (n.val / 128 % 4) + n.val % 128) = n.val
      rw [rIx_atZ, rIx_atR]
      show 512 * (n.val / 512 % 8) + (128 * (n.val / 128 % 4) + n.val % 128) = n.val
      omega

end Cert.Proof.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ring.Run
public import proofs.«01_k».proof.Proof.Ring.Same
public import proofs.«01_k».proof.Proof.Ring.Value
public import Idealize.ShloMosaic.Adequacy
public import Idealize.ShloMosaic.Init

@[expose] public section

noncomputable section

namespace Cert.Proof

open Idealize.ShloMosaic Idealize.SL.Sem Cert.Kernel

/-- A run of the kernel, at any float values: the arguments are kept and every semaphore ends at zero. -/
theorem frame_run {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Ring.run_main m ρ)

/-- The kernel's frame, at its bits: the two programs have the same text, so a run of the idealized one is a run of this one. -/
theorem frame_kernel : Cert.quiescent_Kernel := by
  intro m ρ _
  rw [Ring.defs_same]
  exact frame_run (F := Bits) m ρ

/-- The idealized kernel's frame. -/
theorem frame_ideal : Cert.quiescent_KernelIdeal := fun m ρ _ => frame_run (F := Ideal) m ρ

/-- The reference's frame: its run read at its arguments; the program declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The kernel computes the reference's product, each device its own block of rows. -/
theorem algebraic : Cert.algebraic_KernelIdeal_ReferenceIdeal := by
  intro m g m' g' _ hag
  refine ⟨Ring.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun r h c => ⟨(h.1 c).2.2.trans (Ring.res_eq m _ _ (fun c => (hag c).1) (fun c => (hag c).2) c), (h.1 c).1, (h.1 c).2.1⟩)
      (Ring.run_main m g)
  · exact (θ_run Cert.ReferenceIdeal.defs _ _).mono (fun r h => h 0) (Cert.ReferenceIdeal.Value.run m' g')

theorem claim : Cert.Claim := ⟨Cert.Kernel.Gen.facts, Cert.KernelIdeal.Gen.facts, Cert.ReferenceIdeal.Gen.facts,
  frame_kernel, frame_ideal, frame_reference, trivial, algebraic⟩

end Cert.Proof

end
